-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.sign_bit.Statement Cert.KernelIdeal.S1x2048 .f32
  ∧ IdealRules.sign_bit.Statement Cert.KernelIdeal.S256x2048 .f32

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v89)) (v3 : (c : Dev Cert.KernelIdeal.nD) → Buf (Elt Ideal) ((c.tc : Thread Cert.KernelIdeal.nD Cert.KernelIdeal.τ).loc Cert.KernelIdeal.main_v108)) (v4 : (c : Dev Cert.KernelIdeal.nD) → Buf (Elt Ideal) ((c.tc : Thread Cert.KernelIdeal.nD Cert.KernelIdeal.τ).loc Cert.KernelIdeal.main_v149)) (v5 : (c : Dev Cert.KernelIdeal.nD) → Buf (Elt Ideal) ((c.tc : Thread Cert.KernelIdeal.nD Cert.KernelIdeal.τ).loc Cert.KernelIdeal.main_v148_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_v108) = v3 c
          ∧ r.2.mem ((c.tc : Thread Cert.KernelIdeal.nD Cert.KernelIdeal.τ).loc Cert.KernelIdeal.main_v149) = v4 c
          ∧ r.2.mem ((c.tc : Thread Cert.KernelIdeal.nD Cert.KernelIdeal.τ).loc Cert.KernelIdeal.main_v148_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v213) = v3 c
          ∧ r.2.mem ((c.tc : Thread Cert.ReferenceIdeal.nD Cert.ReferenceIdeal.τ).loc Cert.ReferenceIdeal.main_v273) = v4 c
          ∧ r.2.mem ((c.tc : Thread Cert.ReferenceIdeal.nD Cert.ReferenceIdeal.τ).loc Cert.ReferenceIdeal.main_v272) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S2x2048 : Shape := ⟨2, ![2, 2048]⟩
abbrev S2x2048x768 : Shape := ⟨3, ![2, 2048, 768]⟩
abbrev S2048 : Shape := ⟨1, ![2048]⟩
abbrev S2048x768 : Shape := ⟨2, ![2048, 768]⟩
abbrev S768x64 : Shape := ⟨2, ![768, 64]⟩
abbrev S768 : Shape := ⟨1, ![768]⟩
abbrev S1x2048 : Shape := ⟨2, ![1, 2048]⟩
abbrev S1x2048x768 : Shape := ⟨3, ![1, 2048, 768]⟩
abbrev S_ : Shape := ⟨0, ![]⟩
abbrev S2x2048x1 : Shape := ⟨3, ![2, 2048, 1]⟩
abbrev S1x1x768 : Shape := ⟨3, ![1, 1, 768]⟩
abbrev S2x2048x64 : Shape := ⟨3, ![2, 2048, 64]⟩
abbrev S2x2048x2048 : Shape := ⟨3, ![2, 2048, 2048]⟩
abbrev S2x2048x16 : Shape := ⟨3, ![2, 2048, 16]⟩
abbrev S2x2048x16x1 : Shape := ⟨4, ![2, 2048, 16, 1]⟩
abbrev S1 : Shape := ⟨1, ![1]⟩
abbrev S1x1x1x1 : Shape := ⟨4, ![1, 1, 1, 1]⟩
abbrev S2x1x2048 : Shape := ⟨3, ![2, 1, 2048]⟩
abbrev S2x2048x16x768 : Shape := ⟨4, ![2, 2048, 16, 768]⟩
abbrev S2 : Shape := ⟨1, ![2]⟩
abbrev S2x1 : Shape := ⟨2, ![2, 1]⟩
abbrev S2x2048x17 : Shape := ⟨3, ![2, 2048, 17]⟩

class Facts : Prop where
  bcast_S2048_S1x2048_1 : S2048.BroadcastsInDim S1x2048 (![1] : Fin 1 → Fin S1x2048.rank)
  bcast_S1x2048_S2x2048_0_1 : S1x2048.BroadcastsInDim S2x2048 (![0, 1] : Fin 2 → Fin S2x2048.rank)
  bcast_S2048x768_S1x2048x768_1_2 : S2048x768.BroadcastsInDim S1x2048x768 (![1, 2] : Fin 2 → Fin S1x2048x768.rank)
  bcast_S1x2048x768_S2x2048x768_0_1_2 : S1x2048x768.BroadcastsInDim S2x2048x768 (![0, 1, 2] : Fin 3 → Fin S2x2048x768.rank)
  reducesTo_S2x2048x768_S2x2048_d2 : S2x2048x768.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x768_0_1_2 : S2x2048x1.BroadcastsInDim S2x2048x768 (![0, 1, 2] : Fin 3 → Fin S2x2048x768.rank)
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  bcast_S_S2x2048x2048 : S_.BroadcastsInDim S2x2048x2048 (![] : Fin 0 → Fin S2x2048x2048.rank)
  sliceFits_S2x2048x2048_S2x2048x16 : S2x2048x2048.Slices (fun _ => 0) S2x2048x16
  bcast_S_S2x2048x16 : S_.BroadcastsInDim S2x2048x16 (![] : Fin 0 → Fin S2x2048x16.rank)
  shapeCasts_S2x2048x16_S2x2048x16x1 : S2x2048x16.ShapeCasts S2x2048x16x1
  bcast_S_S2x2048x16x1 : S_.BroadcastsInDim S2x2048x16x1 (![] : Fin 0 → Fin S2x2048x16x1.rank)
  bcast_S1_S1x1x1x1_3 : S1.BroadcastsInDim S1x1x1x1 (![3] : Fin 1 → Fin S1x1x1x1.rank)
  bcast_S1x1x1x1_S2x2048x16x1_0_1_2_3 : S1x1x1x1.BroadcastsInDim S2x2048x16x1 (![0, 1, 2, 3] : Fin 4 → Fin S2x2048x16x1.rank)
  reducesTo_S2x2048x16x1_S2x2048x16_d3 : S2x2048x16x1.ReducesTo [3] S2x2048x16
  reducesTo_S2x2048x16_S2x2048_d2 : S2x2048x16.ReducesTo [2] S2x2048
  bcast_S_S2x2048 : S_.BroadcastsInDim S2x2048 (![] : Fin 0 → Fin S2x2048.rank)
  bcast_S2x2048x1_S2x2048x16_0_1_2 : S2x2048x1.BroadcastsInDim S2x2048x16 (![0, 1, 2] : Fin 3 → Fin S2x2048x16.rank)
  bcast_S2x2048_S2x1x2048_0_2 : S2x2048.BroadcastsInDim S2x1x2048 (![0, 2] : Fin 2 → Fin S2x1x2048.rank)
  bcast_S2x1x2048_S2x2048x2048_0_1_2 : S2x1x2048.BroadcastsInDim S2x2048x2048 (![0, 1, 2] : Fin 3 → Fin S2x2048x2048.rank)
  bcast_S2x2048x16_S2x2048x16x1_0_1_2 : S2x2048x16.BroadcastsInDim S2x2048x16x1 (![0, 1, 2] : Fin 3 → Fin S2x2048x16x1.rank)
  reducesTo_S2x2048_S2_d1 : S2x2048.ReducesTo [1] S2
  bcast_S_S2 : S_.BroadcastsInDim S2 (![] : Fin 0 → Fin S2.rank)
  bcast_S2_S2x1_0 : S2.BroadcastsInDim S2x1 (![0] : Fin 1 → Fin S2x1.rank)
  bcast_S2x1_S2x2048_0_1 : S2x1.BroadcastsInDim S2x2048 (![0, 1] : Fin 2 → Fin S2x2048.rank)
  sliceFits_S2x2048x2048_S2x2048x17 : S2x2048x2048.Slices (fun _ => 0) S2x2048x17
  slices_S2x2048x17_S2x2048x16_0_0_0 : S2x2048x17.Slices ![0, 0, 0] S2x2048x16
  slices_S2x2048x17_S2x2048x16_0_0_1 : S2x2048x17.Slices ![0, 0, 1] S2x2048x16
  bcast_S_S2048 : S_.BroadcastsInDim S2048 (![] : Fin 0 → Fin S2048.rank)
  dot_S2x2048x768_S768x64_S2x2048x64_2_0_01_1_n_n_wf : DotDims.WF S2x2048x768 S768x64 S2x2048x64 [2] [0] [0, 1] [1] [] []
  dot_S2x2048x64_S2x2048x64_S2x2048x2048_2_2_1_1_0_0_wf : DotDims.WF S2x2048x64 S2x2048x64 S2x2048x2048 [2] [2] [1] [1] [0] [0]
  gather_S2x2048x2048_S2x2048x16x1_S2x2048x16_n_2_01_01_2_3_111_wf : GatherDims.WF S2x2048x2048 S2x2048x16x1 S2x2048x16 [] [2] [0, 1] [2] [0, 1] 3 ![1, 1, 1]
  gather_S2x2048x768_S2x2048x16x1_S2x2048x16x768_3_1_0_0_1_3_11768_wf : GatherDims.WF S2x2048x768 S2x2048x16x1 S2x2048x16x768 [3] [1] [0] [1] [0] 3 ![1, 1, 768]
  dot_S2x2048x16_S2x2048x16x768_S2x2048x768_2_2_n_3_01_01_wf : DotDims.WF S2x2048x16 S2x2048x16x768 S2x2048x768 [2] [2] [] [3] [0, 1] [0, 1]

variable [Facts]

def dot_S2x2048x768_S768x64_S2x2048x64_2_0_01_1_n_n : DotDims S2x2048x768 S768x64 S2x2048x64 where
  lhsContracting := [2]
  rhsContracting := [0]
  lhsNonContracting := [0, 1]
  rhsNonContracting := [1]
  lhsBatch := []
  rhsBatch := []
  wf := dot_S2x2048x768_S768x64_S2x2048x64_2_0_01_1_n_n_wf
def dot_S2x2048x64_S2x2048x64_S2x2048x2048_2_2_1_1_0_0 : DotDims S2x2048x64 S2x2048x64 S2x2048x2048 where
  lhsContracting := [2]
  rhsContracting := [2]
  lhsNonContracting := [1]
  rhsNonContracting := [1]
  lhsBatch := [0]
  rhsBatch := [0]
  wf := dot_S2x2048x64_S2x2048x64_S2x2048x2048_2_2_1_1_0_0_wf
def gather_S2x2048x2048_S2x2048x16x1_S2x2048x16_n_2_01_01_2_3_111 : GatherDims S2x2048x2048 S2x2048x16x1 S2x2048x16 where
  offsetDims := []
  collapsedSliceDims := [2]
  operandBatchingDims := [0, 1]
  startIndicesBatchingDims := [0, 1]
  startIndexMap := [2]
  indexVectorDim := 3
  sliceSizes := ![1, 1, 1]
  wf := gather_S2x2048x2048_S2x2048x16x1_S2x2048x16_n_2_01_01_2_3_111_wf
def gather_S2x2048x768_S2x2048x16x1_S2x2048x16x768_3_1_0_0_1_3_11768 : GatherDims S2x2048x768 S2x2048x16x1 S2x2048x16x768 where
  offsetDims := [3]
  collapsedSliceDims := [1]
  operandBatchingDims := [0]
  startIndicesBatchingDims := [0]
  startIndexMap := [1]
  indexVectorDim := 3
  sliceSizes := ![1, 1, 768]
  wf := gather_S2x2048x768_S2x2048x16x1_S2x2048x16x768_3_1_0_0_1_3_11768_wf
def dot_S2x2048x16_S2x2048x16x768_S2x2048x768_2_2_n_3_01_01 : DotDims S2x2048x16 S2x2048x16x768 S2x2048x768 where
  lhsContracting := [2]
  rhsContracting := [2]
  lhsNonContracting := []
  rhsNonContracting := [3]
  lhsBatch := [0, 1]
  rhsBatch := [0, 1]
  wf := dot_S2x2048x16_S2x2048x16x768_S2x2048x768_2_2_n_3_01_01_wf
def fn_where {F : FTy → Type} [FloatOps F] (arg0 : IVec S_ 1) (arg1 : FVec F S2x2048x1 .f32) (arg2 : FVec F S_ .f32) : FVec F S2x2048x1 .f32 :=
  let v0 : FVec F S_ .f32 := id arg2
  let v1 : FVec F S2x2048x1 .f32 := broadcastInDim S2x2048x1 ![] bcast_S_S2x2048x1 v0
  let v2 : FVec F S2x2048x1 .f32 := (fun p a b => select (broadcastInDim S2x2048x1 ![] bcast_S_S2x2048x1 p) a b) arg0 arg1 v1
  v2

def fn_var {F : FTy → Type} [FloatOps F] (arg0 : FVec F S2x2048x768 .f32) (arg1 : IVec S_ 32) : FVec F S2x2048x1 .f32 :=
  let cst : FVec F S_ .f32 := constant S_ .f32 0x00000000#32
  let v0 : FVec F S2x2048 .f32 := (fun x v => Host.reduceAdd x v reducesTo_S2x2048x768_S2x2048_d2 h_S_) arg0 cst
  let v1 : FVec F S2x2048x1 .f32 := broadcastInDim S2x2048x1 ![0, 1] bcast_S2x2048_S2x2048x1_0_1 v0
  let cst_0 : FVec F S_ .f32 := constant S_ .f32 0x44400000#32
  let v2 : FVec F S2x2048x1 .f32 := broadcastInDim S2x2048x1 ![] bcast_S_S2x2048x1 cst_0
  let v3 : FVec F S2x2048x1 .f32 := Host.divf v1 v2
  let v4 : FVec F S2x2048x768 .f32 := broadcastInDim S2x2048x768 ![0, 1, 2] bcast_S2x2048x1_S2x2048x768_0_1_2 v3
  let v5 : FVec F S2x2048x768 .f32 := subf arg0 v4
  let v6 : FVec F S2x2048x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S2x2048 .f32 := (fun x v => Host.reduceAdd x v reducesTo_S2x2048x768_S2x2048_d2 h_S_) v6 cst_2
  let v10 : FVec F S2x2048x1 .f32 := broadcastInDim S2x2048x1 ![0, 1] bcast_S2x2048_S2x2048x1_0_1 v9
  let v11 : FVec F S2x2048x1 .f32 := broadcastInDim S2x2048x1 ![] bcast_S_S2x2048x1 v8
  let v12 : FVec F S2x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S2x2048x1 .f32 := fn_where (F := F) v13 v12 cst_4
  v14

def fn_var_0 {F : FTy → Type} [FloatOps F] (arg0 : FVec F S2x2048x768 .f32) (arg1 : IVec S_ 32) : FVec F S2x2048x1 .f32 :=
  let cst : FVec F S_ .f32 := constant S_ .f32 0x00000000#32
  let v0 : FVec F S2x2048 .f32 := (fun x v => Host.reduceAdd x v reducesTo_S2x2048x768_S2x2048_d2 h_S_) arg0 cst
  let v1 : FVec F S2x2048x1 .f32 := broadcastInDim S2x2048x1 ![0, 1] bcast_S2x2048_S2x2048x1_0_1 v0
  let cst_0 : FVec F S_ .f32 := constant S_ .f32 0x44400000#32
  let v2 : FVec F S2x2048x1 .f32 := broadcastInDim S2x2048x1 ![] bcast_S_S2x2048x1 cst_0
  let v3 : FVec F S2x2048x1 .f32 := Host.divf v1 v2
  let v4 : FVec F S2x2048x768 .f32 := broadcastInDim S2x2048x768 ![0, 1, 2] bcast_S2x2048x1_S2x2048x768_0_1_2 v3
  let v5 : FVec F S2x2048x768 .f32 := subf arg0 v4
  let v6 : FVec F S2x2048x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S2x2048 .f32 := (fun x v => Host.reduceAdd x v reducesTo_S2x2048x768_S2x2048_d2 h_S_) v6 cst_2
  let v10 : FVec F S2x2048x1 .f32 := broadcastInDim S2x2048x1 ![0, 1] bcast_S2x2048_S2x2048x1_0_1 v9
  let v11 : FVec F S2x2048x1 .f32 := broadcastInDim S2x2048x1 ![] bcast_S_S2x2048x1 v8
  let v12 : FVec F S2x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S2x2048x1 .f32 := fn_where (F := F) v13 v12 cst_4
  v14

def fn_take_along_axis {F : FTy → Type} [FloatOps F] (arg0 : FVec F S2x2048x2048 .f32) (arg1 : IVec S2x2048x16 32) : FVec F S2x2048x16 .f32 :=
  let c : IVec S_ 32 := constantI S_ 32 0#32
  let v0 : IVec S2x2048x16 32 := broadcastInDim S2x2048x16 ![] bcast_S_S2x2048x16 c
  let v1 : IVec S2x2048x16 1 := cmpi .slt arg1 v0
  let c_0 : IVec S_ 32 := constantI S_ 32 2048#32
  let v2 : IVec S2x2048x16 32 := broadcastInDim S2x2048x16 ![] bcast_S_S2x2048x16 c_0
  let v3 : IVec S2x2048x16 32 := addi arg1 v2
  let v4 : IVec S2x2048x16 32 := select v1 v3 arg1
  let v5 : IVec S2x2048x16x1 32 := shapeCast S2x2048x16x1 v4 shapeCasts_S2x2048x16_S2x2048x16x1
  let c_1 : IVec S1 32 := constantI S1 32 2047#32
  let c_2 : IVec S_ 32 := constantI S_ 32 0#32
  let v6 : IVec S2x2048x16x1 32 := broadcastInDim S2x2048x16x1 ![] bcast_S_S2x2048x16x1 c_2
  let v7 : IVec S2x2048x16x1 1 := cmpi .sge v5 v6
  let v8 : IVec S1x1x1x1 32 := broadcastInDim S1x1x1x1 ![3] bcast_S1_S1x1x1x1_3 c_1
  let v9 : IVec S2x2048x16x1 32 := broadcastInDim S2x2048x16x1 ![0, 1, 2, 3] bcast_S1x1x1x1_S2x2048x16x1_0_1_2_3 v8
  let v10 : IVec S2x2048x16x1 1 := cmpi .sle v5 v9
  let v11 : IVec S2x2048x16x1 1 := andi v7 v10
  let c_3 : IVec S_ 1 := constantI S_ 1 1#1
  let v12 : IVec S2x2048x16 1 := (fun x v => Host.reduce IntOp.andi x v reducesTo_S2x2048x16x1_S2x2048x16_d3 h_S_) v11 c_3
  let v13 : FVec F S2x2048x16 .f32 := (fun x i => Host.gather gather_S2x2048x2048_S2x2048x16x1_S2x2048x16_n_2_01_01_2_3_111 x i) arg0 v5
  let cst : FVec F S_ .f32 := constant S_ .f32 0x7FC00000#32
  let v14 : FVec F S2x2048x16 .f32 := broadcastInDim S2x2048x16 ![] bcast_S_S2x2048x16 cst
  let v15 : FVec F S2x2048x16 .f32 := select v12 v13 v14
  v15

def fn_softplus {F : FTy → Type} [FloatOps F] (arg0 : FVec F S2x2048 .f32) : FVec F S2x2048 .f32 :=
  let cst : FVec F S_ .f32 := constant S_ .f32 0x00000000#32
  let v0 : FVec F S2x2048 .f32 := broadcastInDim S2x2048 ![] bcast_S_S2x2048 cst
  let v1 : FVec F S2x2048 .f32 := maximumf arg0 v0
  let v2 : FVec F S2x2048 .f32 := broadcastInDim S2x2048 ![] bcast_S_S2x2048 cst
  let v3 : FVec F S2x2048 .f32 := subf arg0 v2
  let v4 : IVec S2x2048 1 := cmpf .une v3 v3
  let v5 : FVec F S2x2048 .f32 := broadcastInDim S2x2048 ![] bcast_S_S2x2048 cst
  let v6 : FVec F S2x2048 .f32 := addf arg0 v5
  let v7 : FVec F S2x2048 .f32 := Host.absf v3
  let v8 : FVec F S2x2048 .f32 := Host.negf v7
  let v9 : FVec F S2x2048 .f32 := Host.exp v8
  let v10 : FVec F S2x2048 .f32 := Host.log1p v9
  let v11 : FVec F S2x2048 .f32 := addf v1 v10
  let v12 : FVec F S2x2048 .f32 := select v4 v6 v11
  v12

def fn_norm {F : FTy → Type} [FloatOps F] (arg0 : FVec F S2x2048x768 .f32) : FVec F S2x2048x1 .f32 :=
  let v0 : FVec F S2x2048x768 .f32 := mulf arg0 arg0
  let cst : FVec F S_ .f32 := constant S_ .f32 0x00000000#32
  let v1 : FVec F S2x2048 .f32 := (fun x v => Host.reduceAdd x v reducesTo_S2x2048x768_S2x2048_d2 h_S_) v0 cst
  let v2 : FVec F S2x2048x1 .f32 := broadcastInDim S2x2048x1 ![0, 1] bcast_S2x2048_S2x2048x1_0_1 v1
  let v3 : FVec F S2x2048x1 .f32 := Host.sqrt v2
  v3

def fn_softplus_1 {F : FTy → Type} [FloatOps F] (arg0 : FVec F S2x2048 .f32) : FVec F S2x2048 .f32 :=
  let cst : FVec F S_ .f32 := constant S_ .f32 0x00000000#32
  let v0 : FVec F S2x2048 .f32 := broadcastInDim S2x2048 ![] bcast_S_S2x2048 cst
  let v1 : FVec F S2x2048 .f32 := maximumf arg0 v0
  let v2 : FVec F S2x2048 .f32 := broadcastInDim S2x2048 ![] bcast_S_S2x2048 cst
  let v3 : FVec F S2x2048 .f32 := subf arg0 v2
  let v4 : IVec S2x2048 1 := cmpf .une v3 v3
  let v5 : FVec F S2x2048 .f32 := broadcastInDim S2x2048 ![] bcast_S_S2x2048 cst
  let v6 : FVec F S2x2048 .f32 := addf arg0 v5
  let v7 : FVec F S2x2048 .f32 := Host.absf v3
  let v8 : FVec F S2x2048 .f32 := Host.negf v7
  let v9 : FVec F S2x2048 .f32 := Host.exp v8
  let v10 : FVec F S2x2048 .f32 := Host.log1p v9
  let v11 : FVec F S2x2048 .f32 := addf v1 v10
  let v12 : FVec F S2x2048 .f32 := select v4 v6 v11
  v12

def fn_norm_2 {F : FTy → Type} [FloatOps F] (arg0 : FVec F S2x2048x768 .f32) : FVec F S2x2048x1 .f32 :=
  let v0 : FVec F S2x2048x768 .f32 := mulf arg0 arg0
  let cst : FVec F S_ .f32 := constant S_ .f32 0x00000000#32
  let v1 : FVec F S2x2048 .f32 := (fun x v => Host.reduceAdd x v reducesTo_S2x2048x768_S2x2048_d2 h_S_) v0 cst
  let v2 : FVec F S2x2048x1 .f32 := broadcastInDim S2x2048x1 ![0, 1] bcast_S2x2048_S2x2048x1_0_1 v1
  let v3 : FVec F S2x2048x1 .f32 := Host.sqrt v2
  v3

def fn_part16 {F : FTy → Type} [FloatOps F] (main_arg2 : FVec F S2048 .f32) (main_v288 : IVec S2x2048x16 1) (main_v303 : IVec S2x2048x16 1) (main_values_66 : FVec F S2x2048x17 .f32) : IVec S2x2048x16 1 × IVec S2x2048x16 1 × IVec S2x2048x16 1 × IVec S2048 1 :=
  let main_v312 : FVec F S2x2048x16 .f32 := (extractStridedSlice S2x2048x16 ![0, 0, 0] · slices_S2x2048x17_S2x2048x16_0_0_0) main_values_66
  let main_v313 : FVec F S2x2048x16 .f32 := (extractStridedSlice S2x2048x16 ![0, 0, 1] · slices_S2x2048x17_S2x2048x16_0_0_1) main_values_66
  let main_v314 : IVec S2x2048x16 1 := cmpf .ogt main_v312 main_v313
  let main_v315 : FVec F S2x2048x16 .f32 := (extractStridedSlice S2x2048x16 ![0, 0, 0] · slices_S2x2048x17_S2x2048x16_0_0_0) main_values_66
  let main_cst_68 : FVec F S_ .f32 := constant S_ .f32 0x7F800000#32
  let main_v316 : FVec F S2x2048x16 .f32 := broadcastInDim S2x2048x16 ![] bcast_S_S2x2048x16 main_cst_68
  let main_v317 : IVec S2x2048x16 1 := cmpf .olt main_v315 main_v316
  let main_v318 : IVec S2x2048x16 1 := andi main_v314 main_v317
  let main_v319 : FVec F S2048 .f32 := Host.absf main_arg2
  let main_cst_69 : FVec F S_ .f32 := constant S_ .f32 0x7F800000#32
  let main_v320 : FVec F S2048 .f32 := broadcastInDim S2048 ![] bcast_S_S2048 main_cst_69
  let main_v321 : IVec S2048 1 := cmpf .olt main_v319 main_v320
  (main_v288, main_v303, main_v318, main_v321)

def fn_part15 {F : FTy → Type} [FloatOps F] (main_arg2 : FVec F S2048 .f32) (main_arg6 : FVec F S768x64 .f32) (main_arg7 : FVec F S768x64 .f32) (main_v57 : FVec F S2x2048x768 .f32) (main_v231 : FVec F S2x2048x768 .f32) (main_v288 : IVec S2x2048x16 1) (main_v291 : FVec F S2x2048x2048 .f32) (main_v293 : FVec F S_ .f32) : IVec S2x2048x16 1 × IVec S2x2048x16 1 × IVec S2x2048x16 1 × IVec S2048 1 :=
  let main_v294 : FVec F S2x2048x2048 .f32 := broadcastInDim S2x2048x2048 ![] bcast_S_S2x2048x2048 main_v293
  let main_v295 : FVec F S2x2048x2048 .f32 := Host.divf main_v291 main_v294
  let main_v296 : FVec F S2x2048x2048 .f32 := Host.absf main_v295
  let main_values_62 : FVec F S2x2048x17 .f32 := (fun x => (Host.topK S2x2048x17 2 (FloatOps.cmpfTotal .gt) x sliceFits_S2x2048x2048_S2x2048x17).1) main_v296
  let main_indices_63 : IVec S2x2048x17 32 := (fun x => (Host.topK S2x2048x17 2 (FloatOps.cmpfTotal .gt) x sliceFits_S2x2048x2048_S2x2048x17).2) main_v296
  let main_v297 : FVec F S2x2048x16 .f32 := (extractStridedSlice S2x2048x16 ![0, 0, 0] · slices_S2x2048x17_S2x2048x16_0_0_0) main_values_62
  let main_v298 : FVec F S2x2048x16 .f32 := (extractStridedSlice S2x2048x16 ![0, 0, 1] · slices_S2x2048x17_S2x2048x16_0_0_1) main_values_62
  let main_v299 : IVec S2x2048x16 1 := cmpf .ogt main_v297 main_v298
  let main_v300 : FVec F S2x2048x16 .f32 := (extractStridedSlice S2x2048x16 ![0, 0, 0] · slices_S2x2048x17_S2x2048x16_0_0_0) main_values_62
  let main_cst_64 : FVec F S_ .f32 := constant S_ .f32 0x7F800000#32
  let main_v301 : FVec F S2x2048x16 .f32 := broadcastInDim S2x2048x16 ![] bcast_S_S2x2048x16 main_cst_64
  let main_v302 : IVec S2x2048x16 1 := cmpf .olt main_v300 main_v301
  let main_v303 : IVec S2x2048x16 1 := andi main_v299 main_v302
  let main_v304 : FVec F S2x2048x64 .f32 := (fun l r => Host.dotGeneral dot_S2x2048x768_S768x64_S2x2048x64_2_0_01_1_n_n none l r) main_v231 main_arg6
  let main_v305 : FVec F S2x2048x64 .f32 := (fun l r => Host.dotGeneral dot_S2x2048x768_S768x64_S2x2048x64_2_0_01_1_n_n none l r) main_v57 main_arg7
  let main_v306 : FVec F S2x2048x2048 .f32 := (fun l r => Host.dotGeneral dot_S2x2048x64_S2x2048x64_S2x2048x2048_2_2_1_1_0_0 none l r) main_v305 main_v304
  let main_cst_65 : FVec F S_ .f32 := constant S_ .f32 0x42800000#32
  let main_v307 : FVec F S_ .f32 := Host.sqrt main_cst_65
  let main_v308 : FVec F S_ .f32 := id main_v307
  let main_v309 : FVec F S2x2048x2048 .f32 := broadcastInDim S2x2048x2048 ![] bcast_S_S2x2048x2048 main_v308
  let main_v310 : FVec F S2x2048x2048 .f32 := Host.divf main_v306 main_v309
  let main_v311 : FVec F S2x2048x2048 .f32 := Host.absf main_v310
  let main_values_66 : FVec F S2x2048x17 .f32 := (fun x => (Host.topK S2x2048x17 2 (FloatOps.cmpfTotal .gt) x sliceFits_S2x2048x2048_S2x2048x17).1) main_v311
  let main_indices_67 : IVec S2x2048x17 32 := (fun x => (Host.topK S2x2048x17 2 (FloatOps.cmpfTotal .gt) x sliceFits_S2x2048x2048_S2x2048x17).2) main_v311
  fn_part16 (F := F) main_arg2 main_v288 main_v303 main_values_66

def fn_part14 {F : FTy → Type} [FloatOps F] (main_arg2 : FVec F S2048 .f32) (main_arg5 : FVec F S768x64 .f32) (main_arg6 : FVec F S768x64 .f32) (main_arg7 : FVec F S768x64 .f32) (main_arg8 : FVec F S768x64 .f32) (main_arg9 : FVec F S768x64 .f32) (main_v39 : FVec F S2x2048x768 .f32) (main_v57 : FVec F S2x2048x768 .f32) (main_v136 : FVec F S2x2048x768 .f32) (main_v231 : FVec F S2x2048x768 .f32) (main_v274 : FVec F S2x2048x64 .f32) : IVec S2x2048x16 1 × IVec S2x2048x16 1 × IVec S2x2048x16 1 × IVec S2048 1 :=
  let main_v275 : FVec F S2x2048x64 .f32 := (fun l r => Host.dotGeneral dot_S2x2048x768_S768x64_S2x2048x64_2_0_01_1_n_n none l r) main_v39 main_arg5
  let main_v276 : FVec F S2x2048x2048 .f32 := (fun l r => Host.dotGeneral dot_S2x2048x64_S2x2048x64_S2x2048x2048_2_2_1_1_0_0 none l r) main_v275 main_v274
  let main_cst_57 : FVec F S_ .f32 := constant S_ .f32 0x42800000#32
  let main_v277 : FVec F S_ .f32 := Host.sqrt main_cst_57
  let main_v278 : FVec F S_ .f32 := id main_v277
  let main_v279 : FVec F S2x2048x2048 .f32 := broadcastInDim S2x2048x2048 ![] bcast_S_S2x2048x2048 main_v278
  let main_v280 : FVec F S2x2048x2048 .f32 := Host.divf main_v276 main_v279
  let main_v281 : FVec F S2x2048x2048 .f32 := Host.absf main_v280
  let main_values_58 : FVec F S2x2048x17 .f32 := (fun x => (Host.topK S2x2048x17 2 (FloatOps.cmpfTotal .gt) x sliceFits_S2x2048x2048_S2x2048x17).1) main_v281
  let main_indices_59 : IVec S2x2048x17 32 := (fun x => (Host.topK S2x2048x17 2 (FloatOps.cmpfTotal .gt) x sliceFits_S2x2048x2048_S2x2048x17).2) main_v281
  let main_v282 : FVec F S2x2048x16 .f32 := (extractStridedSlice S2x2048x16 ![0, 0, 0] · slices_S2x2048x17_S2x2048x16_0_0_0) main_values_58
  let main_v283 : FVec F S2x2048x16 .f32 := (extractStridedSlice S2x2048x16 ![0, 0, 1] · slices_S2x2048x17_S2x2048x16_0_0_1) main_values_58
  let main_v284 : IVec S2x2048x16 1 := cmpf .ogt main_v282 main_v283
  let main_v285 : FVec F S2x2048x16 .f32 := (extractStridedSlice S2x2048x16 ![0, 0, 0] · slices_S2x2048x17_S2x2048x16_0_0_0) main_values_58
  let main_cst_60 : FVec F S_ .f32 := constant S_ .f32 0x7F800000#32
  let main_v286 : FVec F S2x2048x16 .f32 := broadcastInDim S2x2048x16 ![] bcast_S_S2x2048x16 main_cst_60
  let main_v287 : IVec S2x2048x16 1 := cmpf .olt main_v285 main_v286
  let main_v288 : IVec S2x2048x16 1 := andi main_v284 main_v287
  let main_v289 : FVec F S2x2048x64 .f32 := (fun l r => Host.dotGeneral dot_S2x2048x768_S768x64_S2x2048x64_2_0_01_1_n_n none l r) main_v136 main_arg8
  let main_v290 : FVec F S2x2048x64 .f32 := (fun l r => Host.dotGeneral dot_S2x2048x768_S768x64_S2x2048x64_2_0_01_1_n_n none l r) main_v136 main_arg9
  let main_v291 : FVec F S2x2048x2048 .f32 := (fun l r => Host.dotGeneral dot_S2x2048x64_S2x2048x64_S2x2048x2048_2_2_1_1_0_0 none l r) main_v290 main_v289
  let main_cst_61 : FVec F S_ .f32 := constant S_ .f32 0x42800000#32
  let main_v292 : FVec F S_ .f32 := Host.sqrt main_cst_61
  let main_v293 : FVec F S_ .f32 := id main_v292
  fn_part15 (F := F) main_arg2 main_arg6 main_arg7 main_v57 main_v231 main_v288 main_v291 main_v293

def fn_part13 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_v39 : FVec F S2x2048x768 .f32) (main_v57 : FVec F S2x2048x768 .f32) (main_v136 : FVec F S2x2048x768 .f32) (main_v194 : FVec F S2x2048 .f32) (main_v231 : FVec F S2x2048x768 .f32) (main_indices_49 : IVec S2x2048x16 32) (main_v254 : FVec F S2x2048x16 .f32) : IVec S2x2048x16 1 × IVec S2x2048x16 1 × IVec S2x2048x16 1 × IVec S2048 1 :=
  let main_v255 : FVec F S2x2048 .f32 := fn_softplus_1 (F := F) main_v194
  let main_v256 : FVec F S2x1x2048 .f32 := broadcastInDim S2x1x2048 ![0, 2] bcast_S2x2048_S2x1x2048_0_2 main_v255
  let main_v257 : FVec F S2x2048x2048 .f32 := broadcastInDim S2x2048x2048 ![0, 1, 2] bcast_S2x1x2048_S2x2048x2048_0_1_2 main_v256
  let main_v258 : FVec F S2x2048x16 .f32 := fn_take_along_axis (F := F) main_v257 main_indices_49
  let main_v259 : FVec F S2x2048x16 .f32 := mulf main_v254 main_v258
  let main_v260 : FVec F S2x2048x1 .f32 := fn_norm_2 (F := F) main_v231
  let main_cst_53 : FVec F S_ .f32 := constant S_ .f32 0x358637BD#32
  let main_v261 : FVec F S2x2048x1 .f32 := broadcastInDim S2x2048x1 ![] bcast_S_S2x2048x1 main_cst_53
  let main_v262 : FVec F S2x2048x1 .f32 := addf main_v260 main_v261
  let main_v263 : FVec F S2x2048x768 .f32 := broadcastInDim S2x2048x768 ![0, 1, 2] bcast_S2x2048x1_S2x2048x768_0_1_2 main_v262
  let main_v264 : FVec F S2x2048x768 .f32 := Host.divf main_v231 main_v263
  let main_c_54 : IVec S_ 32 := constantI S_ 32 0#32
  let main_v265 : IVec S2x2048x16 32 := broadcastInDim S2x2048x16 ![] bcast_S_S2x2048x16 main_c_54
  let main_v266 : IVec S2x2048x16 1 := cmpi .slt main_indices_49 main_v265
  let main_c_55 : IVec S_ 32 := constantI S_ 32 2048#32
  let main_v267 : IVec S2x2048x16 32 := broadcastInDim S2x2048x16 ![] bcast_S_S2x2048x16 main_c_55
  let main_v268 : IVec S2x2048x16 32 := addi main_indices_49 main_v267
  let main_v269 : IVec S2x2048x16 32 := select main_v266 main_v268 main_indices_49
  let main_v270 : IVec S2x2048x16x1 32 := broadcastInDim S2x2048x16x1 ![0, 1, 2] bcast_S2x2048x16_S2x2048x16x1_0_1_2 main_v269
  let main_v271 : FVec F S2x2048x16x768 .f32 := (fun x i => Host.gather gather_S2x2048x768_S2x2048x16x1_S2x2048x16x768_3_1_0_0_1_3_11768 x i) main_v264 main_v270
  let main_v272 : FVec F S2x2048x768 .f32 := (fun l r => Host.dotGeneral dot_S2x2048x16_S2x2048x16x768_S2x2048x768_2_2_n_3_01_01 none l r) main_v259 main_v271
  let main_cst_56 : FVec F S_ .f32 := constant S_ .f32 0x00000000#32
  let main_v273 : FVec F S2x2048 .f32 := (fun x v => Host.reduceAdd x v reducesTo_S2x2048x16_S2x2048_d2 h_S_) main_v259 main_cst_56
  let main_v274 : FVec F S2x2048x64 .f32 := (fun l r => Host.dotGeneral dot_S2x2048x768_S768x64_S2x2048x64_2_0_01_1_n_n none l r) main_arg1 main_arg4
  fn_part14 (F := F) main_arg2 main_arg5 main_arg6 main_arg7 main_arg8 main_arg9 main_v39 main_v57 main_v136 main_v231 main_v274

def fn_part12 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_v39 : FVec F S2x2048x768 .f32) (main_v57 : FVec F S2x2048x768 .f32) (main_v136 : FVec F S2x2048x768 .f32) (main_v194 : FVec F S2x2048 .f32) (main_v231 : FVec F S2x2048x768 .f32) (main_v234 : FVec F S2x2048x2048 .f32) (main_v235 : FVec F S_ .f32) : IVec S2x2048x16 1 × IVec S2x2048x16 1 × IVec S2x2048x16 1 × IVec S2048 1 :=
  let main_v236 : FVec F S_ .f32 := id main_v235
  let main_v237 : FVec F S2x2048x2048 .f32 := broadcastInDim S2x2048x2048 ![] bcast_S_S2x2048x2048 main_v236
  let main_v238 : FVec F S2x2048x2048 .f32 := Host.divf main_v234 main_v237
  let main_v239 : FVec F S2x2048x2048 .f32 := Host.absf main_v238
  let main_values_48 : FVec F S2x2048x16 .f32 := (fun x => (Host.topK S2x2048x16 2 (FloatOps.cmpfTotal .gt) x sliceFits_S2x2048x2048_S2x2048x16).1) main_v239
  let main_indices_49 : IVec S2x2048x16 32 := (fun x => (Host.topK S2x2048x16 2 (FloatOps.cmpfTotal .gt) x sliceFits_S2x2048x2048_S2x2048x16).2) main_v239
  let main_v240 : FVec F S2x2048x16 .f32 := fn_take_along_axis (F := F) main_v238 main_indices_49
  let main_v241 : FVec F S2x2048x16 .f32 := Host.sign main_v240
  let main_v242 : FVec F S2x2048x16 .f32 := Host.absf main_v240
  let main_cst_50 : FVec F S_ .f32 := constant S_ .f32 0xFF800000#32
  let main_v243 : FVec F S2x2048 .f32 := (fun x v => Host.reduce FloatOps.maximumf x v reducesTo_S2x2048x16_S2x2048_d2 h_S_) main_v242 main_cst_50
  let main_cst_51 : FVec F S_ .f32 := constant S_ .f32 0xFF800000#32
  let main_v244 : FVec F S2x2048 .f32 := broadcastInDim S2x2048 ![] bcast_S_S2x2048 main_cst_51
  let main_v245 : FVec F S2x2048 .f32 := maximumf main_v244 main_v243
  let main_v246 : FVec F S2x2048x1 .f32 := broadcastInDim S2x2048x1 ![0, 1] bcast_S2x2048_S2x2048x1_0_1 main_v245
  let main_v247 : FVec F S2x2048x16 .f32 := broadcastInDim S2x2048x16 ![0, 1, 2] bcast_S2x2048x1_S2x2048x16_0_1_2 main_v246
  let main_v248 : FVec F S2x2048x16 .f32 := subf main_v242 main_v247
  let main_v249 : FVec F S2x2048x16 .f32 := Host.exp main_v248
  let main_cst_52 : FVec F S_ .f32 := constant S_ .f32 0x00000000#32
  let main_v250 : FVec F S2x2048 .f32 := (fun x v => Host.reduceAdd x v reducesTo_S2x2048x16_S2x2048_d2 h_S_) main_v249 main_cst_52
  let main_v251 : FVec F S2x2048x1 .f32 := broadcastInDim S2x2048x1 ![0, 1] bcast_S2x2048_S2x2048x1_0_1 main_v250
  let main_v252 : FVec F S2x2048x16 .f32 := broadcastInDim S2x2048x16 ![0, 1, 2] bcast_S2x2048x1_S2x2048x16_0_1_2 main_v251
  let main_v253 : FVec F S2x2048x16 .f32 := Host.divf main_v249 main_v252
  let main_v254 : FVec F S2x2048x16 .f32 := mulf main_v241 main_v253
  fn_part13 (F := F) main_arg1 main_arg2 main_arg4 main_arg5 main_arg6 main_arg7 main_arg8 main_arg9 main_v39 main_v57 main_v136 main_v194 main_v231 main_indices_49 main_v254

def fn_part11 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_v39 : FVec F S2x2048x768 .f32) (main_v57 : FVec F S2x2048x768 .f32) (main_v136 : FVec F S2x2048x768 .f32) (main_v194 : FVec F S2x2048 .f32) (main_v213 : FVec F S2x2048x768 .f32) (main_v215 : FVec F S2x2048x1 .f32) : IVec S2x2048x16 1 × IVec S2x2048x16 1 × IVec S2x2048x16 1 × IVec S2048 1 :=
  let main_cst_44 : FVec F S_ .f32 := constant S_ .f32 0x44400000#32
  let main_v216 : FVec F S2x2048x1 .f32 := broadcastInDim S2x2048x1 ![] bcast_S_S2x2048x1 main_cst_44
  let main_v217 : FVec F S2x2048x1 .f32 := Host.divf main_v215 main_v216
  let main_c_45 : IVec S_ 32 := constantI S_ 32 0#32
  let main_v218 : FVec F S2x2048x1 .f32 := fn_var (F := F) main_v213 main_c_45
  let main_v219 : FVec F S2x2048x768 .f32 := broadcastInDim S2x2048x768 ![0, 1, 2] bcast_S2x2048x1_S2x2048x768_0_1_2 main_v217
  let main_v220 : FVec F S2x2048x768 .f32 := subf main_v213 main_v219
  let main_cst_46 : FVec F S_ .f32 := constant S_ .f32 0x3727C5AC#32
  let main_v221 : FVec F S2x2048x1 .f32 := broadcastInDim S2x2048x1 ![] bcast_S_S2x2048x1 main_cst_46
  let main_v222 : FVec F S2x2048x1 .f32 := addf main_v218 main_v221
  let main_v223 : FVec F S2x2048x1 .f32 := Host.sqrt main_v222
  let main_v224 : FVec F S2x2048x768 .f32 := broadcastInDim S2x2048x768 ![0, 1, 2] bcast_S2x2048x1_S2x2048x768_0_1_2 main_v223
  let main_v225 : FVec F S2x2048x768 .f32 := Host.divf main_v220 main_v224
  let main_v226 : FVec F S1x1x768 .f32 := broadcastInDim S1x1x768 ![2] bcast_S768_S1x1x768_2 main_arg10
  let main_v227 : FVec F S2x2048x768 .f32 := broadcastInDim S2x2048x768 ![0, 1, 2] bcast_S1x1x768_S2x2048x768_0_1_2 main_v226
  let main_v228 : FVec F S2x2048x768 .f32 := mulf main_v225 main_v227
  let main_v229 : FVec F S1x1x768 .f32 := broadcastInDim S1x1x768 ![2] bcast_S768_S1x1x768_2 main_arg11
  let main_v230 : FVec F S2x2048x768 .f32 := broadcastInDim S2x2048x768 ![0, 1, 2] bcast_S1x1x768_S2x2048x768_0_1_2 main_v229
  let main_v231 : FVec F S2x2048x768 .f32 := addf main_v228 main_v230
  let main_v232 : FVec F S2x2048x64 .f32 := (fun l r => Host.dotGeneral dot_S2x2048x768_S768x64_S2x2048x64_2_0_01_1_n_n none l r) main_v231 main_arg6
  let main_v233 : FVec F S2x2048x64 .f32 := (fun l r => Host.dotGeneral dot_S2x2048x768_S768x64_S2x2048x64_2_0_01_1_n_n none l r) main_v57 main_arg7
  let main_v234 : FVec F S2x2048x2048 .f32 := (fun l r => Host.dotGeneral dot_S2x2048x64_S2x2048x64_S2x2048x2048_2_2_1_1_0_0 none l r) main_v233 main_v232
  let main_cst_47 : FVec F S_ .f32 := constant S_ .f32 0x42800000#32
  let main_v235 : FVec F S_ .f32 := Host.sqrt main_cst_47
  fn_part12 (F := F) main_arg1 main_arg2 main_arg4 main_arg5 main_arg6 main_arg7 main_arg8 main_arg9 main_v39 main_v57 main_v136 main_v194 main_v231 main_v234 main_v235

def fn_part10 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_v39 : FVec F S2x2048x768 .f32) (main_v57 : FVec F S2x2048x768 .f32) (main_v136 : FVec F S2x2048x768 .f32) (main_v194 : FVec F S2x2048 .f32) (main_v195 : FVec F S2x2048x768 .f32) (main_cst_39 : FVec F S_ .f32) : IVec S2x2048x16 1 × IVec S2x2048x16 1 × IVec S2x2048x16 1 × IVec S2048 1 :=
  let main_v196 : FVec F S2x2048 .f32 := (fun x v => Host.reduceAdd x v reducesTo_S2x2048x768_S2x2048_d2 h_S_) main_v195 main_cst_39
  let main_v197 : FVec F S2x2048x1 .f32 := broadcastInDim S2x2048x1 ![0, 1] bcast_S2x2048_S2x2048x1_0_1 main_v196
  let main_cst_40 : FVec F S_ .f32 := constant S_ .f32 0x44400000#32
  let main_v198 : FVec F S2x2048x1 .f32 := broadcastInDim S2x2048x1 ![] bcast_S_S2x2048x1 main_cst_40
  let main_v199 : FVec F S2x2048x1 .f32 := Host.divf main_v197 main_v198
  let main_c_41 : IVec S_ 32 := constantI S_ 32 0#32
  let main_v200 : FVec F S2x2048x1 .f32 := fn_var (F := F) main_v195 main_c_41
  let main_v201 : FVec F S2x2048x768 .f32 := broadcastInDim S2x2048x768 ![0, 1, 2] bcast_S2x2048x1_S2x2048x768_0_1_2 main_v199
  let main_v202 : FVec F S2x2048x768 .f32 := subf main_v195 main_v201
  let main_cst_42 : FVec F S_ .f32 := constant S_ .f32 0x3727C5AC#32
  let main_v203 : FVec F S2x2048x1 .f32 := broadcastInDim S2x2048x1 ![] bcast_S_S2x2048x1 main_cst_42
  let main_v204 : FVec F S2x2048x1 .f32 := addf main_v200 main_v203
  let main_v205 : FVec F S2x2048x1 .f32 := Host.sqrt main_v204
  let main_v206 : FVec F S2x2048x768 .f32 := broadcastInDim S2x2048x768 ![0, 1, 2] bcast_S2x2048x1_S2x2048x768_0_1_2 main_v205
  let main_v207 : FVec F S2x2048x768 .f32 := Host.divf main_v202 main_v206
  let main_v208 : FVec F S1x1x768 .f32 := broadcastInDim S1x1x768 ![2] bcast_S768_S1x1x768_2 main_arg10
  let main_v209 : FVec F S2x2048x768 .f32 := broadcastInDim S2x2048x768 ![0, 1, 2] bcast_S1x1x768_S2x2048x768_0_1_2 main_v208
  let main_v210 : FVec F S2x2048x768 .f32 := mulf main_v207 main_v209
  let main_v211 : FVec F S1x1x768 .f32 := broadcastInDim S1x1x768 ![2] bcast_S768_S1x1x768_2 main_arg11
  let main_v212 : FVec F S2x2048x768 .f32 := broadcastInDim S2x2048x768 ![0, 1, 2] bcast_S1x1x768_S2x2048x768_0_1_2 main_v211
  let main_v213 : FVec F S2x2048x768 .f32 := addf main_v210 main_v212
  let main_cst_43 : FVec F S_ .f32 := constant S_ .f32 0x00000000#32
  let main_v214 : FVec F S2x2048 .f32 := (fun x v => Host.reduceAdd x v reducesTo_S2x2048x768_S2x2048_d2 h_S_) main_v213 main_cst_43
  let main_v215 : FVec F S2x2048x1 .f32 := broadcastInDim S2x2048x1 ![0, 1] bcast_S2x2048_S2x2048x1_0_1 main_v214
  fn_part11 (F := F) main_arg1 main_arg2 main_arg4 main_arg5 main_arg6 main_arg7 main_arg8 main_arg9 main_arg10 main_arg11 main_v39 main_v57 main_v136 main_v194 main_v213 main_v215

def fn_part9 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_v39 : FVec F S2x2048x768 .f32) (main_v57 : FVec F S2x2048x768 .f32) (main_v118 : FVec F S2x2048x768 .f32) (main_v136 : FVec F S2x2048x768 .f32) (main_v151 : FVec F S2x2048 .f32) (main_indices_31 : IVec S2x2048x16 32) (main_v174 : FVec F S2x2048x16 .f32) (main_v176 : FVec F S2x1x2048 .f32) : IVec S2x2048x16 1 × IVec S2x2048x16 1 × IVec S2x2048x16 1 × IVec S2048 1 :=
  let main_v177 : FVec F S2x2048x2048 .f32 := broadcastInDim S2x2048x2048 ![0, 1, 2] bcast_S2x1x2048_S2x2048x2048_0_1_2 main_v176
  let main_v178 : FVec F S2x2048x16 .f32 := fn_take_along_axis (F := F) main_v177 main_indices_31
  let main_v179 : FVec F S2x2048x16 .f32 := mulf main_v174 main_v178
  let main_v180 : FVec F S2x2048x1 .f32 := fn_norm_2 (F := F) main_v136
  let main_cst_35 : FVec F S_ .f32 := constant S_ .f32 0x358637BD#32
  let main_v181 : FVec F S2x2048x1 .f32 := broadcastInDim S2x2048x1 ![] bcast_S_S2x2048x1 main_cst_35
  let main_v182 : FVec F S2x2048x1 .f32 := addf main_v180 main_v181
  let main_v183 : FVec F S2x2048x768 .f32 := broadcastInDim S2x2048x768 ![0, 1, 2] bcast_S2x2048x1_S2x2048x768_0_1_2 main_v182
  let main_v184 : FVec F S2x2048x768 .f32 := Host.divf main_v136 main_v183
  let main_c_36 : IVec S_ 32 := constantI S_ 32 0#32
  let main_v185 : IVec S2x2048x16 32 := broadcastInDim S2x2048x16 ![] bcast_S_S2x2048x16 main_c_36
  let main_v186 : IVec S2x2048x16 1 := cmpi .slt main_indices_31 main_v185
  let main_c_37 : IVec S_ 32 := constantI S_ 32 2048#32
  let main_v187 : IVec S2x2048x16 32 := broadcastInDim S2x2048x16 ![] bcast_S_S2x2048x16 main_c_37
  let main_v188 : IVec S2x2048x16 32 := addi main_indices_31 main_v187
  let main_v189 : IVec S2x2048x16 32 := select main_v186 main_v188 main_indices_31
  let main_v190 : IVec S2x2048x16x1 32 := broadcastInDim S2x2048x16x1 ![0, 1, 2] bcast_S2x2048x16_S2x2048x16x1_0_1_2 main_v189
  let main_v191 : FVec F S2x2048x16x768 .f32 := (fun x i => Host.gather gather_S2x2048x768_S2x2048x16x1_S2x2048x16x768_3_1_0_0_1_3_11768 x i) main_v184 main_v190
  let main_v192 : FVec F S2x2048x768 .f32 := (fun l r => Host.dotGeneral dot_S2x2048x16_S2x2048x16x768_S2x2048x768_2_2_n_3_01_01 none l r) main_v179 main_v191
  let main_cst_38 : FVec F S_ .f32 := constant S_ .f32 0x00000000#32
  let main_v193 : FVec F S2x2048 .f32 := (fun x v => Host.reduceAdd x v reducesTo_S2x2048x16_S2x2048_d2 h_S_) main_v179 main_cst_38
  let main_v194 : FVec F S2x2048 .f32 := addf main_v151 main_v193
  let main_v195 : FVec F S2x2048x768 .f32 := addf main_v118 main_v192
  let main_cst_39 : FVec F S_ .f32 := constant S_ .f32 0x00000000#32
  fn_part10 (F := F) main_arg1 main_arg2 main_arg4 main_arg5 main_arg6 main_arg7 main_arg8 main_arg9 main_arg10 main_arg11 main_v39 main_v57 main_v136 main_v194 main_v195 main_cst_39

def fn_part8 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_v39 : FVec F S2x2048x768 .f32) (main_v57 : FVec F S2x2048x768 .f32) (main_v118 : FVec F S2x2048x768 .f32) (main_v136 : FVec F S2x2048x768 .f32) (main_v151 : FVec F S2x2048 .f32) (main_v154 : FVec F S2x2048x2048 .f32) (main_v157 : FVec F S2x2048x2048 .f32) : IVec S2x2048x16 1 × IVec S2x2048x16 1 × IVec S2x2048x16 1 × IVec S2048 1 :=
  let main_v158 : FVec F S2x2048x2048 .f32 := Host.divf main_v154 main_v157
  let main_v159 : FVec F S2x2048x2048 .f32 := Host.absf main_v158
  let main_values_30 : FVec F S2x2048x16 .f32 := (fun x => (Host.topK S2x2048x16 2 (FloatOps.cmpfTotal .gt) x sliceFits_S2x2048x2048_S2x2048x16).1) main_v159
  let main_indices_31 : IVec S2x2048x16 32 := (fun x => (Host.topK S2x2048x16 2 (FloatOps.cmpfTotal .gt) x sliceFits_S2x2048x2048_S2x2048x16).2) main_v159
  let main_v160 : FVec F S2x2048x16 .f32 := fn_take_along_axis (F := F) main_v158 main_indices_31
  let main_v161 : FVec F S2x2048x16 .f32 := Host.sign main_v160
  let main_v162 : FVec F S2x2048x16 .f32 := Host.absf main_v160
  let main_cst_32 : FVec F S_ .f32 := constant S_ .f32 0xFF800000#32
  let main_v163 : FVec F S2x2048 .f32 := (fun x v => Host.reduce FloatOps.maximumf x v reducesTo_S2x2048x16_S2x2048_d2 h_S_) main_v162 main_cst_32
  let main_cst_33 : FVec F S_ .f32 := constant S_ .f32 0xFF800000#32
  let main_v164 : FVec F S2x2048 .f32 := broadcastInDim S2x2048 ![] bcast_S_S2x2048 main_cst_33
  let main_v165 : FVec F S2x2048 .f32 := maximumf main_v164 main_v163
  let main_v166 : FVec F S2x2048x1 .f32 := broadcastInDim S2x2048x1 ![0, 1] bcast_S2x2048_S2x2048x1_0_1 main_v165
  let main_v167 : FVec F S2x2048x16 .f32 := broadcastInDim S2x2048x16 ![0, 1, 2] bcast_S2x2048x1_S2x2048x16_0_1_2 main_v166
  let main_v168 : FVec F S2x2048x16 .f32 := subf main_v162 main_v167
  let main_v169 : FVec F S2x2048x16 .f32 := Host.exp main_v168
  let main_cst_34 : FVec F S_ .f32 := constant S_ .f32 0x00000000#32
  let main_v170 : FVec F S2x2048 .f32 := (fun x v => Host.reduceAdd x v reducesTo_S2x2048x16_S2x2048_d2 h_S_) main_v169 main_cst_34
  let main_v171 : FVec F S2x2048x1 .f32 := broadcastInDim S2x2048x1 ![0, 1] bcast_S2x2048_S2x2048x1_0_1 main_v170
  let main_v172 : FVec F S2x2048x16 .f32 := broadcastInDim S2x2048x16 ![0, 1, 2] bcast_S2x2048x1_S2x2048x16_0_1_2 main_v171
  let main_v173 : FVec F S2x2048x16 .f32 := Host.divf main_v169 main_v172
  let main_v174 : FVec F S2x2048x16 .f32 := mulf main_v161 main_v173
  let main_v175 : FVec F S2x2048 .f32 := fn_softplus_1 (F := F) main_v151
  let main_v176 : FVec F S2x1x2048 .f32 := broadcastInDim S2x1x2048 ![0, 2] bcast_S2x2048_S2x1x2048_0_2 main_v175
  fn_part9 (F := F) main_arg1 main_arg2 main_arg4 main_arg5 main_arg6 main_arg7 main_arg8 main_arg9 main_arg10 main_arg11 main_v39 main_v57 main_v118 main_v136 main_v151 main_indices_31 main_v174 main_v176

def fn_part7 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_v1 : FVec F S2x2048 .f32) (main_v39 : FVec F S2x2048x768 .f32) (main_v57 : FVec F S2x2048x768 .f32) (main_v99 : FVec F S2x2048 .f32) (main_v118 : FVec F S2x2048x768 .f32) (main_v136 : FVec F S2x2048x768 .f32) (main_v137 : FVec F S2x2048 .f32) : IVec S2x2048x16 1 × IVec S2x2048x16 1 × IVec S2x2048x16 1 × IVec S2048 1 :=
  let main_v138 : FVec F S2x2048 .f32 := Host.absf main_v1
  let main_cst_26 : FVec F S_ .f32 := constant S_ .f32 0xFF800000#32
  let main_v139 : FVec F S2 .f32 := (fun x v => Host.reduce FloatOps.maximumf x v reducesTo_S2x2048_S2_d1 h_S_) main_v138 main_cst_26
  let main_cst_27 : FVec F S_ .f32 := constant S_ .f32 0xFF800000#32
  let main_v140 : FVec F S2 .f32 := broadcastInDim S2 ![] bcast_S_S2 main_cst_27
  let main_v141 : FVec F S2 .f32 := maximumf main_v140 main_v139
  let main_v142 : FVec F S2x1 .f32 := broadcastInDim S2x1 ![0] bcast_S2_S2x1_0 main_v141
  let main_v143 : FVec F S2x2048 .f32 := broadcastInDim S2x2048 ![0, 1] bcast_S2x1_S2x2048_0_1 main_v142
  let main_v144 : FVec F S2x2048 .f32 := subf main_v138 main_v143
  let main_v145 : FVec F S2x2048 .f32 := Host.exp main_v144
  let main_cst_28 : FVec F S_ .f32 := constant S_ .f32 0x00000000#32
  let main_v146 : FVec F S2 .f32 := (fun x v => Host.reduceAdd x v reducesTo_S2x2048_S2_d1 h_S_) main_v145 main_cst_28
  let main_v147 : FVec F S2x1 .f32 := broadcastInDim S2x1 ![0] bcast_S2_S2x1_0 main_v146
  let main_v148 : FVec F S2x2048 .f32 := broadcastInDim S2x2048 ![0, 1] bcast_S2x1_S2x2048_0_1 main_v147
  let main_v149 : FVec F S2x2048 .f32 := Host.divf main_v145 main_v148
  let main_v150 : FVec F S2x2048 .f32 := mulf main_v137 main_v149
  let main_v151 : FVec F S2x2048 .f32 := addf main_v150 main_v99
  let main_v152 : FVec F S2x2048x64 .f32 := (fun l r => Host.dotGeneral dot_S2x2048x768_S768x64_S2x2048x64_2_0_01_1_n_n none l r) main_v136 main_arg8
  let main_v153 : FVec F S2x2048x64 .f32 := (fun l r => Host.dotGeneral dot_S2x2048x768_S768x64_S2x2048x64_2_0_01_1_n_n none l r) main_v136 main_arg9
  let main_v154 : FVec F S2x2048x2048 .f32 := (fun l r => Host.dotGeneral dot_S2x2048x64_S2x2048x64_S2x2048x2048_2_2_1_1_0_0 none l r) main_v153 main_v152
  let main_cst_29 : FVec F S_ .f32 := constant S_ .f32 0x42800000#32
  let main_v155 : FVec F S_ .f32 := Host.sqrt main_cst_29
  let main_v156 : FVec F S_ .f32 := id main_v155
  let main_v157 : FVec F S2x2048x2048 .f32 := broadcastInDim S2x2048x2048 ![] bcast_S_S2x2048x2048 main_v156
  fn_part8 (F := F) main_arg1 main_arg2 main_arg4 main_arg5 main_arg6 main_arg7 main_arg8 main_arg9 main_arg10 main_arg11 main_v39 main_v57 main_v118 main_v136 main_v151 main_v154 main_v157

def fn_part6 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg14 : FVec F S768 .f32) (main_arg15 : FVec F S768 .f32) (main_v1 : FVec F S2x2048 .f32) (main_v39 : FVec F S2x2048x768 .f32) (main_v57 : FVec F S2x2048x768 .f32) (main_v99 : FVec F S2x2048 .f32) (main_v115 : FVec F S2x2048x768 .f32) (main_v117 : FVec F S2x2048x768 .f32) : IVec S2x2048x16 1 × IVec S2x2048x16 1 × IVec S2x2048x16 1 × IVec S2048 1 :=
  let main_v118 : FVec F S2x2048x768 .f32 := addf main_v115 main_v117
  let main_cst_22 : FVec F S_ .f32 := constant S_ .f32 0x00000000#32
  let main_v119 : FVec F S2x2048 .f32 := (fun x v => Host.reduceAdd x v reducesTo_S2x2048x768_S2x2048_d2 h_S_) main_v118 main_cst_22
  let main_v120 : FVec F S2x2048x1 .f32 := broadcastInDim S2x2048x1 ![0, 1] bcast_S2x2048_S2x2048x1_0_1 main_v119
  let main_cst_23 : FVec F S_ .f32 := constant S_ .f32 0x44400000#32
  let main_v121 : FVec F S2x2048x1 .f32 := broadcastInDim S2x2048x1 ![] bcast_S_S2x2048x1 main_cst_23
  let main_v122 : FVec F S2x2048x1 .f32 := Host.divf main_v120 main_v121
  let main_c_24 : IVec S_ 32 := constantI S_ 32 0#32
  let main_v123 : FVec F S2x2048x1 .f32 := fn_var (F := F) main_v118 main_c_24
  let main_v124 : FVec F S2x2048x768 .f32 := broadcastInDim S2x2048x768 ![0, 1, 2] bcast_S2x2048x1_S2x2048x768_0_1_2 main_v122
  let main_v125 : FVec F S2x2048x768 .f32 := subf main_v118 main_v124
  let main_cst_25 : FVec F S_ .f32 := constant S_ .f32 0x3727C5AC#32
  let main_v126 : FVec F S2x2048x1 .f32 := broadcastInDim S2x2048x1 ![] bcast_S_S2x2048x1 main_cst_25
  let main_v127 : FVec F S2x2048x1 .f32 := addf main_v123 main_v126
  let main_v128 : FVec F S2x2048x1 .f32 := Host.sqrt main_v127
  let main_v129 : FVec F S2x2048x768 .f32 := broadcastInDim S2x2048x768 ![0, 1, 2] bcast_S2x2048x1_S2x2048x768_0_1_2 main_v128
  let main_v130 : FVec F S2x2048x768 .f32 := Host.divf main_v125 main_v129
  let main_v131 : FVec F S1x1x768 .f32 := broadcastInDim S1x1x768 ![2] bcast_S768_S1x1x768_2 main_arg14
  let main_v132 : FVec F S2x2048x768 .f32 := broadcastInDim S2x2048x768 ![0, 1, 2] bcast_S1x1x768_S2x2048x768_0_1_2 main_v131
  let main_v133 : FVec F S2x2048x768 .f32 := mulf main_v130 main_v132
  let main_v134 : FVec F S1x1x768 .f32 := broadcastInDim S1x1x768 ![2] bcast_S768_S1x1x768_2 main_arg15
  let main_v135 : FVec F S2x2048x768 .f32 := broadcastInDim S2x2048x768 ![0, 1, 2] bcast_S1x1x768_S2x2048x768_0_1_2 main_v134
  let main_v136 : FVec F S2x2048x768 .f32 := addf main_v133 main_v135
  let main_v137 : FVec F S2x2048 .f32 := Host.sign main_v1
  fn_part7 (F := F) main_arg1 main_arg2 main_arg4 main_arg5 main_arg6 main_arg7 main_arg8 main_arg9 main_arg10 main_arg11 main_v1 main_v39 main_v57 main_v99 main_v118 main_v136 main_v137

def fn_part5 {F : FTy → Type} [FloatOps F] (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg14 : FVec F S768 .f32) (main_arg15 : FVec F S768 .f32) (main_v1 : FVec F S2x2048 .f32) (main_v21 : FVec F S2x2048x768 .f32) (main_v39 : FVec F S2x2048x768 .f32) (main_v57 : FVec F S2x2048x768 .f32) (main_v85 : FVec F S2x2048x16 .f32) (main_v98 : FVec F S2x2048x768 .f32) : IVec S2x2048x16 1 × IVec S2x2048x16 1 × IVec S2x2048x16 1 × IVec S2048 1 :=
  let main_cst_17 : FVec F S_ .f32 := constant S_ .f32 0x00000000#32
  let main_v99 : FVec F S2x2048 .f32 := (fun x v => Host.reduceAdd x v reducesTo_S2x2048x16_S2x2048_d2 h_S_) main_v85 main_cst_17
  let main_v100 : FVec F S2x2048x768 .f32 := addf main_v21 main_v98
  let main_cst_18 : FVec F S_ .f32 := constant S_ .f32 0x00000000#32
  let main_v101 : FVec F S2x2048 .f32 := (fun x v => Host.reduceAdd x v reducesTo_S2x2048x768_S2x2048_d2 h_S_) main_v100 main_cst_18
  let main_v102 : FVec F S2x2048x1 .f32 := broadcastInDim S2x2048x1 ![0, 1] bcast_S2x2048_S2x2048x1_0_1 main_v101
  let main_cst_19 : FVec F S_ .f32 := constant S_ .f32 0x44400000#32
  let main_v103 : FVec F S2x2048x1 .f32 := broadcastInDim S2x2048x1 ![] bcast_S_S2x2048x1 main_cst_19
  let main_v104 : FVec F S2x2048x1 .f32 := Host.divf main_v102 main_v103
  let main_c_20 : IVec S_ 32 := constantI S_ 32 0#32
  let main_v105 : FVec F S2x2048x1 .f32 := fn_var (F := F) main_v100 main_c_20
  let main_v106 : FVec F S2x2048x768 .f32 := broadcastInDim S2x2048x768 ![0, 1, 2] bcast_S2x2048x1_S2x2048x768_0_1_2 main_v104
  let main_v107 : FVec F S2x2048x768 .f32 := subf main_v100 main_v106
  let main_cst_21 : FVec F S_ .f32 := constant S_ .f32 0x3727C5AC#32
  let main_v108 : FVec F S2x2048x1 .f32 := broadcastInDim S2x2048x1 ![] bcast_S_S2x2048x1 main_cst_21
  let main_v109 : FVec F S2x2048x1 .f32 := addf main_v105 main_v108
  let main_v110 : FVec F S2x2048x1 .f32 := Host.sqrt main_v109
  let main_v111 : FVec F S2x2048x768 .f32 := broadcastInDim S2x2048x768 ![0, 1, 2] bcast_S2x2048x1_S2x2048x768_0_1_2 main_v110
  let main_v112 : FVec F S2x2048x768 .f32 := Host.divf main_v107 main_v111
  let main_v113 : FVec F S1x1x768 .f32 := broadcastInDim S1x1x768 ![2] bcast_S768_S1x1x768_2 main_arg10
  let main_v114 : FVec F S2x2048x768 .f32 := broadcastInDim S2x2048x768 ![0, 1, 2] bcast_S1x1x768_S2x2048x768_0_1_2 main_v113
  let main_v115 : FVec F S2x2048x768 .f32 := mulf main_v112 main_v114
  let main_v116 : FVec F S1x1x768 .f32 := broadcastInDim S1x1x768 ![2] bcast_S768_S1x1x768_2 main_arg11
  let main_v117 : FVec F S2x2048x768 .f32 := broadcastInDim S2x2048x768 ![0, 1, 2] bcast_S1x1x768_S2x2048x768_0_1_2 main_v116
  fn_part6 (F := F) main_arg1 main_arg2 main_arg4 main_arg5 main_arg6 main_arg7 main_arg8 main_arg9 main_arg10 main_arg11 main_arg14 main_arg15 main_v1 main_v39 main_v57 main_v99 main_v115 main_v117

def fn_part4 {F : FTy → Type} [FloatOps F] (main_arg0 : FVec F S2x2048 .f32) (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg14 : FVec F S768 .f32) (main_arg15 : FVec F S768 .f32) (main_v1 : FVec F S2x2048 .f32) (main_v21 : FVec F S2x2048x768 .f32) (main_v39 : FVec F S2x2048x768 .f32) (main_v57 : FVec F S2x2048x768 .f32) (main_indices : IVec S2x2048x16 32) (main_v67 : FVec F S2x2048x16 .f32) (main_v75 : FVec F S2x2048x16 .f32) (main_v77 : FVec F S2x2048x1 .f32) : IVec S2x2048x16 1 × IVec S2x2048x16 1 × IVec S2x2048x16 1 × IVec S2048 1 :=
  let main_v78 : FVec F S2x2048x16 .f32 := broadcastInDim S2x2048x16 ![0, 1, 2] bcast_S2x2048x1_S2x2048x16_0_1_2 main_v77
  let main_v79 : FVec F S2x2048x16 .f32 := Host.divf main_v75 main_v78
  let main_v80 : FVec F S2x2048x16 .f32 := mulf main_v67 main_v79
  let main_v81 : FVec F S2x2048 .f32 := fn_softplus (F := F) main_arg0
  let main_v82 : FVec F S2x1x2048 .f32 := broadcastInDim S2x1x2048 ![0, 2] bcast_S2x2048_S2x1x2048_0_2 main_v81
  let main_v83 : FVec F S2x2048x2048 .f32 := broadcastInDim S2x2048x2048 ![0, 1, 2] bcast_S2x1x2048_S2x2048x2048_0_1_2 main_v82
  let main_v84 : FVec F S2x2048x16 .f32 := fn_take_along_axis (F := F) main_v83 main_indices
  let main_v85 : FVec F S2x2048x16 .f32 := mulf main_v80 main_v84
  let main_v86 : FVec F S2x2048x1 .f32 := fn_norm (F := F) main_arg1
  let main_cst_14 : FVec F S_ .f32 := constant S_ .f32 0x358637BD#32
  let main_v87 : FVec F S2x2048x1 .f32 := broadcastInDim S2x2048x1 ![] bcast_S_S2x2048x1 main_cst_14
  let main_v88 : FVec F S2x2048x1 .f32 := addf main_v86 main_v87
  let main_v89 : FVec F S2x2048x768 .f32 := broadcastInDim S2x2048x768 ![0, 1, 2] bcast_S2x2048x1_S2x2048x768_0_1_2 main_v88
  let main_v90 : FVec F S2x2048x768 .f32 := Host.divf main_arg1 main_v89
  let main_c_15 : IVec S_ 32 := constantI S_ 32 0#32
  let main_v91 : IVec S2x2048x16 32 := broadcastInDim S2x2048x16 ![] bcast_S_S2x2048x16 main_c_15
  let main_v92 : IVec S2x2048x16 1 := cmpi .slt main_indices main_v91
  let main_c_16 : IVec S_ 32 := constantI S_ 32 2048#32
  let main_v93 : IVec S2x2048x16 32 := broadcastInDim S2x2048x16 ![] bcast_S_S2x2048x16 main_c_16
  let main_v94 : IVec S2x2048x16 32 := addi main_indices main_v93
  let main_v95 : IVec S2x2048x16 32 := select main_v92 main_v94 main_indices
  let main_v96 : IVec S2x2048x16x1 32 := broadcastInDim S2x2048x16x1 ![0, 1, 2] bcast_S2x2048x16_S2x2048x16x1_0_1_2 main_v95
  let main_v97 : FVec F S2x2048x16x768 .f32 := (fun x i => Host.gather gather_S2x2048x768_S2x2048x16x1_S2x2048x16x768_3_1_0_0_1_3_11768 x i) main_v90 main_v96
  let main_v98 : FVec F S2x2048x768 .f32 := (fun l r => Host.dotGeneral dot_S2x2048x16_S2x2048x16x768_S2x2048x768_2_2_n_3_01_01 none l r) main_v85 main_v97
  fn_part5 (F := F) main_arg1 main_arg2 main_arg4 main_arg5 main_arg6 main_arg7 main_arg8 main_arg9 main_arg10 main_arg11 main_arg14 main_arg15 main_v1 main_v21 main_v39 main_v57 main_v85 main_v98

def fn_part3 {F : FTy → Type} [FloatOps F] (main_arg0 : FVec F S2x2048 .f32) (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg14 : FVec F S768 .f32) (main_arg15 : FVec F S768 .f32) (main_v1 : FVec F S2x2048 .f32) (main_v21 : FVec F S2x2048x768 .f32) (main_v39 : FVec F S2x2048x768 .f32) (main_v57 : FVec F S2x2048x768 .f32) (main_v58 : FVec F S2x2048x64 .f32) (main_v59 : FVec F S2x2048x64 .f32) : IVec S2x2048x16 1 × IVec S2x2048x16 1 × IVec S2x2048x16 1 × IVec S2048 1 :=
  let main_v60 : FVec F S2x2048x2048 .f32 := (fun l r => Host.dotGeneral dot_S2x2048x64_S2x2048x64_S2x2048x2048_2_2_1_1_0_0 none l r) main_v59 main_v58
  let main_cst_10 : FVec F S_ .f32 := constant S_ .f32 0x42800000#32
  let main_v61 : FVec F S_ .f32 := Host.sqrt main_cst_10
  let main_v62 : FVec F S_ .f32 := id main_v61
  let main_v63 : FVec F S2x2048x2048 .f32 := broadcastInDim S2x2048x2048 ![] bcast_S_S2x2048x2048 main_v62
  let main_v64 : FVec F S2x2048x2048 .f32 := Host.divf main_v60 main_v63
  let main_v65 : FVec F S2x2048x2048 .f32 := Host.absf main_v64
  let main_values : FVec F S2x2048x16 .f32 := (fun x => (Host.topK S2x2048x16 2 (FloatOps.cmpfTotal .gt) x sliceFits_S2x2048x2048_S2x2048x16).1) main_v65
  let main_indices : IVec S2x2048x16 32 := (fun x => (Host.topK S2x2048x16 2 (FloatOps.cmpfTotal .gt) x sliceFits_S2x2048x2048_S2x2048x16).2) main_v65
  let main_v66 : FVec F S2x2048x16 .f32 := fn_take_along_axis (F := F) main_v64 main_indices
  let main_v67 : FVec F S2x2048x16 .f32 := Host.sign main_v66
  let main_v68 : FVec F S2x2048x16 .f32 := Host.absf main_v66
  let main_cst_11 : FVec F S_ .f32 := constant S_ .f32 0xFF800000#32
  let main_v69 : FVec F S2x2048 .f32 := (fun x v => Host.reduce FloatOps.maximumf x v reducesTo_S2x2048x16_S2x2048_d2 h_S_) main_v68 main_cst_11
  let main_cst_12 : FVec F S_ .f32 := constant S_ .f32 0xFF800000#32
  let main_v70 : FVec F S2x2048 .f32 := broadcastInDim S2x2048 ![] bcast_S_S2x2048 main_cst_12
  let main_v71 : FVec F S2x2048 .f32 := maximumf main_v70 main_v69
  let main_v72 : FVec F S2x2048x1 .f32 := broadcastInDim S2x2048x1 ![0, 1] bcast_S2x2048_S2x2048x1_0_1 main_v71
  let main_v73 : FVec F S2x2048x16 .f32 := broadcastInDim S2x2048x16 ![0, 1, 2] bcast_S2x2048x1_S2x2048x16_0_1_2 main_v72
  let main_v74 : FVec F S2x2048x16 .f32 := subf main_v68 main_v73
  let main_v75 : FVec F S2x2048x16 .f32 := Host.exp main_v74
  let main_cst_13 : FVec F S_ .f32 := constant S_ .f32 0x00000000#32
  let main_v76 : FVec F S2x2048 .f32 := (fun x v => Host.reduceAdd x v reducesTo_S2x2048x16_S2x2048_d2 h_S_) main_v75 main_cst_13
  let main_v77 : FVec F S2x2048x1 .f32 := broadcastInDim S2x2048x1 ![0, 1] bcast_S2x2048_S2x2048x1_0_1 main_v76
  fn_part4 (F := F) main_arg0 main_arg1 main_arg2 main_arg4 main_arg5 main_arg6 main_arg7 main_arg8 main_arg9 main_arg10 main_arg11 main_arg14 main_arg15 main_v1 main_v21 main_v39 main_v57 main_indices main_v67 main_v75 main_v77

def fn_part2 {F : FTy → Type} [FloatOps F] (main_arg0 : FVec F S2x2048 .f32) (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg12 : FVec F S768 .f32) (main_arg13 : FVec F S768 .f32) (main_arg14 : FVec F S768 .f32) (main_arg15 : FVec F S768 .f32) (main_v1 : FVec F S2x2048 .f32) (main_v21 : FVec F S2x2048x768 .f32) (main_v39 : FVec F S2x2048x768 .f32) : IVec S2x2048x16 1 × IVec S2x2048x16 1 × IVec S2x2048x16 1 × IVec S2048 1 :=
  let main_cst_6 : FVec F S_ .f32 := constant S_ .f32 0x00000000#32
  let main_v40 : FVec F S2x2048 .f32 := (fun x v => Host.reduceAdd x v reducesTo_S2x2048x768_S2x2048_d2 h_S_) main_arg1 main_cst_6
  let main_v41 : FVec F S2x2048x1 .f32 := broadcastInDim S2x2048x1 ![0, 1] bcast_S2x2048_S2x2048x1_0_1 main_v40
  let main_cst_7 : FVec F S_ .f32 := constant S_ .f32 0x44400000#32
  let main_v42 : FVec F S2x2048x1 .f32 := broadcastInDim S2x2048x1 ![] bcast_S_S2x2048x1 main_cst_7
  let main_v43 : FVec F S2x2048x1 .f32 := Host.divf main_v41 main_v42
  let main_c_8 : IVec S_ 32 := constantI S_ 32 0#32
  let main_v44 : FVec F S2x2048x1 .f32 := fn_var_0 (F := F) main_arg1 main_c_8
  let main_v45 : FVec F S2x2048x768 .f32 := broadcastInDim S2x2048x768 ![0, 1, 2] bcast_S2x2048x1_S2x2048x768_0_1_2 main_v43
  let main_v46 : FVec F S2x2048x768 .f32 := subf main_arg1 main_v45
  let main_cst_9 : FVec F S_ .f32 := constant S_ .f32 0x3727C5AC#32
  let main_v47 : FVec F S2x2048x1 .f32 := broadcastInDim S2x2048x1 ![] bcast_S_S2x2048x1 main_cst_9
  let main_v48 : FVec F S2x2048x1 .f32 := addf main_v44 main_v47
  let main_v49 : FVec F S2x2048x1 .f32 := Host.sqrt main_v48
  let main_v50 : FVec F S2x2048x768 .f32 := broadcastInDim S2x2048x768 ![0, 1, 2] bcast_S2x2048x1_S2x2048x768_0_1_2 main_v49
  let main_v51 : FVec F S2x2048x768 .f32 := Host.divf main_v46 main_v50
  let main_v52 : FVec F S1x1x768 .f32 := broadcastInDim S1x1x768 ![2] bcast_S768_S1x1x768_2 main_arg12
  let main_v53 : FVec F S2x2048x768 .f32 := broadcastInDim S2x2048x768 ![0, 1, 2] bcast_S1x1x768_S2x2048x768_0_1_2 main_v52
  let main_v54 : FVec F S2x2048x768 .f32 := mulf main_v51 main_v53
  let main_v55 : FVec F S1x1x768 .f32 := broadcastInDim S1x1x768 ![2] bcast_S768_S1x1x768_2 main_arg13
  let main_v56 : FVec F S2x2048x768 .f32 := broadcastInDim S2x2048x768 ![0, 1, 2] bcast_S1x1x768_S2x2048x768_0_1_2 main_v55
  let main_v57 : FVec F S2x2048x768 .f32 := addf main_v54 main_v56
  let main_v58 : FVec F S2x2048x64 .f32 := (fun l r => Host.dotGeneral dot_S2x2048x768_S768x64_S2x2048x64_2_0_01_1_n_n none l r) main_arg1 main_arg4
  let main_v59 : FVec F S2x2048x64 .f32 := (fun l r => Host.dotGeneral dot_S2x2048x768_S768x64_S2x2048x64_2_0_01_1_n_n none l r) main_v39 main_arg5
  fn_part3 (F := F) main_arg0 main_arg1 main_arg2 main_arg4 main_arg5 main_arg6 main_arg7 main_arg8 main_arg9 main_arg10 main_arg11 main_arg14 main_arg15 main_v1 main_v21 main_v39 main_v57 main_v58 main_v59

def fn_part1 {F : FTy → Type} [FloatOps F] (main_arg0 : FVec F S2x2048 .f32) (main_arg1 : FVec F S2x2048x768 .f32) (main_arg2 : FVec F S2048 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg12 : FVec F S768 .f32) (main_arg13 : FVec F S768 .f32) (main_arg14 : FVec F S768 .f32) (main_arg15 : FVec F S768 .f32) (main_v1 : FVec F S2x2048 .f32) (main_v18 : FVec F S2x2048x768 .f32) (main_v19 : FVec F S1x1x768 .f32) : IVec S2x2048x16 1 × IVec S2x2048x16 1 × IVec S2x2048x16 1 × IVec S2048 1 :=
  let main_v20 : FVec F S2x2048x768 .f32 := broadcastInDim S2x2048x768 ![0, 1, 2] bcast_S1x1x768_S2x2048x768_0_1_2 main_v19
  let main_v21 : FVec F S2x2048x768 .f32 := addf main_v18 main_v20
  let main_cst_2 : FVec F S_ .f32 := constant S_ .f32 0x00000000#32
  let main_v22 : FVec F S2x2048 .f32 := (fun x v => Host.reduceAdd x v reducesTo_S2x2048x768_S2x2048_d2 h_S_) main_v21 main_cst_2
  let main_v23 : FVec F S2x2048x1 .f32 := broadcastInDim S2x2048x1 ![0, 1] bcast_S2x2048_S2x2048x1_0_1 main_v22
  let main_cst_3 : FVec F S_ .f32 := constant S_ .f32 0x44400000#32
  let main_v24 : FVec F S2x2048x1 .f32 := broadcastInDim S2x2048x1 ![] bcast_S_S2x2048x1 main_cst_3
  let main_v25 : FVec F S2x2048x1 .f32 := Host.divf main_v23 main_v24
  let main_c_4 : IVec S_ 32 := constantI S_ 32 0#32
  let main_v26 : FVec F S2x2048x1 .f32 := fn_var (F := F) main_v21 main_c_4
  let main_v27 : FVec F S2x2048x768 .f32 := broadcastInDim S2x2048x768 ![0, 1, 2] bcast_S2x2048x1_S2x2048x768_0_1_2 main_v25
  let main_v28 : FVec F S2x2048x768 .f32 := subf main_v21 main_v27
  let main_cst_5 : FVec F S_ .f32 := constant S_ .f32 0x3727C5AC#32
  let main_v29 : FVec F S2x2048x1 .f32 := broadcastInDim S2x2048x1 ![] bcast_S_S2x2048x1 main_cst_5
  let main_v30 : FVec F S2x2048x1 .f32 := addf main_v26 main_v29
  let main_v31 : FVec F S2x2048x1 .f32 := Host.sqrt main_v30
  let main_v32 : FVec F S2x2048x768 .f32 := broadcastInDim S2x2048x768 ![0, 1, 2] bcast_S2x2048x1_S2x2048x768_0_1_2 main_v31
  let main_v33 : FVec F S2x2048x768 .f32 := Host.divf main_v28 main_v32
  let main_v34 : FVec F S1x1x768 .f32 := broadcastInDim S1x1x768 ![2] bcast_S768_S1x1x768_2 main_arg10
  let main_v35 : FVec F S2x2048x768 .f32 := broadcastInDim S2x2048x768 ![0, 1, 2] bcast_S1x1x768_S2x2048x768_0_1_2 main_v34
  let main_v36 : FVec F S2x2048x768 .f32 := mulf main_v33 main_v35
  let main_v37 : FVec F S1x1x768 .f32 := broadcastInDim S1x1x768 ![2] bcast_S768_S1x1x768_2 main_arg11
  let main_v38 : FVec F S2x2048x768 .f32 := broadcastInDim S2x2048x768 ![0, 1, 2] bcast_S1x1x768_S2x2048x768_0_1_2 main_v37
  let main_v39 : FVec F S2x2048x768 .f32 := addf main_v36 main_v38
  fn_part2 (F := F) main_arg0 main_arg1 main_arg2 main_arg4 main_arg5 main_arg6 main_arg7 main_arg8 main_arg9 main_arg10 main_arg11 main_arg12 main_arg13 main_arg14 main_arg15 main_v1 main_v21 main_v39

def fn {F : FTy → Type} [FloatOps F] (main_arg0 : FVec F S2x2048 .f32) (main_arg1 : FVec F S2x2048x768 .f32) (main_arg2 : FVec F S2048 .f32) (main_arg3 : FVec F S2048x768 .f32) (main_arg4 : FVec F S768x64 .f32) (main_arg5 : FVec F S768x64 .f32) (main_arg6 : FVec F S768x64 .f32) (main_arg7 : FVec F S768x64 .f32) (main_arg8 : FVec F S768x64 .f32) (main_arg9 : FVec F S768x64 .f32) (main_arg10 : FVec F S768 .f32) (main_arg11 : FVec F S768 .f32) (main_arg12 : FVec F S768 .f32) (main_arg13 : FVec F S768 .f32) (main_arg14 : FVec F S768 .f32) (main_arg15 : FVec F S768 .f32) : IVec S2x2048x16 1 × IVec S2x2048x16 1 × IVec S2x2048x16 1 × IVec S2048 1 :=
  let main_v0 : FVec F S1x2048 .f32 := broadcastInDim S1x2048 ![1] bcast_S2048_S1x2048_1 main_arg2
  let main_v1 : FVec F S2x2048 .f32 := broadcastInDim S2x2048 ![0, 1] bcast_S1x2048_S2x2048_0_1 main_v0
  let main_v2 : FVec F S1x2048x768 .f32 := broadcastInDim S1x2048x768 ![1, 2] bcast_S2048x768_S1x2048x768_1_2 main_arg3
  let main_v3 : FVec F S2x2048x768 .f32 := broadcastInDim S2x2048x768 ![0, 1, 2] bcast_S1x2048x768_S2x2048x768_0_1_2 main_v2
  let main_cst : FVec F S_ .f32 := constant S_ .f32 0x00000000#32
  let main_v4 : FVec F S2x2048 .f32 := (fun x v => Host.reduceAdd x v reducesTo_S2x2048x768_S2x2048_d2 h_S_) main_v3 main_cst
  let main_v5 : FVec F S2x2048x1 .f32 := broadcastInDim S2x2048x1 ![0, 1] bcast_S2x2048_S2x2048x1_0_1 main_v4
  let main_cst_0 : FVec F S_ .f32 := constant S_ .f32 0x44400000#32
  let main_v6 : FVec F S2x2048x1 .f32 := broadcastInDim S2x2048x1 ![] bcast_S_S2x2048x1 main_cst_0
  let main_v7 : FVec F S2x2048x1 .f32 := Host.divf main_v5 main_v6
  let main_c : IVec S_ 32 := constantI S_ 32 0#32
  let main_v8 : FVec F S2x2048x1 .f32 := fn_var (F := F) main_v3 main_c
  let main_v9 : FVec F S2x2048x768 .f32 := broadcastInDim S2x2048x768 ![0, 1, 2] bcast_S2x2048x1_S2x2048x768_0_1_2 main_v7
  let main_v10 : FVec F S2x2048x768 .f32 := subf main_v3 main_v9
  let main_cst_1 : FVec F S_ .f32 := constant S_ .f32 0x3727C5AC#32
  let main_v11 : FVec F S2x2048x1 .f32 := broadcastInDim S2x2048x1 ![] bcast_S_S2x2048x1 main_cst_1
  let main_v12 : FVec F S2x2048x1 .f32 := addf main_v8 main_v11
  let main_v13 : FVec F S2x2048x1 .f32 := Host.sqrt main_v12
  let main_v14 : FVec F S2x2048x768 .f32 := broadcastInDim S2x2048x768 ![0, 1, 2] bcast_S2x2048x1_S2x2048x768_0_1_2 main_v13
  let main_v15 : FVec F S2x2048x768 .f32 := Host.divf main_v10 main_v14
  let main_v16 : FVec F S1x1x768 .f32 := broadcastInDim S1x1x768 ![2] bcast_S768_S1x1x768_2 main_arg10
  let main_v17 : FVec F S2x2048x768 .f32 := broadcastInDim S2x2048x768 ![0, 1, 2] bcast_S1x1x768_S2x2048x768_0_1_2 main_v16
  let main_v18 : FVec F S2x2048x768 .f32 := mulf main_v15 main_v17
  let main_v19 : FVec F S1x1x768 .f32 := broadcastInDim S1x1x768 ![2] bcast_S768_S1x1x768_2 main_arg11
  fn_part1 (F := F) main_arg0 main_arg1 main_arg2 main_arg4 main_arg5 main_arg6 main_arg7 main_arg8 main_arg9 main_arg10 main_arg11 main_arg12 main_arg13 main_arg14 main_arg15 main_v1 main_v18 main_v19
-- ==== Kernel.lean ====
abbrev S2x2048 : Shape := ⟨2, ![2, 2048]⟩
abbrev S2x2048x768 : Shape := ⟨3, ![2, 2048, 768]⟩
abbrev S2048 : Shape := ⟨1, ![2048]⟩
abbrev S2048x768 : Shape := ⟨2, ![2048, 768]⟩
abbrev S768x64 : Shape := ⟨2, ![768, 64]⟩
abbrev S768 : Shape := ⟨1, ![768]⟩
abbrev S1x2048 : Shape := ⟨2, ![1, 2048]⟩
abbrev S1 : Shape := ⟨1, ![1]⟩
abbrev S1x1 : Shape := ⟨2, ![1, 1]⟩
abbrev S1x2048x768 : Shape := ⟨3, ![1, 2048, 768]⟩
abbrev S_ : Shape := ⟨0, ![]⟩
abbrev S2x2048x1 : Shape := ⟨3, ![2, 2048, 1]⟩
abbrev S1x1x768 : Shape := ⟨3, ![1, 1, 768]⟩
abbrev S2x2x1x1024 : Shape := ⟨4, ![2, 2, 1, 1024]⟩
abbrev S2x2048x64 : Shape := ⟨3, ![2, 2048, 64]⟩
abbrev S1x1024x768 : Shape := ⟨3, ![1, 1024, 768]⟩
abbrev S1x1x1x1024 : Shape := ⟨4, ![1, 1, 1, 1024]⟩
abbrev S1x1024x64 : Shape := ⟨3, ![1, 1024, 64]⟩
abbrev S1024x768 : Shape := ⟨2, ![1024, 768]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S2x1x2048 : Shape := ⟨3, ![2, 1, 2048]⟩
abbrev S1x2048x64 : Shape := ⟨3, ![1, 2048, 64]⟩
abbrev S1x1x2048 : Shape := ⟨3, ![1, 1, 2048]⟩
abbrev S2048x64 : Shape := ⟨2, ![2048, 64]⟩
abbrev S1x256x64 : Shape := ⟨3, ![1, 256, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S256x768 : Shape := ⟨2, ![256, 768]⟩
abbrev S1x1x1x256 : Shape := ⟨4, ![1, 1, 1, 256]⟩
abbrev S1x256x768 : Shape := ⟨3, ![1, 256, 768]⟩

abbrev nBuf : Space → Nat
  | .hbm => 360
  | .vmem => 86
  | .smem => 0
  | _ => 0

abbrev hbmTy0_0 (i : Nat) : BufTy := match i % 128 with
  | 0 => ⟨S2x2048, .f32⟩
  | 1 => ⟨S2x2048x768, .f32⟩
  | 2 => ⟨S2048, .f32⟩
  | 3 => ⟨S2048x768, .f32⟩
  | 4 => ⟨S768x64, .f32⟩
  | 5 => ⟨S768x64, .f32⟩
  | 6 => ⟨S768x64, .f32⟩
  | 7 => ⟨S768x64, .f32⟩
  | 8 => ⟨S768x64, .f32⟩
  | 9 => ⟨S768x64, .f32⟩
  | 10 => ⟨S768, .f32⟩
  | 11 => ⟨S768, .f32⟩
  | 12 => ⟨S768, .f32⟩
  | 13 => ⟨S768, .f32⟩
  | 14 => ⟨S768, .f32⟩
  | 15 => ⟨S768, .f32⟩
  | 16 => ⟨S1x2048, .f32⟩
  | 17 => ⟨S1x2048, .f32⟩
  | 18 => ⟨S1x2048x768, .f32⟩
  | 19 => ⟨S2x2048x768, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S_, .i32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x768, .f32⟩
  | 34 => ⟨S2x2048x768, .f32⟩
  | 35 => ⟨S2x2048x768, .f32⟩
  | 36 => ⟨S_, .f32⟩
  | 37 => ⟨S_, .f32⟩
  | 38 => ⟨S_, .f32⟩
  | 39 => ⟨S_, .f32⟩
  | 40 => ⟨S2x2048, .f32⟩
  | 41 => ⟨S2x2048x1, .f32⟩
  | 42 => ⟨S2x2048x1, .f32⟩
  | 43 => ⟨S2x2048x1, .f32⟩
  | 44 => ⟨S_, .f32⟩
  | 45 => ⟨S_, .i1⟩
  | 46 => ⟨S_, .f32⟩
  | 47 => ⟨S_, .f32⟩
  | 48 => ⟨S2x2048x1, .f32⟩
  | 49 => ⟨S2x2048x1, .f32⟩
  | 50 => ⟨S2x2048x768, .f32⟩
  | 51 => ⟨S2x2048x768, .f32⟩
  | 52 => ⟨S_, .f32⟩
  | 53 => ⟨S2x2048x1, .f32⟩
  | 54 => ⟨S2x2048x1, .f32⟩
  | 55 => ⟨S2x2048x1, .f32⟩
  | 56 => ⟨S2x2048x768, .f32⟩
  | 57 => ⟨S2x2048x768, .f32⟩
  | 58 => ⟨S1x1x768, .f32⟩
  | 59 => ⟨S2x2048x768, .f32⟩
  | 60 => ⟨S2x2048x768, .f32⟩
  | 61 => ⟨S1x1x768, .f32⟩
  | 62 => ⟨S2x2048x768, .f32⟩
  | 63 => ⟨S2x2048x768, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S_, .i32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S2x2048x768, .f32⟩
  | 78 => ⟨S2x2048x768, .f32⟩
  | 79 => ⟨S2x2048x768, .f32⟩
  | 80 => ⟨S_, .f32⟩
  | 81 => ⟨S_, .f32⟩
  | 82 => ⟨S_, .f32⟩
  | 83 => ⟨S_, .f32⟩
  | 84 => ⟨S2x2048, .f32⟩
  | 85 => ⟨S2x2048x1, .f32⟩
  | 86 => ⟨S2x2048x1, .f32⟩
  | 87 => ⟨S2x2048x1, .f32⟩
  | 88 => ⟨S_, .f32⟩
  | 89 => ⟨S_, .i1⟩
  | 90 => ⟨S_, .f32⟩
  | 91 => ⟨S_, .f32⟩
  | 92 => ⟨S2x2048x1, .f32⟩
  | 93 => ⟨S2x2048x1, .f32⟩
  | 94 => ⟨S2x2048x768, .f32⟩
  | 95 => ⟨S2x2048x768, .f32⟩
  | 96 => ⟨S_, .f32⟩
  | 97 => ⟨S2x2048x1, .f32⟩
  | 98 => ⟨S2x2048x1, .f32⟩
  | 99 => ⟨S2x2048x1, .f32⟩
  | 100 => ⟨S2x2048x768, .f32⟩
  | 101 => ⟨S2x2048x768, .f32⟩
  | 102 => ⟨S1x1x768, .f32⟩
  | 103 => ⟨S2x2048x768, .f32⟩
  | 104 => ⟨S2x2048x768, .f32⟩
  | 105 => ⟨S1x1x768, .f32⟩
  | 106 => ⟨S2x2048x768, .f32⟩
  | 107 => ⟨S2x2048x768, .f32⟩
  | 108 => ⟨S2x2x1x1024, .f32⟩
  | 109 => ⟨S2x2048x64, .f32⟩
  | 110 => ⟨S2x2048x64, .f32⟩
  | 111 => ⟨S2x2048x768, .f32⟩
  | 112 => ⟨S2x2x1x1024, .f32⟩
  | 113 => ⟨S2x1x2048, .f32⟩
  | 114 => ⟨S2x2x1x1024, .f32⟩
  | 115 => ⟨S2x2048x768, .f32⟩
  | 116 => ⟨S2x2048, .f32⟩
  | 117 => ⟨S2x2048, .f32⟩
  | 118 => ⟨S2x2048, .f32⟩
  | 119 => ⟨S2x2048x768, .f32⟩
  | 120 => ⟨S_, .f32⟩
  | 121 => ⟨S2x2048, .f32⟩
  | 122 => ⟨S2x2048x1, .f32⟩
  | 123 => ⟨S_, .f32⟩
  | 124 => ⟨S2x2048x1, .f32⟩
  | 125 => ⟨S2x2048x1, .f32⟩
  | 126 => ⟨S_, .i32⟩
  | 127 => ⟨S_, .f32⟩
  | _ => ⟨S2x2048, .f32⟩

abbrev hbmTy0_1 (i : Nat) : BufTy := match i % 128 with
  | 0 => ⟨S2x2048, .f32⟩
  | 1 => ⟨S2x2048x1, .f32⟩
  | 2 => ⟨S_, .f32⟩
  | 3 => ⟨S2x2048x1, .f32⟩
  | 4 => ⟨S2x2048x1, .f32⟩
  | 5 => ⟨S2x2048x768, .f32⟩
  | 6 => ⟨S2x2048x768, .f32⟩
  | 7 => ⟨S2x2048x768, .f32⟩
  | 8 => ⟨S_, .f32⟩
  | 9 => ⟨S_, .f32⟩
  | 10 => ⟨S_, .f32⟩
  | 11 => ⟨S_, .f32⟩
  | 12 => ⟨S2x2048, .f32⟩
  | 13 => ⟨S2x2048x1, .f32⟩
  | 14 => ⟨S2x2048x1, .f32⟩
  | 15 => ⟨S2x2048x1, .f32⟩
  | 16 => ⟨S_, .f32⟩
  | 17 => ⟨S_, .i1⟩
  | 18 => ⟨S_, .f32⟩
  | 19 => ⟨S_, .f32⟩
  | 20 => ⟨S2x2048x1, .f32⟩
  | 21 => ⟨S2x2048x1, .f32⟩
  | 22 => ⟨S2x2048x768, .f32⟩
  | 23 => ⟨S2x2048x768, .f32⟩
  | 24 => ⟨S_, .f32⟩
  | 25 => ⟨S2x2048x1, .f32⟩
  | 26 => ⟨S2x2048x1, .f32⟩
  | 27 => ⟨S2x2048x1, .f32⟩
  | 28 => ⟨S2x2048x768, .f32⟩
  | 29 => ⟨S2x2048x768, .f32⟩
  | 30 => ⟨S1x1x768, .f32⟩
  | 31 => ⟨S2x2048x768, .f32⟩
  | 32 => ⟨S2x2048x768, .f32⟩
  | 33 => ⟨S1x1x768, .f32⟩
  | 34 => ⟨S2x2048x768, .f32⟩
  | 35 => ⟨S2x2048x768, .f32⟩
  | 36 => ⟨S_, .f32⟩
  | 37 => ⟨S2x2048, .f32⟩
  | 38 => ⟨S2x2048x1, .f32⟩
  | 39 => ⟨S_, .f32⟩
  | 40 => ⟨S2x2048x1, .f32⟩
  | 41 => ⟨S2x2048x1, .f32⟩
  | 42 => ⟨S_, .i32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S2x2048x768, .f32⟩
  | 50 => ⟨S2x2048x768, .f32⟩
  | 51 => ⟨S2x2048x768, .f32⟩
  | 52 => ⟨S_, .f32⟩
  | 53 => ⟨S_, .f32⟩
  | 54 => ⟨S_, .f32⟩
  | 55 => ⟨S_, .f32⟩
  | 56 => ⟨S2x2048, .f32⟩
  | 57 => ⟨S2x2048x1, .f32⟩
  | 58 => ⟨S2x2048x1, .f32⟩
  | 59 => ⟨S2x2048x1, .f32⟩
  | 60 => ⟨S_, .f32⟩
  | 61 => ⟨S_, .i1⟩
  | 62 => ⟨S_, .f32⟩
  | 63 => ⟨S_, .f32⟩
  | 64 => ⟨S2x2048x1, .f32⟩
  | 65 => ⟨S2x2048x1, .f32⟩
  | 66 => ⟨S2x2048x768, .f32⟩
  | 67 => ⟨S2x2048x768, .f32⟩
  | 68 => ⟨S_, .f32⟩
  | 69 => ⟨S2x2048x1, .f32⟩
  | 70 => ⟨S2x2048x1, .f32⟩
  | 71 => ⟨S2x2048x1, .f32⟩
  | 72 => ⟨S2x2048x768, .f32⟩
  | 73 => ⟨S2x2048x768, .f32⟩
  | 74 => ⟨S1x1x768, .f32⟩
  | 75 => ⟨S2x2048x768, .f32⟩
  | 76 => ⟨S2x2048x768, .f32⟩
  | 77 => ⟨S1x1x768, .f32⟩
  | 78 => ⟨S2x2048x768, .f32⟩
  | 79 => ⟨S2x2048x768, .f32⟩
  | 80 => ⟨S2x2x1x1024, .f32⟩
  | 81 => ⟨S2x2048x64, .f32⟩
  | 82 => ⟨S2x2048x64, .f32⟩
  | 83 => ⟨S2x2048x768, .f32⟩
  | 84 => ⟨S2x2x1x1024, .f32⟩
  | 85 => ⟨S2x1x2048, .f32⟩
  | 86 => ⟨S2x2x1x1024, .f32⟩
  | 87 => ⟨S2x2048x768, .f32⟩
  | 88 => ⟨S2x2048, .f32⟩
  | 89 => ⟨S2x2048, .f32⟩
  | 90 => ⟨S2x2048x768, .f32⟩
  | 91 => ⟨S_, .f32⟩
  | 92 => ⟨S2x2048, .f32⟩
  | 93 => ⟨S2x2048x1, .f32⟩
  | 94 => ⟨S_, .f32⟩
  | 95 => ⟨S2x2048x1, .f32⟩
  | 96 => ⟨S2x2048x1, .f32⟩
  | 97 => ⟨S_, .i32⟩
  | 98 => ⟨S_, .f32⟩
  | 99 => ⟨S2x2048, .f32⟩
  | 100 => ⟨S2x2048x1, .f32⟩
  | 101 => ⟨S_, .f32⟩
  | 102 => ⟨S2x2048x1, .f32⟩
  | 103 => ⟨S2x2048x1, .f32⟩
  | 104 => ⟨S2x2048x768, .f32⟩
  | 105 => ⟨S2x2048x768, .f32⟩
  | 106 => ⟨S2x2048x768, .f32⟩
  | 107 => ⟨S_, .f32⟩
  | 108 => ⟨S_, .f32⟩
  | 109 => ⟨S_, .f32⟩
  | 110 => ⟨S_, .f32⟩
  | 111 => ⟨S2x2048, .f32⟩
  | 112 => ⟨S2x2048x1, .f32⟩
  | 113 => ⟨S2x2048x1, .f32⟩
  | 114 => ⟨S2x2048x1, .f32⟩
  | 115 => ⟨S_, .f32⟩
  | 116 => ⟨S_, .i1⟩
  | 117 => ⟨S_, .f32⟩
  | 118 => ⟨S_, .f32⟩
  | 119 => ⟨S2x2048x1, .f32⟩
  | 120 => ⟨S2x2048x1, .f32⟩
  | 121 => ⟨S2x2048x768, .f32⟩
  | 122 => ⟨S2x2048x768, .f32⟩
  | 123 => ⟨S_, .f32⟩
  | 124 => ⟨S2x2048x1, .f32⟩
  | 125 => ⟨S2x2048x1, .f32⟩
  | 126 => ⟨S2x2048x1, .f32⟩
  | 127 => ⟨S2x2048x768, .f32⟩
  | _ => ⟨S2x2048, .f32⟩

abbrev hbmTy0_2 (i : Nat) : BufTy := match i % 128 with
  | 0 => ⟨S2x2048x768, .f32⟩
  | 1 => ⟨S1x1x768, .f32⟩
  | 2 => ⟨S2x2048x768, .f32⟩
  | 3 => ⟨S2x2048x768, .f32⟩
  | 4 => ⟨S1x1x768, .f32⟩
  | 5 => ⟨S2x2048x768, .f32⟩
  | 6 => ⟨S2x2048x768, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .i32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S2x2048x768, .f32⟩
  | 21 => ⟨S2x2048x768, .f32⟩
  | 22 => ⟨S2x2048x768, .f32⟩
  | 23 => ⟨S_, .f32⟩
  | 24 => ⟨S_, .f32⟩
  | 25 => ⟨S_, .f32⟩
  | 26 => ⟨S_, .f32⟩
  | 27 => ⟨S2x2048, .f32⟩
  | 28 => ⟨S2x2048x1, .f32⟩
  | 29 => ⟨S2x2048x1, .f32⟩
  | 30 => ⟨S2x2048x1, .f32⟩
  | 31 => ⟨S_, .f32⟩
  | 32 => ⟨S_, .i1⟩
  | 33 => ⟨S_, .f32⟩
  | 34 => ⟨S_, .f32⟩
  | 35 => ⟨S2x2048x1, .f32⟩
  | 36 => ⟨S2x2048x1, .f32⟩
  | 37 => ⟨S2x2048x768, .f32⟩
  | 38 => ⟨S2x2048x768, .f32⟩
  | 39 => ⟨S_, .f32⟩
  | 40 => ⟨S2x2048x1, .f32⟩
  | 41 => ⟨S2x2048x1, .f32⟩
  | 42 => ⟨S2x2048x1, .f32⟩
  | 43 => ⟨S2x2048x768, .f32⟩
  | 44 => ⟨S2x2048x768, .f32⟩
  | 45 => ⟨S1x1x768, .f32⟩
  | 46 => ⟨S2x2048x768, .f32⟩
  | 47 => ⟨S2x2048x768, .f32⟩
  | 48 => ⟨S1x1x768, .f32⟩
  | 49 => ⟨S2x2048x768, .f32⟩
  | 50 => ⟨S2x2048x768, .f32⟩
  | 51 => ⟨S_, .f32⟩
  | 52 => ⟨S2x2048, .f32⟩
  | 53 => ⟨S2x2048x1, .f32⟩
  | 54 => ⟨S_, .f32⟩
  | 55 => ⟨S2x2048x1, .f32⟩
  | 56 => ⟨S2x2048x1, .f32⟩
  | 57 => ⟨S_, .i32⟩
  | 58 => ⟨S_, .f32⟩
  | 59 => ⟨S2x2048, .f32⟩
  | 60 => ⟨S2x2048x1, .f32⟩
  | 61 => ⟨S_, .f32⟩
  | 62 => ⟨S2x2048x1, .f32⟩
  | 63 => ⟨S2x2048x1, .f32⟩
  | 64 => ⟨S2x2048x768, .f32⟩
  | 65 => ⟨S2x2048x768, .f32⟩
  | 66 => ⟨S2x2048x768, .f32⟩
  | 67 => ⟨S_, .f32⟩
  | 68 => ⟨S_, .f32⟩
  | 69 => ⟨S_, .f32⟩
  | 70 => ⟨S_, .f32⟩
  | 71 => ⟨S2x2048, .f32⟩
  | 72 => ⟨S2x2048x1, .f32⟩
  | 73 => ⟨S2x2048x1, .f32⟩
  | 74 => ⟨S2x2048x1, .f32⟩
  | 75 => ⟨S_, .f32⟩
  | 76 => ⟨S_, .i1⟩
  | 77 => ⟨S_, .f32⟩
  | 78 => ⟨S_, .f32⟩
  | 79 => ⟨S2x2048x1, .f32⟩
  | 80 => ⟨S2x2048x1, .f32⟩
  | 81 => ⟨S2x2048x768, .f32⟩
  | 82 => ⟨S2x2048x768, .f32⟩
  | 83 => ⟨S_, .f32⟩
  | 84 => ⟨S2x2048x1, .f32⟩
  | 85 => ⟨S2x2048x1, .f32⟩
  | 86 => ⟨S2x2048x1, .f32⟩
  | 87 => ⟨S2x2048x768, .f32⟩
  | 88 => ⟨S2x2048x768, .f32⟩
  | 89 => ⟨S1x1x768, .f32⟩
  | 90 => ⟨S2x2048x768, .f32⟩
  | 91 => ⟨S2x2048x768, .f32⟩
  | 92 => ⟨S1x1x768, .f32⟩
  | 93 => ⟨S2x2048x768, .f32⟩
  | 94 => ⟨S2x2048x768, .f32⟩
  | 95 => ⟨S2x2x1x1024, .f32⟩
  | 96 => ⟨S2x2048x64, .f32⟩
  | 97 => ⟨S2x2048x64, .f32⟩
  | 98 => ⟨S2x2048x768, .f32⟩
  | 99 => ⟨S2x2x1x1024, .f32⟩
  | 100 => ⟨S2x1x2048, .f32⟩
  | 101 => ⟨S2x2x1x1024, .f32⟩
  | 102 => ⟨S2x2048x768, .f32⟩
  | 103 => ⟨S2x2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S1x2048, .f32⟩
  | .local _ .vmem, ⟨2, _⟩ => ⟨S1x1024x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1x1x1024, .f32⟩
  | .local _ .vmem, ⟨7, _⟩ => ⟨S1x1x1x1024, .f32⟩
  | .local _ .vmem, ⟨8, _⟩ => ⟨S768x64, .f32⟩
  | .local _ .vmem, ⟨9, _⟩ => ⟨S768x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | .local _ .vmem, ⟨14, _⟩ => ⟨S1x1024x768, .f32⟩
  | .local _ .vmem, ⟨15, _⟩ => ⟨S1x1024x768, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1024x64, .f32⟩
  | .local _ .vmem, ⟨19, _⟩ => ⟨S1x1024x64, .f32⟩
  | .local _ .vmem, ⟨20, _⟩ => ⟨S1x2048x64, .f32⟩
  | .local _ .vmem, ⟨21, _⟩ => ⟨S1x2048x64, .f32⟩
  | .local _ .vmem, ⟨22, _⟩ => ⟨S1x1x2048, .f32⟩
  | .local _ .vmem, ⟨23, _⟩ => ⟨S1x1x2048, .f32⟩
  | .local _ .vmem, ⟨24, _⟩ => ⟨S1x2048x768, .f32⟩
  | .local _ .vmem, ⟨25, _⟩ => ⟨S1x2048x768, .f32⟩
  | .local _ .vmem, ⟨26, _⟩ => ⟨S1x1x1x1024, .f32⟩
  | .local _ .vmem, ⟨27, _⟩ => ⟨S1x1x1x1024, .f32⟩
  | .local _ .vmem, ⟨28, _⟩ => ⟨S1x1024x768, .f32⟩
  | .local _ .vmem, ⟨29, _⟩ => ⟨S1x1024x768, .f32⟩
  | .local _ .vmem, ⟨30, _⟩ => ⟨S1x1024x768, .f32⟩
  | .local _ .vmem, ⟨31, _⟩ => ⟨S1x1024x768, .f32⟩
  | .local _ .vmem, ⟨32, _⟩ => ⟨S1x1024x768, .f32⟩
  | .local _ .vmem, ⟨33, _⟩ => ⟨S1x1024x768, .f32⟩
  | .local _ .vmem, ⟨34, _⟩ => ⟨S1x1x1x1024, .f32⟩
  | .local _ .vmem, ⟨35, _⟩ => ⟨S1x1x1x1024, .f32⟩
  | .local _ .vmem, ⟨36, _⟩ => ⟨S768x64, .f32⟩
  | .local _ .vmem, ⟨37, _⟩ => ⟨S768x64, .f32⟩
  | .local _ .vmem, ⟨38, _⟩ => ⟨S1x1024x64, .f32⟩
  | .local _ .vmem, ⟨39, _⟩ => ⟨S1x1024x64, .f32⟩
  | .local _ .vmem, ⟨40, _⟩ => ⟨S1x1024x64, .f32⟩
  | .local _ .vmem, ⟨41, _⟩ => ⟨S1x1024x64, .f32⟩
  | .local _ .vmem, ⟨42, _⟩ => ⟨S1x1024x768, .f32⟩
  | .local _ .vmem, ⟨43, _⟩ => ⟨S1x1024x768, .f32⟩
  | .local _ .vmem, ⟨44, _⟩ => ⟨S1x1x1x1024, .f32⟩
  | .local _ .vmem, ⟨45, _⟩ => ⟨S1x1x1x1024, .f32⟩
  | .local _ .vmem, ⟨46, _⟩ => ⟨S1x1024x64, .f32⟩
  | .local _ .vmem, ⟨47, _⟩ => ⟨S1x1024x64, .f32⟩
  | .local _ .vmem, ⟨48, _⟩ => ⟨S1x2048x64, .f32⟩
  | .local _ .vmem, ⟨49, _⟩ => ⟨S1x2048x64, .f32⟩
  | .local _ .vmem, ⟨50, _⟩ => ⟨S1x1x2048, .f32⟩
  | .local _ .vmem, ⟨51, _⟩ => ⟨S1x1x2048, .f32⟩
  | .local _ .vmem, ⟨52, _⟩ => ⟨S1x2048x768, .f32⟩
  | .local _ .vmem, ⟨53, _⟩ => ⟨S1x2048x768, .f32⟩
  | .local _ .vmem, ⟨54, _⟩ => ⟨S1x1x1x1024, .f32⟩
  | .local _ .vmem, ⟨55, _⟩ => ⟨S1x1x1x1024, .f32⟩
  | .local _ .vmem, ⟨56, _⟩ => ⟨S1x1024x768, .f32⟩
  | .local _ .vmem, ⟨57, _⟩ => ⟨S1x1024x768, .f32⟩
  | .local _ .vmem, ⟨58, _⟩ => ⟨S1x1024x768, .f32⟩
  | .local _ .vmem, ⟨59, _⟩ => ⟨S1x1024x768, .f32⟩
  | .local _ .vmem, ⟨60, _⟩ => ⟨S1x1024x768, .f32⟩
  | .local _ .vmem, ⟨61, _⟩ => ⟨S1x1024x768, .f32⟩
  | .local _ .vmem, ⟨62, _⟩ => ⟨S1x1x1x1024, .f32⟩
  | .local _ .vmem, ⟨63, _⟩ => ⟨S1x1x1x1024, .f32⟩
  | .local _ .vmem, ⟨64, _⟩ => ⟨S768x64, .f32⟩
  | .local _ .vmem, ⟨65, _⟩ => ⟨S768x64, .f32⟩
  | .local _ .vmem, ⟨66, _⟩ => ⟨S1x1024x64, .f32⟩
  | .local _ .vmem, ⟨67, _⟩ => ⟨S1x1024x64, .f32⟩
  | .local _ .vmem, ⟨68, _⟩ => ⟨S1x1024x64, .f32⟩
  | .local _ .vmem, ⟨69, _⟩ => ⟨S1x1024x64, .f32⟩
  | .local _ .vmem, ⟨70, _⟩ => ⟨S1x1024x768, .f32⟩
  | .local _ .vmem, ⟨71, _⟩ => ⟨S1x1024x768, .f32⟩
  | .local _ .vmem, ⟨72, _⟩ => ⟨S1x1x1x1024, .f32⟩
  | .local _ .vmem, ⟨73, _⟩ => ⟨S1x1x1x1024, .f32⟩
  | .local _ .vmem, ⟨74, _⟩ => ⟨S1x1024x64, .f32⟩
  | .local _ .vmem, ⟨75, _⟩ => ⟨S1x1024x64, .f32⟩
  | .local _ .vmem, ⟨76, _⟩ => ⟨S1x2048x64, .f32⟩
  | .local _ .vmem, ⟨77, _⟩ => ⟨S1x2048x64, .f32⟩
  | .local _ .vmem, ⟨78, _⟩ => ⟨S1x1x2048, .f32⟩
  | .local _ .vmem, ⟨79, _⟩ => ⟨S1x1x2048, .f32⟩
  | .local _ .vmem, ⟨80, _⟩ => ⟨S1x2048x768, .f32⟩
  | .local _ .vmem, ⟨81, _⟩ => ⟨S1x2048x768, .f32⟩
  | .local _ .vmem, ⟨82, _⟩ => ⟨S1x1x1x1024, .f32⟩
  | .local _ .vmem, ⟨83, _⟩ => ⟨S1x1x1x1024, .f32⟩
  | .local _ .vmem, ⟨84, _⟩ => ⟨S1x1024x768, .f32⟩
  | .local _ .vmem, ⟨85, _⟩ => ⟨S1x1024x768, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_2 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_c_4 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_cst_3 : Ref sig .tc := ⟨.hbm, 88, rfl⟩
abbrev main_call1_v13 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_5 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41_0 : Ref sig .tc := ⟨.hbm, 109, rfl⟩
abbrev main_v41_1 : Ref sig .tc := ⟨.hbm, 110, rfl⟩
abbrev main_v41_2 : Ref sig .tc := ⟨.hbm, 111, rfl⟩
abbrev main_v41_3 : Ref sig .tc := ⟨.hbm, 112, rfl⟩
abbrev main_v42 : Ref sig .tc := ⟨.hbm, 113, rfl⟩
abbrev main_v43_0 : Ref sig .tc := ⟨.hbm, 114, rfl⟩
abbrev main_v43_1 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_cst_6 : Ref sig .tc := ⟨.hbm, 120, rfl⟩
abbrev main_v48 : Ref sig .tc := ⟨.hbm, 121, rfl⟩
abbrev main_v49 : Ref sig .tc := ⟨.hbm, 122, rfl⟩
abbrev main_cst_7 : Ref sig .tc := ⟨.hbm, 123, rfl⟩
abbrev main_v50 : Ref sig .tc := ⟨.hbm, 124, rfl⟩
abbrev main_v51 : Ref sig .tc := ⟨.hbm, 125, rfl⟩
abbrev main_c_8 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_cst_1 : Ref sig .tc := ⟨.hbm, 137, rfl⟩
abbrev main_call2_v8 : Ref sig .tc := ⟨.hbm, 138, rfl⟩
abbrev main_call2_cst_2 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_call2_cst_3 : Ref sig .tc := ⟨.hbm, 144, rfl⟩
abbrev main_call2_v13 : Ref sig .tc := ⟨.hbm, 145, rfl⟩
abbrev main_call2_cst_4 : Ref sig .tc := ⟨.hbm, 146, rfl⟩
abbrev main_call2_call0_v0 : Ref sig .tc := ⟨.hbm, 147, rfl⟩
abbrev main_call2_call0_v1 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_cst_9 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_cst_10 : Ref sig .tc := ⟨.hbm, 164, rfl⟩
abbrev main_v66 : Ref sig .tc := ⟨.hbm, 165, rfl⟩
abbrev main_v67 : Ref sig .tc := ⟨.hbm, 166, rfl⟩
abbrev main_cst_11 : Ref sig .tc := ⟨.hbm, 167, rfl⟩
abbrev main_v68 : Ref sig .tc := ⟨.hbm, 168, rfl⟩
abbrev main_v69 : Ref sig .tc := ⟨.hbm, 169, rfl⟩
abbrev main_c_12 : Ref sig .tc := ⟨.hbm, 170, rfl⟩
abbrev main_call3_cst : Ref sig .tc := ⟨.hbm, 171, rfl⟩
abbrev main_call3_v0 : Ref sig .tc := ⟨.hbm, 172, rfl⟩
abbrev main_call3_v1 : Ref sig .tc := ⟨.hbm, 173, rfl⟩
abbrev main_call3_cst_0 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_v6 : Ref sig .tc := ⟨.hbm, 179, rfl⟩
abbrev main_call3_v7 : Ref sig .tc := ⟨.hbm, 180, rfl⟩
abbrev main_call3_cst_1 : Ref sig .tc := ⟨.hbm, 181, rfl⟩
abbrev main_call3_v8 : Ref sig .tc := ⟨.hbm, 182, rfl⟩
abbrev main_call3_cst_2 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_v12 : Ref sig .tc := ⟨.hbm, 187, rfl⟩
abbrev main_call3_cst_3 : Ref sig .tc := ⟨.hbm, 188, rfl⟩
abbrev main_call3_v13 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_cst_13 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85_0 : Ref sig .tc := ⟨.hbm, 209, rfl⟩
abbrev main_v85_1 : Ref sig .tc := ⟨.hbm, 210, rfl⟩
abbrev main_v85_2 : Ref sig .tc := ⟨.hbm, 211, rfl⟩
abbrev main_v85_3 : Ref sig .tc := ⟨.hbm, 212, rfl⟩
abbrev main_v86 : Ref sig .tc := ⟨.hbm, 213, rfl⟩
abbrev main_v87_0 : Ref sig .tc := ⟨.hbm, 214, rfl⟩
abbrev main_v87_1 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_cst_14 : Ref sig .tc := ⟨.hbm, 219, rfl⟩
abbrev main_v91 : Ref sig .tc := ⟨.hbm, 220, rfl⟩
abbrev main_v92 : Ref sig .tc := ⟨.hbm, 221, rfl⟩
abbrev main_cst_15 : Ref sig .tc := ⟨.hbm, 222, rfl⟩
abbrev main_v93 : Ref sig .tc := ⟨.hbm, 223, rfl⟩
abbrev main_v94 : Ref sig .tc := ⟨.hbm, 224, rfl⟩
abbrev main_c_16 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_v12 : Ref sig .tc := ⟨.hbm, 242, rfl⟩
abbrev main_call4_cst_3 : Ref sig .tc := ⟨.hbm, 243, rfl⟩
abbrev main_call4_v13 : Ref sig .tc := ⟨.hbm, 244, rfl⟩
abbrev main_call4_cst_4 : Ref sig .tc := ⟨.hbm, 245, rfl⟩
abbrev main_call4_call0_v0 : Ref sig .tc := ⟨.hbm, 246, rfl⟩
abbrev main_call4_call0_v1 : Ref sig .tc := ⟨.hbm, 247, rfl⟩
abbrev main_v95 : Ref sig .tc := ⟨.hbm, 248, rfl⟩
abbrev main_v96 : Ref sig .tc := ⟨.hbm, 249, rfl⟩
abbrev main_v97 : Ref sig .tc := ⟨.hbm, 250, rfl⟩
abbrev main_cst_17 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev main_v108 : Ref sig .tc := ⟨.hbm, 262, rfl⟩
abbrev main_cst_18 : Ref sig .tc := ⟨.hbm, 263, rfl⟩
abbrev main_v109 : Ref sig .tc := ⟨.hbm, 264, rfl⟩
abbrev main_v110 : Ref sig .tc := ⟨.hbm, 265, rfl⟩
abbrev main_cst_19 : Ref sig .tc := ⟨.hbm, 266, rfl⟩
abbrev main_v111 : Ref sig .tc := ⟨.hbm, 267, rfl⟩
abbrev main_v112 : Ref sig .tc := ⟨.hbm, 268, rfl⟩
abbrev main_c_20 : Ref sig .tc := ⟨.hbm, 269, rfl⟩
abbrev main_call5_cst : Ref sig .tc := ⟨.hbm, 270, rfl⟩
abbrev main_call5_v0 : Ref sig .tc := ⟨.hbm, 271, rfl⟩
abbrev main_call5_v1 : Ref sig .tc := ⟨.hbm, 272, rfl⟩
abbrev main_call5_cst_0 : Ref sig .tc := ⟨.hbm, 273, rfl⟩
abbrev main_call5_v2 : Ref sig .tc := ⟨.hbm, 274, rfl⟩
abbrev main_call5_v3 : Ref sig .tc := ⟨.hbm, 275, rfl⟩
abbrev main_call5_v4 : Ref sig .tc := ⟨.hbm, 276, rfl⟩
abbrev main_call5_v5 : Ref sig .tc := ⟨.hbm, 277, rfl⟩
abbrev main_call5_v6 : Ref sig .tc := ⟨.hbm, 278, rfl⟩
abbrev main_call5_v7 : Ref sig .tc := ⟨.hbm, 279, rfl⟩
abbrev main_call5_cst_1 : Ref sig .tc := ⟨.hbm, 280, rfl⟩
abbrev main_call5_v8 : Ref sig .tc := ⟨.hbm, 281, rfl⟩
abbrev main_call5_cst_2 : Ref sig .tc := ⟨.hbm, 282, rfl⟩
abbrev main_call5_v9 : Ref sig .tc := ⟨.hbm, 283, rfl⟩
abbrev main_call5_v10 : Ref sig .tc := ⟨.hbm, 284, rfl⟩
abbrev main_call5_v11 : Ref sig .tc := ⟨.hbm, 285, rfl⟩
abbrev main_call5_v12 : Ref sig .tc := ⟨.hbm, 286, rfl⟩
abbrev main_call5_cst_3 : Ref sig .tc := ⟨.hbm, 287, rfl⟩
abbrev main_call5_v13 : Ref sig .tc := ⟨.hbm, 288, rfl⟩
abbrev main_call5_cst_4 : Ref sig .tc := ⟨.hbm, 289, rfl⟩
abbrev main_call5_call0_v0 : Ref sig .tc := ⟨.hbm, 290, rfl⟩
abbrev main_call5_call0_v1 : Ref sig .tc := ⟨.hbm, 291, rfl⟩
abbrev main_v113 : Ref sig .tc := ⟨.hbm, 292, rfl⟩
abbrev main_v114 : Ref sig .tc := ⟨.hbm, 293, rfl⟩
abbrev main_v115 : Ref sig .tc := ⟨.hbm, 294, rfl⟩
abbrev main_cst_21 : Ref sig .tc := ⟨.hbm, 295, rfl⟩
abbrev main_v116 : Ref sig .tc := ⟨.hbm, 296, rfl⟩
abbrev main_v117 : Ref sig .tc := ⟨.hbm, 297, rfl⟩
abbrev main_v118 : Ref sig .tc := ⟨.hbm, 298, rfl⟩
abbrev main_v119 : Ref sig .tc := ⟨.hbm, 299, rfl⟩
abbrev main_v120 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_cst_22 : Ref sig .tc := ⟨.hbm, 307, rfl⟩
abbrev main_v127 : Ref sig .tc := ⟨.hbm, 308, rfl⟩
abbrev main_v128 : Ref sig .tc := ⟨.hbm, 309, rfl⟩
abbrev main_cst_23 : Ref sig .tc := ⟨.hbm, 310, rfl⟩
abbrev main_v129 : Ref sig .tc := ⟨.hbm, 311, rfl⟩
abbrev main_v130 : Ref sig .tc := ⟨.hbm, 312, rfl⟩
abbrev main_c_24 : Ref sig .tc := ⟨.hbm, 313, rfl⟩
abbrev main_call6_cst : Ref sig .tc := ⟨.hbm, 314, rfl⟩
abbrev main_call6_v0 : Ref sig .tc := ⟨.hbm, 315, rfl⟩
abbrev main_call6_v1 : Ref sig .tc := ⟨.hbm, 316, rfl⟩
abbrev main_call6_cst_0 : Ref sig .tc := ⟨.hbm, 317, rfl⟩
abbrev main_call6_v2 : Ref sig .tc := ⟨.hbm, 318, rfl⟩
abbrev main_call6_v3 : Ref sig .tc := ⟨.hbm, 319, rfl⟩
abbrev main_call6_v4 : Ref sig .tc := ⟨.hbm, 320, rfl⟩
abbrev main_call6_v5 : Ref sig .tc := ⟨.hbm, 321, rfl⟩
abbrev main_call6_v6 : Ref sig .tc := ⟨.hbm, 322, rfl⟩
abbrev main_call6_v7 : Ref sig .tc := ⟨.hbm, 323, rfl⟩
abbrev main_call6_cst_1 : Ref sig .tc := ⟨.hbm, 324, rfl⟩
abbrev main_call6_v8 : Ref sig .tc := ⟨.hbm, 325, rfl⟩
abbrev main_call6_cst_2 : Ref sig .tc := ⟨.hbm, 326, rfl⟩
abbrev main_call6_v9 : Ref sig .tc := ⟨.hbm, 327, rfl⟩
abbrev main_call6_v10 : Ref sig .tc := ⟨.hbm, 328, rfl⟩
abbrev main_call6_v11 : Ref sig .tc := ⟨.hbm, 329, rfl⟩
abbrev main_call6_v12 : Ref sig .tc := ⟨.hbm, 330, rfl⟩
abbrev main_call6_cst_3 : Ref sig .tc := ⟨.hbm, 331, rfl⟩
abbrev main_call6_v13 : Ref sig .tc := ⟨.hbm, 332, rfl⟩
abbrev main_call6_cst_4 : Ref sig .tc := ⟨.hbm, 333, rfl⟩
abbrev main_call6_call0_v0 : Ref sig .tc := ⟨.hbm, 334, rfl⟩
abbrev main_call6_call0_v1 : Ref sig .tc := ⟨.hbm, 335, rfl⟩
abbrev main_v131 : Ref sig .tc := ⟨.hbm, 336, rfl⟩
abbrev main_v132 : Ref sig .tc := ⟨.hbm, 337, rfl⟩
abbrev main_v133 : Ref sig .tc := ⟨.hbm, 338, rfl⟩
abbrev main_cst_25 : Ref sig .tc := ⟨.hbm, 339, rfl⟩
abbrev main_v134 : Ref sig .tc := ⟨.hbm, 340, rfl⟩
abbrev main_v135 : Ref sig .tc := ⟨.hbm, 341, rfl⟩
abbrev main_v136 : Ref sig .tc := ⟨.hbm, 342, rfl⟩
abbrev main_v137 : Ref sig .tc := ⟨.hbm, 343, rfl⟩
abbrev main_v138 : Ref sig .tc := ⟨.hbm, 344, rfl⟩
abbrev main_v139 : Ref sig .tc := ⟨.hbm, 345, rfl⟩
abbrev main_v140 : Ref sig .tc := ⟨.hbm, 346, rfl⟩
abbrev main_v141 : Ref sig .tc := ⟨.hbm, 347, rfl⟩
abbrev main_v142 : Ref sig .tc := ⟨.hbm, 348, rfl⟩
abbrev main_v143 : Ref sig .tc := ⟨.hbm, 349, rfl⟩
abbrev main_v144 : Ref sig .tc := ⟨.hbm, 350, rfl⟩
abbrev main_v145 : Ref sig .tc := ⟨.hbm, 351, rfl⟩
abbrev main_v146_0 : Ref sig .tc := ⟨.hbm, 352, rfl⟩
abbrev main_v146_1 : Ref sig .tc := ⟨.hbm, 353, rfl⟩
abbrev main_v146_2 : Ref sig .tc := ⟨.hbm, 354, rfl⟩
abbrev main_v146_3 : Ref sig .tc := ⟨.hbm, 355, rfl⟩
abbrev main_v147 : Ref sig .tc := ⟨.hbm, 356, rfl⟩
abbrev main_v148_0 : Ref sig .tc := ⟨.hbm, 357, rfl⟩
abbrev main_v148_1 : Ref sig .tc := ⟨.hbm, 358, rfl⟩
abbrev main_v149 : Ref sig .tc := ⟨.hbm, 359, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg8_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc5_stg7_0 : Ref sig .tc := ⟨.vmem, 70, rfl⟩
abbrev cc5_stg7_1 : Ref sig .tc := ⟨.vmem, 71, rfl⟩
abbrev cc5_stg8_0 : Ref sig .tc := ⟨.vmem, 72, rfl⟩
abbrev cc5_stg8_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg2_1 : Ref sig .tc := ⟨.vmem, 79, rfl⟩
abbrev cc6_stg3_0 : Ref sig .tc := ⟨.vmem, 80, rfl⟩
abbrev cc6_stg3_1 : Ref sig .tc := ⟨.vmem, 81, rfl⟩
abbrev cc6_stg4_0 : Ref sig .tc := ⟨.vmem, 82, rfl⟩
abbrev cc6_stg4_1 : Ref sig .tc := ⟨.vmem, 83, rfl⟩
abbrev cc6_stg5_0 : Ref sig .tc := ⟨.vmem, 84, rfl⟩
abbrev cc6_stg5_1 : Ref sig .tc := ⟨.vmem, 85, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc3_sem7_0 : DmaSem sig := 42
abbrev cc3_sem7_1 : DmaSem sig := 43
abbrev cc3_sem8_0 : DmaSem sig := 44
abbrev cc3_sem8_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem4_0 : DmaSem sig := 65
abbrev cc5_sem5_0 : DmaSem sig := 66
abbrev cc5_sem5_1 : DmaSem sig := 67
abbrev cc5_sem6_0 : DmaSem sig := 68
abbrev cc5_sem6_1 : DmaSem sig := 69
abbrev cc5_sem7_0 : DmaSem sig := 70
abbrev cc5_sem7_1 : DmaSem sig := 71
abbrev cc5_sem8_0 : DmaSem sig := 72
abbrev cc5_sem8_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem2_1 : DmaSem sig := 79
abbrev cc6_sem3_0 : DmaSem sig := 80
abbrev cc6_sem3_1 : DmaSem sig := 81
abbrev cc6_sem4_0 : DmaSem sig := 82
abbrev cc6_sem4_1 : DmaSem sig := 83
abbrev cc6_sem5_0 : DmaSem sig := 84
abbrev cc6_sem5_1 : DmaSem sig := 85

abbrev nD : Nat := 1
abbrev τ : Topo := Topo.v7x

variable {F : FTy → Type} [BitOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S768x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S768x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S768x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S768x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x1024x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x1024x768 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x1x1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨2, ![2, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x2048x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1x1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x1024x768 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_8 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024x768 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1x1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S768x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S768x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x1024x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x1024x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x1024x768 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S1x1x1x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev grid6 : Pipeline.Grid := ⟨2, ![2, 2], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x2048x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x2048x768 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1x1x1x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x1024x768 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]
-- ==== KernelIdeal.lean ====
variable {F : FTy → Type} [FloatOps F]
-- ==== ReferenceIdeal.lean ====
abbrev S2x2048 : Shape := ⟨2, ![2, 2048]⟩
abbrev S2x2048x768 : Shape := ⟨3, ![2, 2048, 768]⟩
abbrev S2048 : Shape := ⟨1, ![2048]⟩
abbrev S2048x768 : Shape := ⟨2, ![2048, 768]⟩
abbrev S768x64 : Shape := ⟨2, ![768, 64]⟩
abbrev S768 : Shape := ⟨1, ![768]⟩
abbrev S1x2048 : Shape := ⟨2, ![1, 2048]⟩
abbrev S1x2048x768 : Shape := ⟨3, ![1, 2048, 768]⟩
abbrev S_ : Shape := ⟨0, ![]⟩
abbrev S2x2048x1 : Shape := ⟨3, ![2, 2048, 1]⟩
abbrev S1x1x768 : Shape := ⟨3, ![1, 1, 768]⟩
abbrev S2x2048x64 : Shape := ⟨3, ![2, 2048, 64]⟩
abbrev S2x2048x2048 : Shape := ⟨3, ![2, 2048, 2048]⟩
abbrev S2x2048x16 : Shape := ⟨3, ![2, 2048, 16]⟩
abbrev S2x2048x16x1 : Shape := ⟨4, ![2, 2048, 16, 1]⟩
abbrev S1 : Shape := ⟨1, ![1]⟩
abbrev S1x1x1x1 : Shape := ⟨4, ![1, 1, 1, 1]⟩
abbrev S2x1x2048 : Shape := ⟨3, ![2, 1, 2048]⟩
abbrev S2x2048x16x768 : Shape := ⟨4, ![2, 2048, 16, 768]⟩
abbrev S2 : Shape := ⟨1, ![2]⟩
abbrev S2x1 : Shape := ⟨2, ![2, 1]⟩

abbrev nBuf : Space → Nat
  | .hbm => 682
  | .vmem => 0
  | .smem => 0
  | _ => 0

abbrev hbmTy0_0 (i : Nat) : BufTy := match i % 128 with
  | 0 => ⟨S2x2048, .f32⟩
  | 1 => ⟨S2x2048x768, .f32⟩
  | 2 => ⟨S2048, .f32⟩
  | 3 => ⟨S2048x768, .f32⟩
  | 4 => ⟨S768x64, .f32⟩
  | 5 => ⟨S768x64, .f32⟩
  | 6 => ⟨S768x64, .f32⟩
  | 7 => ⟨S768x64, .f32⟩
  | 8 => ⟨S768x64, .f32⟩
  | 9 => ⟨S768x64, .f32⟩
  | 10 => ⟨S768, .f32⟩
  | 11 => ⟨S768, .f32⟩
  | 12 => ⟨S768, .f32⟩
  | 13 => ⟨S768, .f32⟩
  | 14 => ⟨S768, .f32⟩
  | 15 => ⟨S768, .f32⟩
  | 16 => ⟨S1x2048, .f32⟩
  | 17 => ⟨S2x2048, .f32⟩
  | 18 => ⟨S1x2048x768, .f32⟩
  | 19 => ⟨S2x2048x768, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S_, .i32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x768, .f32⟩
  | 34 => ⟨S2x2048x768, .f32⟩
  | 35 => ⟨S2x2048x768, .f32⟩
  | 36 => ⟨S_, .f32⟩
  | 37 => ⟨S_, .f32⟩
  | 38 => ⟨S_, .f32⟩
  | 39 => ⟨S_, .f32⟩
  | 40 => ⟨S2x2048, .f32⟩
  | 41 => ⟨S2x2048x1, .f32⟩
  | 42 => ⟨S2x2048x1, .f32⟩
  | 43 => ⟨S2x2048x1, .f32⟩
  | 44 => ⟨S_, .f32⟩
  | 45 => ⟨S_, .i1⟩
  | 46 => ⟨S_, .f32⟩
  | 47 => ⟨S_, .f32⟩
  | 48 => ⟨S2x2048x1, .f32⟩
  | 49 => ⟨S2x2048x1, .f32⟩
  | 50 => ⟨S2x2048x768, .f32⟩
  | 51 => ⟨S2x2048x768, .f32⟩
  | 52 => ⟨S_, .f32⟩
  | 53 => ⟨S2x2048x1, .f32⟩
  | 54 => ⟨S2x2048x1, .f32⟩
  | 55 => ⟨S2x2048x1, .f32⟩
  | 56 => ⟨S2x2048x768, .f32⟩
  | 57 => ⟨S2x2048x768, .f32⟩
  | 58 => ⟨S1x1x768, .f32⟩
  | 59 => ⟨S2x2048x768, .f32⟩
  | 60 => ⟨S2x2048x768, .f32⟩
  | 61 => ⟨S1x1x768, .f32⟩
  | 62 => ⟨S2x2048x768, .f32⟩
  | 63 => ⟨S2x2048x768, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S_, .i32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S2x2048x768, .f32⟩
  | 78 => ⟨S2x2048x768, .f32⟩
  | 79 => ⟨S2x2048x768, .f32⟩
  | 80 => ⟨S_, .f32⟩
  | 81 => ⟨S_, .f32⟩
  | 82 => ⟨S_, .f32⟩
  | 83 => ⟨S_, .f32⟩
  | 84 => ⟨S2x2048, .f32⟩
  | 85 => ⟨S2x2048x1, .f32⟩
  | 86 => ⟨S2x2048x1, .f32⟩
  | 87 => ⟨S2x2048x1, .f32⟩
  | 88 => ⟨S_, .f32⟩
  | 89 => ⟨S_, .i1⟩
  | 90 => ⟨S_, .f32⟩
  | 91 => ⟨S_, .f32⟩
  | 92 => ⟨S2x2048x1, .f32⟩
  | 93 => ⟨S2x2048x1, .f32⟩
  | 94 => ⟨S2x2048x768, .f32⟩
  | 95 => ⟨S2x2048x768, .f32⟩
  | 96 => ⟨S_, .f32⟩
  | 97 => ⟨S2x2048x1, .f32⟩
  | 98 => ⟨S2x2048x1, .f32⟩
  | 99 => ⟨S2x2048x1, .f32⟩
  | 100 => ⟨S2x2048x768, .f32⟩
  | 101 => ⟨S2x2048x768, .f32⟩
  | 102 => ⟨S1x1x768, .f32⟩
  | 103 => ⟨S2x2048x768, .f32⟩
  | 104 => ⟨S2x2048x768, .f32⟩
  | 105 => ⟨S1x1x768, .f32⟩
  | 106 => ⟨S2x2048x768, .f32⟩
  | 107 => ⟨S2x2048x768, .f32⟩
  | 108 => ⟨S_, .f32⟩
  | 109 => ⟨S2x2048, .f32⟩
  | 110 => ⟨S2x2048x1, .f32⟩
  | 111 => ⟨S_, .f32⟩
  | 112 => ⟨S2x2048x1, .f32⟩
  | 113 => ⟨S2x2048x1, .f32⟩
  | 114 => ⟨S_, .i32⟩
  | 115 => ⟨S_, .f32⟩
  | 116 => ⟨S2x2048, .f32⟩
  | 117 => ⟨S2x2048x1, .f32⟩
  | 118 => ⟨S_, .f32⟩
  | 119 => ⟨S2x2048x1, .f32⟩
  | 120 => ⟨S2x2048x1, .f32⟩
  | 121 => ⟨S2x2048x768, .f32⟩
  | 122 => ⟨S2x2048x768, .f32⟩
  | 123 => ⟨S2x2048x768, .f32⟩
  | 124 => ⟨S_, .f32⟩
  | 125 => ⟨S_, .f32⟩
  | 126 => ⟨S_, .f32⟩
  | 127 => ⟨S_, .f32⟩
  | _ => ⟨S2x2048, .f32⟩

abbrev hbmTy0_1 (i : Nat) : BufTy := match i % 128 with
  | 0 => ⟨S2x2048, .f32⟩
  | 1 => ⟨S2x2048x1, .f32⟩
  | 2 => ⟨S2x2048x1, .f32⟩
  | 3 => ⟨S2x2048x1, .f32⟩
  | 4 => ⟨S_, .f32⟩
  | 5 => ⟨S_, .i1⟩
  | 6 => ⟨S_, .f32⟩
  | 7 => ⟨S_, .f32⟩
  | 8 => ⟨S2x2048x1, .f32⟩
  | 9 => ⟨S2x2048x1, .f32⟩
  | 10 => ⟨S2x2048x768, .f32⟩
  | 11 => ⟨S2x2048x768, .f32⟩
  | 12 => ⟨S_, .f32⟩
  | 13 => ⟨S2x2048x1, .f32⟩
  | 14 => ⟨S2x2048x1, .f32⟩
  | 15 => ⟨S2x2048x1, .f32⟩
  | 16 => ⟨S2x2048x768, .f32⟩
  | 17 => ⟨S2x2048x768, .f32⟩
  | 18 => ⟨S1x1x768, .f32⟩
  | 19 => ⟨S2x2048x768, .f32⟩
  | 20 => ⟨S2x2048x768, .f32⟩
  | 21 => ⟨S1x1x768, .f32⟩
  | 22 => ⟨S2x2048x768, .f32⟩
  | 23 => ⟨S2x2048x768, .f32⟩
  | 24 => ⟨S2x2048x64, .f32⟩
  | 25 => ⟨S2x2048x64, .f32⟩
  | 26 => ⟨S2x2048x2048, .f32⟩
  | 27 => ⟨S_, .f32⟩
  | 28 => ⟨S_, .f32⟩
  | 29 => ⟨S_, .f32⟩
  | 30 => ⟨S2x2048x2048, .f32⟩
  | 31 => ⟨S2x2048x2048, .f32⟩
  | 32 => ⟨S2x2048x2048, .f32⟩
  | 33 => ⟨S2x2048x16, .f32⟩
  | 34 => ⟨S2x2048x16, .i32⟩
  | 35 => ⟨S_, .i32⟩
  | 36 => ⟨S2x2048x16, .i32⟩
  | 37 => ⟨S2x2048x16, .i1⟩
  | 38 => ⟨S_, .i32⟩
  | 39 => ⟨S2x2048x16, .i32⟩
  | 40 => ⟨S2x2048x16, .i32⟩
  | 41 => ⟨S2x2048x16, .i32⟩
  | 42 => ⟨S2x2048x16x1, .i32⟩
  | 43 => ⟨S1, .i32⟩
  | 44 => ⟨S_, .i32⟩
  | 45 => ⟨S2x2048x16x1, .i32⟩
  | 46 => ⟨S2x2048x16x1, .i1⟩
  | 47 => ⟨S1x1x1x1, .i32⟩
  | 48 => ⟨S2x2048x16x1, .i32⟩
  | 49 => ⟨S2x2048x16x1, .i1⟩
  | 50 => ⟨S2x2048x16x1, .i1⟩
  | 51 => ⟨S_, .i1⟩
  | 52 => ⟨S2x2048x16, .i1⟩
  | 53 => ⟨S2x2048x16, .f32⟩
  | 54 => ⟨S_, .f32⟩
  | 55 => ⟨S2x2048x16, .f32⟩
  | 56 => ⟨S2x2048x16, .f32⟩
  | 57 => ⟨S2x2048x16, .f32⟩
  | 58 => ⟨S2x2048x16, .f32⟩
  | 59 => ⟨S_, .f32⟩
  | 60 => ⟨S2x2048, .f32⟩
  | 61 => ⟨S_, .f32⟩
  | 62 => ⟨S2x2048, .f32⟩
  | 63 => ⟨S2x2048, .f32⟩
  | 64 => ⟨S2x2048x1, .f32⟩
  | 65 => ⟨S2x2048x16, .f32⟩
  | 66 => ⟨S2x2048x16, .f32⟩
  | 67 => ⟨S2x2048x16, .f32⟩
  | 68 => ⟨S_, .f32⟩
  | 69 => ⟨S2x2048, .f32⟩
  | 70 => ⟨S2x2048x1, .f32⟩
  | 71 => ⟨S2x2048x16, .f32⟩
  | 72 => ⟨S2x2048x16, .f32⟩
  | 73 => ⟨S2x2048x16, .f32⟩
  | 74 => ⟨S_, .f32⟩
  | 75 => ⟨S2x2048, .f32⟩
  | 76 => ⟨S2x2048, .f32⟩
  | 77 => ⟨S2x2048, .f32⟩
  | 78 => ⟨S2x2048, .f32⟩
  | 79 => ⟨S2x2048, .i1⟩
  | 80 => ⟨S2x2048, .f32⟩
  | 81 => ⟨S2x2048, .f32⟩
  | 82 => ⟨S2x2048, .f32⟩
  | 83 => ⟨S2x2048, .f32⟩
  | 84 => ⟨S2x2048, .f32⟩
  | 85 => ⟨S2x2048, .f32⟩
  | 86 => ⟨S2x2048, .f32⟩
  | 87 => ⟨S2x2048, .f32⟩
  | 88 => ⟨S2x1x2048, .f32⟩
  | 89 => ⟨S2x2048x2048, .f32⟩
  | 90 => ⟨S_, .i32⟩
  | 91 => ⟨S2x2048x16, .i32⟩
  | 92 => ⟨S2x2048x16, .i1⟩
  | 93 => ⟨S_, .i32⟩
  | 94 => ⟨S2x2048x16, .i32⟩
  | 95 => ⟨S2x2048x16, .i32⟩
  | 96 => ⟨S2x2048x16, .i32⟩
  | 97 => ⟨S2x2048x16x1, .i32⟩
  | 98 => ⟨S1, .i32⟩
  | 99 => ⟨S_, .i32⟩
  | 100 => ⟨S2x2048x16x1, .i32⟩
  | 101 => ⟨S2x2048x16x1, .i1⟩
  | 102 => ⟨S1x1x1x1, .i32⟩
  | 103 => ⟨S2x2048x16x1, .i32⟩
  | 104 => ⟨S2x2048x16x1, .i1⟩
  | 105 => ⟨S2x2048x16x1, .i1⟩
  | 106 => ⟨S_, .i1⟩
  | 107 => ⟨S2x2048x16, .i1⟩
  | 108 => ⟨S2x2048x16, .f32⟩
  | 109 => ⟨S_, .f32⟩
  | 110 => ⟨S2x2048x16, .f32⟩
  | 111 => ⟨S2x2048x16, .f32⟩
  | 112 => ⟨S2x2048x16, .f32⟩
  | 113 => ⟨S2x2048x768, .f32⟩
  | 114 => ⟨S_, .f32⟩
  | 115 => ⟨S2x2048, .f32⟩
  | 116 => ⟨S2x2048x1, .f32⟩
  | 117 => ⟨S2x2048x1, .f32⟩
  | 118 => ⟨S_, .f32⟩
  | 119 => ⟨S2x2048x1, .f32⟩
  | 120 => ⟨S2x2048x1, .f32⟩
  | 121 => ⟨S2x2048x768, .f32⟩
  | 122 => ⟨S2x2048x768, .f32⟩
  | 123 => ⟨S_, .i32⟩
  | 124 => ⟨S2x2048x16, .i32⟩
  | 125 => ⟨S2x2048x16, .i1⟩
  | 126 => ⟨S_, .i32⟩
  | 127 => ⟨S2x2048x16, .i32⟩
  | _ => ⟨S2x2048, .f32⟩

abbrev hbmTy0_2 (i : Nat) : BufTy := match i % 128 with
  | 0 => ⟨S2x2048x16, .i32⟩
  | 1 => ⟨S2x2048x16, .i32⟩
  | 2 => ⟨S2x2048x16x1, .i32⟩
  | 3 => ⟨S2x2048x16x768, .f32⟩
  | 4 => ⟨S2x2048x768, .f32⟩
  | 5 => ⟨S_, .f32⟩
  | 6 => ⟨S2x2048, .f32⟩
  | 7 => ⟨S2x2048x768, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .i32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S2x2048x768, .f32⟩
  | 22 => ⟨S2x2048x768, .f32⟩
  | 23 => ⟨S2x2048x768, .f32⟩
  | 24 => ⟨S_, .f32⟩
  | 25 => ⟨S_, .f32⟩
  | 26 => ⟨S_, .f32⟩
  | 27 => ⟨S_, .f32⟩
  | 28 => ⟨S2x2048, .f32⟩
  | 29 => ⟨S2x2048x1, .f32⟩
  | 30 => ⟨S2x2048x1, .f32⟩
  | 31 => ⟨S2x2048x1, .f32⟩
  | 32 => ⟨S_, .f32⟩
  | 33 => ⟨S_, .i1⟩
  | 34 => ⟨S_, .f32⟩
  | 35 => ⟨S_, .f32⟩
  | 36 => ⟨S2x2048x1, .f32⟩
  | 37 => ⟨S2x2048x1, .f32⟩
  | 38 => ⟨S2x2048x768, .f32⟩
  | 39 => ⟨S2x2048x768, .f32⟩
  | 40 => ⟨S_, .f32⟩
  | 41 => ⟨S2x2048x1, .f32⟩
  | 42 => ⟨S2x2048x1, .f32⟩
  | 43 => ⟨S2x2048x1, .f32⟩
  | 44 => ⟨S2x2048x768, .f32⟩
  | 45 => ⟨S2x2048x768, .f32⟩
  | 46 => ⟨S1x1x768, .f32⟩
  | 47 => ⟨S2x2048x768, .f32⟩
  | 48 => ⟨S2x2048x768, .f32⟩
  | 49 => ⟨S1x1x768, .f32⟩
  | 50 => ⟨S2x2048x768, .f32⟩
  | 51 => ⟨S2x2048x768, .f32⟩
  | 52 => ⟨S_, .f32⟩
  | 53 => ⟨S2x2048, .f32⟩
  | 54 => ⟨S2x2048x1, .f32⟩
  | 55 => ⟨S_, .f32⟩
  | 56 => ⟨S2x2048x1, .f32⟩
  | 57 => ⟨S2x2048x1, .f32⟩
  | 58 => ⟨S_, .i32⟩
  | 59 => ⟨S_, .f32⟩
  | 60 => ⟨S2x2048, .f32⟩
  | 61 => ⟨S2x2048x1, .f32⟩
  | 62 => ⟨S_, .f32⟩
  | 63 => ⟨S2x2048x1, .f32⟩
  | 64 => ⟨S2x2048x1, .f32⟩
  | 65 => ⟨S2x2048x768, .f32⟩
  | 66 => ⟨S2x2048x768, .f32⟩
  | 67 => ⟨S2x2048x768, .f32⟩
  | 68 => ⟨S_, .f32⟩
  | 69 => ⟨S_, .f32⟩
  | 70 => ⟨S_, .f32⟩
  | 71 => ⟨S_, .f32⟩
  | 72 => ⟨S2x2048, .f32⟩
  | 73 => ⟨S2x2048x1, .f32⟩
  | 74 => ⟨S2x2048x1, .f32⟩
  | 75 => ⟨S2x2048x1, .f32⟩
  | 76 => ⟨S_, .f32⟩
  | 77 => ⟨S_, .i1⟩
  | 78 => ⟨S_, .f32⟩
  | 79 => ⟨S_, .f32⟩
  | 80 => ⟨S2x2048x1, .f32⟩
  | 81 => ⟨S2x2048x1, .f32⟩
  | 82 => ⟨S2x2048x768, .f32⟩
  | 83 => ⟨S2x2048x768, .f32⟩
  | 84 => ⟨S_, .f32⟩
  | 85 => ⟨S2x2048x1, .f32⟩
  | 86 => ⟨S2x2048x1, .f32⟩
  | 87 => ⟨S2x2048x1, .f32⟩
  | 88 => ⟨S2x2048x768, .f32⟩
  | 89 => ⟨S2x2048x768, .f32⟩
  | 90 => ⟨S1x1x768, .f32⟩
  | 91 => ⟨S2x2048x768, .f32⟩
  | 92 => ⟨S2x2048x768, .f32⟩
  | 93 => ⟨S1x1x768, .f32⟩
  | 94 => ⟨S2x2048x768, .f32⟩
  | 95 => ⟨S2x2048x768, .f32⟩
  | 96 => ⟨S2x2048, .f32⟩
  | 97 => ⟨S2x2048, .f32⟩
  | 98 => ⟨S_, .f32⟩
  | 99 => ⟨S2, .f32⟩
  | 100 => ⟨S_, .f32⟩
  | 101 => ⟨S2, .f32⟩
  | 102 => ⟨S2, .f32⟩
  | 103 => ⟨S2x1, .f32⟩
  | 104 => ⟨S2x2048, .f32⟩
  | 105 => ⟨S2x2048, .f32⟩
  | 106 => ⟨S2x2048, .f32⟩
  | 107 => ⟨S_, .f32⟩
  | 108 => ⟨S2, .f32⟩
  | 109 => ⟨S2x1, .f32⟩
  | 110 => ⟨S2x2048, .f32⟩
  | 111 => ⟨S2x2048, .f32⟩
  | 112 => ⟨S2x2048, .f32⟩
  | 113 => ⟨S2x2048, .f32⟩
  | 114 => ⟨S2x2048x64, .f32⟩
  | 115 => ⟨S2x2048x64, .f32⟩
  | 116 => ⟨S2x2048x2048, .f32⟩
  | 117 => ⟨S_, .f32⟩
  | 118 => ⟨S_, .f32⟩
  | 119 => ⟨S_, .f32⟩
  | 120 => ⟨S2x2048x2048, .f32⟩
  | 121 => ⟨S2x2048x2048, .f32⟩
  | 122 => ⟨S2x2048x2048, .f32⟩
  | 123 => ⟨S2x2048x16, .f32⟩
  | 124 => ⟨S2x2048x16, .i32⟩
  | 125 => ⟨S_, .i32⟩
  | 126 => ⟨S2x2048x16, .i32⟩
  | 127 => ⟨S2x2048x16, .i1⟩
  | _ => ⟨S2x2048, .f32⟩

abbrev hbmTy0_3 (i : Nat) : BufTy := match i % 128 with
  | 0 => ⟨S_, .i32⟩
  | 1 => ⟨S2x2048x16, .i32⟩
  | 2 => ⟨S2x2048x16, .i32⟩
  | 3 => ⟨S2x2048x16, .i32⟩
  | 4 => ⟨S2x2048x16x1, .i32⟩
  | 5 => ⟨S1, .i32⟩
  | 6 => ⟨S_, .i32⟩
  | 7 => ⟨S2x2048x16x1, .i32⟩
  | 8 => ⟨S2x2048x16x1, .i1⟩
  | 9 => ⟨S1x1x1x1, .i32⟩
  | 10 => ⟨S2x2048x16x1, .i32⟩
  | 11 => ⟨S2x2048x16x1, .i1⟩
  | 12 => ⟨S2x2048x16x1, .i1⟩
  | 13 => ⟨S_, .i1⟩
  | 14 => ⟨S2x2048x16, .i1⟩
  | 15 => ⟨S2x2048x16, .f32⟩
  | 16 => ⟨S_, .f32⟩
  | 17 => ⟨S2x2048x16, .f32⟩
  | 18 => ⟨S2x2048x16, .f32⟩
  | 19 => ⟨S2x2048x16, .f32⟩
  | 20 => ⟨S2x2048x16, .f32⟩
  | 21 => ⟨S_, .f32⟩
  | 22 => ⟨S2x2048, .f32⟩
  | 23 => ⟨S_, .f32⟩
  | 24 => ⟨S2x2048, .f32⟩
  | 25 => ⟨S2x2048, .f32⟩
  | 26 => ⟨S2x2048x1, .f32⟩
  | 27 => ⟨S2x2048x16, .f32⟩
  | 28 => ⟨S2x2048x16, .f32⟩
  | 29 => ⟨S2x2048x16, .f32⟩
  | 30 => ⟨S_, .f32⟩
  | 31 => ⟨S2x2048, .f32⟩
  | 32 => ⟨S2x2048x1, .f32⟩
  | 33 => ⟨S2x2048x16, .f32⟩
  | 34 => ⟨S2x2048x16, .f32⟩
  | 35 => ⟨S2x2048x16, .f32⟩
  | 36 => ⟨S_, .f32⟩
  | 37 => ⟨S2x2048, .f32⟩
  | 38 => ⟨S2x2048, .f32⟩
  | 39 => ⟨S2x2048, .f32⟩
  | 40 => ⟨S2x2048, .f32⟩
  | 41 => ⟨S2x2048, .i1⟩
  | 42 => ⟨S2x2048, .f32⟩
  | 43 => ⟨S2x2048, .f32⟩
  | 44 => ⟨S2x2048, .f32⟩
  | 45 => ⟨S2x2048, .f32⟩
  | 46 => ⟨S2x2048, .f32⟩
  | 47 => ⟨S2x2048, .f32⟩
  | 48 => ⟨S2x2048, .f32⟩
  | 49 => ⟨S2x2048, .f32⟩
  | 50 => ⟨S2x1x2048, .f32⟩
  | 51 => ⟨S2x2048x2048, .f32⟩
  | 52 => ⟨S_, .i32⟩
  | 53 => ⟨S2x2048x16, .i32⟩
  | 54 => ⟨S2x2048x16, .i1⟩
  | 55 => ⟨S_, .i32⟩
  | 56 => ⟨S2x2048x16, .i32⟩
  | 57 => ⟨S2x2048x16, .i32⟩
  | 58 => ⟨S2x2048x16, .i32⟩
  | 59 => ⟨S2x2048x16x1, .i32⟩
  | 60 => ⟨S1, .i32⟩
  | 61 => ⟨S_, .i32⟩
  | 62 => ⟨S2x2048x16x1, .i32⟩
  | 63 => ⟨S2x2048x16x1, .i1⟩
  | 64 => ⟨S1x1x1x1, .i32⟩
  | 65 => ⟨S2x2048x16x1, .i32⟩
  | 66 => ⟨S2x2048x16x1, .i1⟩
  | 67 => ⟨S2x2048x16x1, .i1⟩
  | 68 => ⟨S_, .i1⟩
  | 69 => ⟨S2x2048x16, .i1⟩
  | 70 => ⟨S2x2048x16, .f32⟩
  | 71 => ⟨S_, .f32⟩
  | 72 => ⟨S2x2048x16, .f32⟩
  | 73 => ⟨S2x2048x16, .f32⟩
  | 74 => ⟨S2x2048x16, .f32⟩
  | 75 => ⟨S2x2048x768, .f32⟩
  | 76 => ⟨S_, .f32⟩
  | 77 => ⟨S2x2048, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x768, .f32⟩
  | 84 => ⟨S2x2048x768, .f32⟩
  | 85 => ⟨S_, .i32⟩
  | 86 => ⟨S2x2048x16, .i32⟩
  | 87 => ⟨S2x2048x16, .i1⟩
  | 88 => ⟨S_, .i32⟩
  | 89 => ⟨S2x2048x16, .i32⟩
  | 90 => ⟨S2x2048x16, .i32⟩
  | 91 => ⟨S2x2048x16, .i32⟩
  | 92 => ⟨S2x2048x16x1, .i32⟩
  | 93 => ⟨S2x2048x16x768, .f32⟩
  | 94 => ⟨S2x2048x768, .f32⟩
  | 95 => ⟨S_, .f32⟩
  | 96 => ⟨S2x2048, .f32⟩
  | 97 => ⟨S2x2048, .f32⟩
  | 98 => ⟨S2x2048x768, .f32⟩
  | 99 => ⟨S_, .f32⟩
  | 100 => ⟨S2x2048, .f32⟩
  | 101 => ⟨S2x2048x1, .f32⟩
  | 102 => ⟨S_, .f32⟩
  | 103 => ⟨S2x2048x1, .f32⟩
  | 104 => ⟨S2x2048x1, .f32⟩
  | 105 => ⟨S_, .i32⟩
  | 106 => ⟨S_, .f32⟩
  | 107 => ⟨S2x2048, .f32⟩
  | 108 => ⟨S2x2048x1, .f32⟩
  | 109 => ⟨S_, .f32⟩
  | 110 => ⟨S2x2048x1, .f32⟩
  | 111 => ⟨S2x2048x1, .f32⟩
  | 112 => ⟨S2x2048x768, .f32⟩
  | 113 => ⟨S2x2048x768, .f32⟩
  | 114 => ⟨S2x2048x768, .f32⟩
  | 115 => ⟨S_, .f32⟩
  | 116 => ⟨S_, .f32⟩
  | 117 => ⟨S_, .f32⟩
  | 118 => ⟨S_, .f32⟩
  | 119 => ⟨S2x2048, .f32⟩
  | 120 => ⟨S2x2048x1, .f32⟩
  | 121 => ⟨S2x2048x1, .f32⟩
  | 122 => ⟨S2x2048x1, .f32⟩
  | 123 => ⟨S_, .f32⟩
  | 124 => ⟨S_, .i1⟩
  | 125 => ⟨S_, .f32⟩
  | 126 => ⟨S_, .f32⟩
  | 127 => ⟨S2x2048x1, .f32⟩
  | _ => ⟨S2x2048, .f32⟩

abbrev hbmTy0_4 (i : Nat) : BufTy := match i % 128 with
  | 0 => ⟨S2x2048x1, .f32⟩
  | 1 => ⟨S2x2048x768, .f32⟩
  | 2 => ⟨S2x2048x768, .f32⟩
  | 3 => ⟨S_, .f32⟩
  | 4 => ⟨S2x2048x1, .f32⟩
  | 5 => ⟨S2x2048x1, .f32⟩
  | 6 => ⟨S2x2048x1, .f32⟩
  | 7 => ⟨S2x2048x768, .f32⟩
  | 8 => ⟨S2x2048x768, .f32⟩
  | 9 => ⟨S1x1x768, .f32⟩
  | 10 => ⟨S2x2048x768, .f32⟩
  | 11 => ⟨S2x2048x768, .f32⟩
  | 12 => ⟨S1x1x768, .f32⟩
  | 13 => ⟨S2x2048x768, .f32⟩
  | 14 => ⟨S2x2048x768, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .i32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S2x2048x768, .f32⟩
  | 29 => ⟨S2x2048x768, .f32⟩
  | 30 => ⟨S2x2048x768, .f32⟩
  | 31 => ⟨S_, .f32⟩
  | 32 => ⟨S_, .f32⟩
  | 33 => ⟨S_, .f32⟩
  | 34 => ⟨S_, .f32⟩
  | 35 => ⟨S2x2048, .f32⟩
  | 36 => ⟨S2x2048x1, .f32⟩
  | 37 => ⟨S2x2048x1, .f32⟩
  | 38 => ⟨S2x2048x1, .f32⟩
  | 39 => ⟨S_, .f32⟩
  | 40 => ⟨S_, .i1⟩
  | 41 => ⟨S_, .f32⟩
  | 42 => ⟨S_, .f32⟩
  | 43 => ⟨S2x2048x1, .f32⟩
  | 44 => ⟨S2x2048x1, .f32⟩
  | 45 => ⟨S2x2048x768, .f32⟩
  | 46 => ⟨S2x2048x768, .f32⟩
  | 47 => ⟨S_, .f32⟩
  | 48 => ⟨S2x2048x1, .f32⟩
  | 49 => ⟨S2x2048x1, .f32⟩
  | 50 => ⟨S2x2048x1, .f32⟩
  | 51 => ⟨S2x2048x768, .f32⟩
  | 52 => ⟨S2x2048x768, .f32⟩
  | 53 => ⟨S1x1x768, .f32⟩
  | 54 => ⟨S2x2048x768, .f32⟩
  | 55 => ⟨S2x2048x768, .f32⟩
  | 56 => ⟨S1x1x768, .f32⟩
  | 57 => ⟨S2x2048x768, .f32⟩
  | 58 => ⟨S2x2048x768, .f32⟩
  | 59 => ⟨S2x2048x64, .f32⟩
  | 60 => ⟨S2x2048x64, .f32⟩
  | 61 => ⟨S2x2048x2048, .f32⟩
  | 62 => ⟨S_, .f32⟩
  | 63 => ⟨S_, .f32⟩
  | 64 => ⟨S_, .f32⟩
  | 65 => ⟨S2x2048x2048, .f32⟩
  | 66 => ⟨S2x2048x2048, .f32⟩
  | 67 => ⟨S2x2048x2048, .f32⟩
  | 68 => ⟨S2x2048x16, .f32⟩
  | 69 => ⟨S2x2048x16, .i32⟩
  | 70 => ⟨S_, .i32⟩
  | 71 => ⟨S2x2048x16, .i32⟩
  | 72 => ⟨S2x2048x16, .i1⟩
  | 73 => ⟨S_, .i32⟩
  | 74 => ⟨S2x2048x16, .i32⟩
  | 75 => ⟨S2x2048x16, .i32⟩
  | 76 => ⟨S2x2048x16, .i32⟩
  | 77 => ⟨S2x2048x16x1, .i32⟩
  | 78 => ⟨S1, .i32⟩
  | 79 => ⟨S_, .i32⟩
  | 80 => ⟨S2x2048x16x1, .i32⟩
  | 81 => ⟨S2x2048x16x1, .i1⟩
  | 82 => ⟨S1x1x1x1, .i32⟩
  | 83 => ⟨S2x2048x16x1, .i32⟩
  | 84 => ⟨S2x2048x16x1, .i1⟩
  | 85 => ⟨S2x2048x16x1, .i1⟩
  | 86 => ⟨S_, .i1⟩
  | 87 => ⟨S2x2048x16, .i1⟩
  | 88 => ⟨S2x2048x16, .f32⟩
  | 89 => ⟨S_, .f32⟩
  | 90 => ⟨S2x2048x16, .f32⟩
  | 91 => ⟨S2x2048x16, .f32⟩
  | 92 => ⟨S2x2048x16, .f32⟩
  | 93 => ⟨S2x2048x16, .f32⟩
  | 94 => ⟨S_, .f32⟩
  | 95 => ⟨S2x2048, .f32⟩
  | 96 => ⟨S_, .f32⟩
  | 97 => ⟨S2x2048, .f32⟩
  | 98 => ⟨S2x2048, .f32⟩
  | 99 => ⟨S2x2048x1, .f32⟩
  | 100 => ⟨S2x2048x16, .f32⟩
  | 101 => ⟨S2x2048x16, .f32⟩
  | 102 => ⟨S2x2048x16, .f32⟩
  | 103 => ⟨S_, .f32⟩
  | 104 => ⟨S2x2048, .f32⟩
  | 105 => ⟨S2x2048x1, .f32⟩
  | 106 => ⟨S2x2048x16, .f32⟩
  | 107 => ⟨S2x2048x16, .f32⟩
  | 108 => ⟨S2x2048x16, .f32⟩
  | 109 => ⟨S_, .f32⟩
  | 110 => ⟨S2x2048, .f32⟩
  | 111 => ⟨S2x2048, .f32⟩
  | 112 => ⟨S2x2048, .f32⟩
  | 113 => ⟨S2x2048, .f32⟩
  | 114 => ⟨S2x2048, .i1⟩
  | 115 => ⟨S2x2048, .f32⟩
  | 116 => ⟨S2x2048, .f32⟩
  | 117 => ⟨S2x2048, .f32⟩
  | 118 => ⟨S2x2048, .f32⟩
  | 119 => ⟨S2x2048, .f32⟩
  | 120 => ⟨S2x2048, .f32⟩
  | 121 => ⟨S2x2048, .f32⟩
  | 122 => ⟨S2x2048, .f32⟩
  | 123 => ⟨S2x1x2048, .f32⟩
  | 124 => ⟨S2x2048x2048, .f32⟩
  | 125 => ⟨S_, .i32⟩
  | 126 => ⟨S2x2048x16, .i32⟩
  | 127 => ⟨S2x2048x16, .i1⟩
  | _ => ⟨S2x2048, .f32⟩

abbrev hbmTy0_5 (i : Nat) : BufTy := match i % 128 with
  | 0 => ⟨S_, .i32⟩
  | 1 => ⟨S2x2048x16, .i32⟩
  | 2 => ⟨S2x2048x16, .i32⟩
  | 3 => ⟨S2x2048x16, .i32⟩
  | 4 => ⟨S2x2048x16x1, .i32⟩
  | 5 => ⟨S1, .i32⟩
  | 6 => ⟨S_, .i32⟩
  | 7 => ⟨S2x2048x16x1, .i32⟩
  | 8 => ⟨S2x2048x16x1, .i1⟩
  | 9 => ⟨S1x1x1x1, .i32⟩
  | 10 => ⟨S2x2048x16x1, .i32⟩
  | 11 => ⟨S2x2048x16x1, .i1⟩
  | 12 => ⟨S2x2048x16x1, .i1⟩
  | 13 => ⟨S_, .i1⟩
  | 14 => ⟨S2x2048x16, .i1⟩
  | 15 => ⟨S2x2048x16, .f32⟩
  | 16 => ⟨S_, .f32⟩
  | 17 => ⟨S2x2048x16, .f32⟩
  | 18 => ⟨S2x2048x16, .f32⟩
  | 19 => ⟨S2x2048x16, .f32⟩
  | 20 => ⟨S2x2048x768, .f32⟩
  | 21 => ⟨S_, .f32⟩
  | 22 => ⟨S2x2048, .f32⟩
  | 23 => ⟨S2x2048x1, .f32⟩
  | 24 => ⟨S2x2048x1, .f32⟩
  | 25 => ⟨S_, .f32⟩
  | 26 => ⟨S2x2048x1, .f32⟩
  | 27 => ⟨S2x2048x1, .f32⟩
  | 28 => ⟨S2x2048x768, .f32⟩
  | 29 => ⟨S2x2048x768, .f32⟩
  | 30 => ⟨S_, .i32⟩
  | 31 => ⟨S2x2048x16, .i32⟩
  | 32 => ⟨S2x2048x16, .i1⟩
  | 33 => ⟨S_, .i32⟩
  | 34 => ⟨S2x2048x16, .i32⟩
  | 35 => ⟨S2x2048x16, .i32⟩
  | 36 => ⟨S2x2048x16, .i32⟩
  | 37 => ⟨S2x2048x16x1, .i32⟩
  | 38 => ⟨S2x2048x16x768, .f32⟩
  | 39 => ⟨S2x2048x768, .f32⟩
  | 40 => ⟨S_, .f32⟩
  | 41 => ⟨S2x2048, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_2 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_c_4 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_cst_3 : Ref sig .tc := ⟨.hbm, 88, rfl⟩
abbrev main_call1_v13 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_5 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_cst_6 : Ref sig .tc := ⟨.hbm, 108, rfl⟩
abbrev main_v40 : Ref sig .tc := ⟨.hbm, 109, rfl⟩
abbrev main_v41 : Ref sig .tc := ⟨.hbm, 110, rfl⟩
abbrev main_cst_7 : Ref sig .tc := ⟨.hbm, 111, rfl⟩
abbrev main_v42 : Ref sig .tc := ⟨.hbm, 112, rfl⟩
abbrev main_v43 : Ref sig .tc := ⟨.hbm, 113, rfl⟩
abbrev main_c_8 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_v12 : Ref sig .tc := ⟨.hbm, 131, rfl⟩
abbrev main_call2_cst_3 : Ref sig .tc := ⟨.hbm, 132, rfl⟩
abbrev main_call2_v13 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_cst_9 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_cst_10 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_values : Ref sig .tc := ⟨.hbm, 161, rfl⟩
abbrev main_indices : Ref sig .tc := ⟨.hbm, 162, rfl⟩
abbrev main_call3_c : Ref sig .tc := ⟨.hbm, 163, rfl⟩
abbrev main_call3_v0 : Ref sig .tc := ⟨.hbm, 164, rfl⟩
abbrev main_call3_v1 : Ref sig .tc := ⟨.hbm, 165, rfl⟩
abbrev main_call3_c_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_c_1 : Ref sig .tc := ⟨.hbm, 171, rfl⟩
abbrev main_call3_c_2 : Ref sig .tc := ⟨.hbm, 172, rfl⟩
abbrev main_call3_v6 : Ref sig .tc := ⟨.hbm, 173, rfl⟩
abbrev main_call3_v7 : Ref sig .tc := ⟨.hbm, 174, rfl⟩
abbrev main_call3_v8 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_c_3 : Ref sig .tc := ⟨.hbm, 179, rfl⟩
abbrev main_call3_v12 : Ref sig .tc := ⟨.hbm, 180, rfl⟩
abbrev main_call3_v13 : Ref sig .tc := ⟨.hbm, 181, rfl⟩
abbrev main_call3_cst : Ref sig .tc := ⟨.hbm, 182, rfl⟩
abbrev main_call3_v14 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_cst_11 : Ref sig .tc := ⟨.hbm, 187, rfl⟩
abbrev main_v69 : Ref sig .tc := ⟨.hbm, 188, rfl⟩
abbrev main_cst_12 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_cst_13 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_call4_cst : Ref sig .tc := ⟨.hbm, 202, rfl⟩
abbrev main_call4_v0 : Ref sig .tc := ⟨.hbm, 203, rfl⟩
abbrev main_call4_v1 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_v8 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_call5_c : Ref sig .tc := ⟨.hbm, 218, rfl⟩
abbrev main_call5_v0 : Ref sig .tc := ⟨.hbm, 219, rfl⟩
abbrev main_call5_v1 : Ref sig .tc := ⟨.hbm, 220, rfl⟩
abbrev main_call5_c_0 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_call5_v5 : Ref sig .tc := ⟨.hbm, 225, rfl⟩
abbrev main_call5_c_1 : Ref sig .tc := ⟨.hbm, 226, rfl⟩
abbrev main_call5_c_2 : Ref sig .tc := ⟨.hbm, 227, rfl⟩
abbrev main_call5_v6 : Ref sig .tc := ⟨.hbm, 228, rfl⟩
abbrev main_call5_v7 : Ref sig .tc := ⟨.hbm, 229, rfl⟩
abbrev main_call5_v8 : Ref sig .tc := ⟨.hbm, 230, rfl⟩
abbrev main_call5_v9 : Ref sig .tc := ⟨.hbm, 231, rfl⟩
abbrev main_call5_v10 : Ref sig .tc := ⟨.hbm, 232, rfl⟩
abbrev main_call5_v11 : Ref sig .tc := ⟨.hbm, 233, rfl⟩
abbrev main_call5_c_3 : Ref sig .tc := ⟨.hbm, 234, rfl⟩
abbrev main_call5_v12 : Ref sig .tc := ⟨.hbm, 235, rfl⟩
abbrev main_call5_v13 : Ref sig .tc := ⟨.hbm, 236, rfl⟩
abbrev main_call5_cst : Ref sig .tc := ⟨.hbm, 237, rfl⟩
abbrev main_call5_v14 : Ref sig .tc := ⟨.hbm, 238, rfl⟩
abbrev main_v84 : Ref sig .tc := ⟨.hbm, 239, rfl⟩
abbrev main_v85 : Ref sig .tc := ⟨.hbm, 240, rfl⟩
abbrev main_call6_v0 : Ref sig .tc := ⟨.hbm, 241, rfl⟩
abbrev main_call6_cst : Ref sig .tc := ⟨.hbm, 242, rfl⟩
abbrev main_call6_v1 : Ref sig .tc := ⟨.hbm, 243, rfl⟩
abbrev main_call6_v2 : Ref sig .tc := ⟨.hbm, 244, rfl⟩
abbrev main_v86 : Ref sig .tc := ⟨.hbm, 245, rfl⟩
abbrev main_cst_14 : Ref sig .tc := ⟨.hbm, 246, rfl⟩
abbrev main_v87 : Ref sig .tc := ⟨.hbm, 247, rfl⟩
abbrev main_v88 : Ref sig .tc := ⟨.hbm, 248, rfl⟩
abbrev main_v89 : Ref sig .tc := ⟨.hbm, 249, rfl⟩
abbrev main_v90 : Ref sig .tc := ⟨.hbm, 250, rfl⟩
abbrev main_c_15 : Ref sig .tc := ⟨.hbm, 251, rfl⟩
abbrev main_v91 : Ref sig .tc := ⟨.hbm, 252, rfl⟩
abbrev main_v92 : Ref sig .tc := ⟨.hbm, 253, rfl⟩
abbrev main_c_16 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_cst_17 : Ref sig .tc := ⟨.hbm, 261, rfl⟩
abbrev main_v99 : Ref sig .tc := ⟨.hbm, 262, rfl⟩
abbrev main_v100 : Ref sig .tc := ⟨.hbm, 263, rfl⟩
abbrev main_cst_18 : Ref sig .tc := ⟨.hbm, 264, rfl⟩
abbrev main_v101 : Ref sig .tc := ⟨.hbm, 265, rfl⟩
abbrev main_v102 : Ref sig .tc := ⟨.hbm, 266, rfl⟩
abbrev main_cst_19 : Ref sig .tc := ⟨.hbm, 267, rfl⟩
abbrev main_v103 : Ref sig .tc := ⟨.hbm, 268, rfl⟩
abbrev main_v104 : Ref sig .tc := ⟨.hbm, 269, rfl⟩
abbrev main_c_20 : Ref sig .tc := ⟨.hbm, 270, rfl⟩
abbrev main_call7_cst : Ref sig .tc := ⟨.hbm, 271, rfl⟩
abbrev main_call7_v0 : Ref sig .tc := ⟨.hbm, 272, rfl⟩
abbrev main_call7_v1 : Ref sig .tc := ⟨.hbm, 273, rfl⟩
abbrev main_call7_cst_0 : Ref sig .tc := ⟨.hbm, 274, rfl⟩
abbrev main_call7_v2 : Ref sig .tc := ⟨.hbm, 275, rfl⟩
abbrev main_call7_v3 : Ref sig .tc := ⟨.hbm, 276, rfl⟩
abbrev main_call7_v4 : Ref sig .tc := ⟨.hbm, 277, rfl⟩
abbrev main_call7_v5 : Ref sig .tc := ⟨.hbm, 278, rfl⟩
abbrev main_call7_v6 : Ref sig .tc := ⟨.hbm, 279, rfl⟩
abbrev main_call7_v7 : Ref sig .tc := ⟨.hbm, 280, rfl⟩
abbrev main_call7_cst_1 : Ref sig .tc := ⟨.hbm, 281, rfl⟩
abbrev main_call7_v8 : Ref sig .tc := ⟨.hbm, 282, rfl⟩
abbrev main_call7_cst_2 : Ref sig .tc := ⟨.hbm, 283, rfl⟩
abbrev main_call7_v9 : Ref sig .tc := ⟨.hbm, 284, rfl⟩
abbrev main_call7_v10 : Ref sig .tc := ⟨.hbm, 285, rfl⟩
abbrev main_call7_v11 : Ref sig .tc := ⟨.hbm, 286, rfl⟩
abbrev main_call7_v12 : Ref sig .tc := ⟨.hbm, 287, rfl⟩
abbrev main_call7_cst_3 : Ref sig .tc := ⟨.hbm, 288, rfl⟩
abbrev main_call7_v13 : Ref sig .tc := ⟨.hbm, 289, rfl⟩
abbrev main_call7_cst_4 : Ref sig .tc := ⟨.hbm, 290, rfl⟩
abbrev main_call7_call0_v0 : Ref sig .tc := ⟨.hbm, 291, rfl⟩
abbrev main_call7_call0_v1 : Ref sig .tc := ⟨.hbm, 292, rfl⟩
abbrev main_v105 : Ref sig .tc := ⟨.hbm, 293, rfl⟩
abbrev main_v106 : Ref sig .tc := ⟨.hbm, 294, rfl⟩
abbrev main_v107 : Ref sig .tc := ⟨.hbm, 295, rfl⟩
abbrev main_cst_21 : Ref sig .tc := ⟨.hbm, 296, rfl⟩
abbrev main_v108 : Ref sig .tc := ⟨.hbm, 297, rfl⟩
abbrev main_v109 : Ref sig .tc := ⟨.hbm, 298, rfl⟩
abbrev main_v110 : Ref sig .tc := ⟨.hbm, 299, rfl⟩
abbrev main_v111 : Ref sig .tc := ⟨.hbm, 300, rfl⟩
abbrev main_v112 : Ref sig .tc := ⟨.hbm, 301, rfl⟩
abbrev main_v113 : Ref sig .tc := ⟨.hbm, 302, rfl⟩
abbrev main_v114 : Ref sig .tc := ⟨.hbm, 303, rfl⟩
abbrev main_v115 : Ref sig .tc := ⟨.hbm, 304, rfl⟩
abbrev main_v116 : Ref sig .tc := ⟨.hbm, 305, rfl⟩
abbrev main_v117 : Ref sig .tc := ⟨.hbm, 306, rfl⟩
abbrev main_v118 : Ref sig .tc := ⟨.hbm, 307, rfl⟩
abbrev main_cst_22 : Ref sig .tc := ⟨.hbm, 308, rfl⟩
abbrev main_v119 : Ref sig .tc := ⟨.hbm, 309, rfl⟩
abbrev main_v120 : Ref sig .tc := ⟨.hbm, 310, rfl⟩
abbrev main_cst_23 : Ref sig .tc := ⟨.hbm, 311, rfl⟩
abbrev main_v121 : Ref sig .tc := ⟨.hbm, 312, rfl⟩
abbrev main_v122 : Ref sig .tc := ⟨.hbm, 313, rfl⟩
abbrev main_c_24 : Ref sig .tc := ⟨.hbm, 314, rfl⟩
abbrev main_call8_cst : Ref sig .tc := ⟨.hbm, 315, rfl⟩
abbrev main_call8_v0 : Ref sig .tc := ⟨.hbm, 316, rfl⟩
abbrev main_call8_v1 : Ref sig .tc := ⟨.hbm, 317, rfl⟩
abbrev main_call8_cst_0 : Ref sig .tc := ⟨.hbm, 318, rfl⟩
abbrev main_call8_v2 : Ref sig .tc := ⟨.hbm, 319, rfl⟩
abbrev main_call8_v3 : Ref sig .tc := ⟨.hbm, 320, rfl⟩
abbrev main_call8_v4 : Ref sig .tc := ⟨.hbm, 321, rfl⟩
abbrev main_call8_v5 : Ref sig .tc := ⟨.hbm, 322, rfl⟩
abbrev main_call8_v6 : Ref sig .tc := ⟨.hbm, 323, rfl⟩
abbrev main_call8_v7 : Ref sig .tc := ⟨.hbm, 324, rfl⟩
abbrev main_call8_cst_1 : Ref sig .tc := ⟨.hbm, 325, rfl⟩
abbrev main_call8_v8 : Ref sig .tc := ⟨.hbm, 326, rfl⟩
abbrev main_call8_cst_2 : Ref sig .tc := ⟨.hbm, 327, rfl⟩
abbrev main_call8_v9 : Ref sig .tc := ⟨.hbm, 328, rfl⟩
abbrev main_call8_v10 : Ref sig .tc := ⟨.hbm, 329, rfl⟩
abbrev main_call8_v11 : Ref sig .tc := ⟨.hbm, 330, rfl⟩
abbrev main_call8_v12 : Ref sig .tc := ⟨.hbm, 331, rfl⟩
abbrev main_call8_cst_3 : Ref sig .tc := ⟨.hbm, 332, rfl⟩
abbrev main_call8_v13 : Ref sig .tc := ⟨.hbm, 333, rfl⟩
abbrev main_call8_cst_4 : Ref sig .tc := ⟨.hbm, 334, rfl⟩
abbrev main_call8_call0_v0 : Ref sig .tc := ⟨.hbm, 335, rfl⟩
abbrev main_call8_call0_v1 : Ref sig .tc := ⟨.hbm, 336, rfl⟩
abbrev main_v123 : Ref sig .tc := ⟨.hbm, 337, rfl⟩
abbrev main_v124 : Ref sig .tc := ⟨.hbm, 338, rfl⟩
abbrev main_v125 : Ref sig .tc := ⟨.hbm, 339, rfl⟩
abbrev main_cst_25 : Ref sig .tc := ⟨.hbm, 340, rfl⟩
abbrev main_v126 : Ref sig .tc := ⟨.hbm, 341, rfl⟩
abbrev main_v127 : Ref sig .tc := ⟨.hbm, 342, rfl⟩
abbrev main_v128 : Ref sig .tc := ⟨.hbm, 343, rfl⟩
abbrev main_v129 : Ref sig .tc := ⟨.hbm, 344, rfl⟩
abbrev main_v130 : Ref sig .tc := ⟨.hbm, 345, rfl⟩
abbrev main_v131 : Ref sig .tc := ⟨.hbm, 346, rfl⟩
abbrev main_v132 : Ref sig .tc := ⟨.hbm, 347, rfl⟩
abbrev main_v133 : Ref sig .tc := ⟨.hbm, 348, rfl⟩
abbrev main_v134 : Ref sig .tc := ⟨.hbm, 349, rfl⟩
abbrev main_v135 : Ref sig .tc := ⟨.hbm, 350, rfl⟩
abbrev main_v136 : Ref sig .tc := ⟨.hbm, 351, rfl⟩
abbrev main_v137 : Ref sig .tc := ⟨.hbm, 352, rfl⟩
abbrev main_v138 : Ref sig .tc := ⟨.hbm, 353, rfl⟩
abbrev main_cst_26 : Ref sig .tc := ⟨.hbm, 354, rfl⟩
abbrev main_v139 : Ref sig .tc := ⟨.hbm, 355, rfl⟩
abbrev main_cst_27 : Ref sig .tc := ⟨.hbm, 356, rfl⟩
abbrev main_v140 : Ref sig .tc := ⟨.hbm, 357, rfl⟩
abbrev main_v141 : Ref sig .tc := ⟨.hbm, 358, rfl⟩
abbrev main_v142 : Ref sig .tc := ⟨.hbm, 359, rfl⟩
abbrev main_v143 : Ref sig .tc := ⟨.hbm, 360, rfl⟩
abbrev main_v144 : Ref sig .tc := ⟨.hbm, 361, rfl⟩
abbrev main_v145 : Ref sig .tc := ⟨.hbm, 362, rfl⟩
abbrev main_cst_28 : Ref sig .tc := ⟨.hbm, 363, rfl⟩
abbrev main_v146 : Ref sig .tc := ⟨.hbm, 364, rfl⟩
abbrev main_v147 : Ref sig .tc := ⟨.hbm, 365, rfl⟩
abbrev main_v148 : Ref sig .tc := ⟨.hbm, 366, rfl⟩
abbrev main_v149 : Ref sig .tc := ⟨.hbm, 367, rfl⟩
abbrev main_v150 : Ref sig .tc := ⟨.hbm, 368, rfl⟩
abbrev main_v151 : Ref sig .tc := ⟨.hbm, 369, rfl⟩
abbrev main_v152 : Ref sig .tc := ⟨.hbm, 370, rfl⟩
abbrev main_v153 : Ref sig .tc := ⟨.hbm, 371, rfl⟩
abbrev main_v154 : Ref sig .tc := ⟨.hbm, 372, rfl⟩
abbrev main_cst_29 : Ref sig .tc := ⟨.hbm, 373, rfl⟩
abbrev main_v155 : Ref sig .tc := ⟨.hbm, 374, rfl⟩
abbrev main_v156 : Ref sig .tc := ⟨.hbm, 375, rfl⟩
abbrev main_v157 : Ref sig .tc := ⟨.hbm, 376, rfl⟩
abbrev main_v158 : Ref sig .tc := ⟨.hbm, 377, rfl⟩
abbrev main_v159 : Ref sig .tc := ⟨.hbm, 378, rfl⟩
abbrev main_values_30 : Ref sig .tc := ⟨.hbm, 379, rfl⟩
abbrev main_indices_31 : Ref sig .tc := ⟨.hbm, 380, rfl⟩
abbrev main_call9_c : Ref sig .tc := ⟨.hbm, 381, rfl⟩
abbrev main_call9_v0 : Ref sig .tc := ⟨.hbm, 382, rfl⟩
abbrev main_call9_v1 : Ref sig .tc := ⟨.hbm, 383, rfl⟩
abbrev main_call9_c_0 : Ref sig .tc := ⟨.hbm, 384, rfl⟩
abbrev main_call9_v2 : Ref sig .tc := ⟨.hbm, 385, rfl⟩
abbrev main_call9_v3 : Ref sig .tc := ⟨.hbm, 386, rfl⟩
abbrev main_call9_v4 : Ref sig .tc := ⟨.hbm, 387, rfl⟩
abbrev main_call9_v5 : Ref sig .tc := ⟨.hbm, 388, rfl⟩
abbrev main_call9_c_1 : Ref sig .tc := ⟨.hbm, 389, rfl⟩
abbrev main_call9_c_2 : Ref sig .tc := ⟨.hbm, 390, rfl⟩
abbrev main_call9_v6 : Ref sig .tc := ⟨.hbm, 391, rfl⟩
abbrev main_call9_v7 : Ref sig .tc := ⟨.hbm, 392, rfl⟩
abbrev main_call9_v8 : Ref sig .tc := ⟨.hbm, 393, rfl⟩
abbrev main_call9_v9 : Ref sig .tc := ⟨.hbm, 394, rfl⟩
abbrev main_call9_v10 : Ref sig .tc := ⟨.hbm, 395, rfl⟩
abbrev main_call9_v11 : Ref sig .tc := ⟨.hbm, 396, rfl⟩
abbrev main_call9_c_3 : Ref sig .tc := ⟨.hbm, 397, rfl⟩
abbrev main_call9_v12 : Ref sig .tc := ⟨.hbm, 398, rfl⟩
abbrev main_call9_v13 : Ref sig .tc := ⟨.hbm, 399, rfl⟩
abbrev main_call9_cst : Ref sig .tc := ⟨.hbm, 400, rfl⟩
abbrev main_call9_v14 : Ref sig .tc := ⟨.hbm, 401, rfl⟩
abbrev main_v160 : Ref sig .tc := ⟨.hbm, 402, rfl⟩
abbrev main_v161 : Ref sig .tc := ⟨.hbm, 403, rfl⟩
abbrev main_v162 : Ref sig .tc := ⟨.hbm, 404, rfl⟩
abbrev main_cst_32 : Ref sig .tc := ⟨.hbm, 405, rfl⟩
abbrev main_v163 : Ref sig .tc := ⟨.hbm, 406, rfl⟩
abbrev main_cst_33 : Ref sig .tc := ⟨.hbm, 407, rfl⟩
abbrev main_v164 : Ref sig .tc := ⟨.hbm, 408, rfl⟩
abbrev main_v165 : Ref sig .tc := ⟨.hbm, 409, rfl⟩
abbrev main_v166 : Ref sig .tc := ⟨.hbm, 410, rfl⟩
abbrev main_v167 : Ref sig .tc := ⟨.hbm, 411, rfl⟩
abbrev main_v168 : Ref sig .tc := ⟨.hbm, 412, rfl⟩
abbrev main_v169 : Ref sig .tc := ⟨.hbm, 413, rfl⟩
abbrev main_cst_34 : Ref sig .tc := ⟨.hbm, 414, rfl⟩
abbrev main_v170 : Ref sig .tc := ⟨.hbm, 415, rfl⟩
abbrev main_v171 : Ref sig .tc := ⟨.hbm, 416, rfl⟩
abbrev main_v172 : Ref sig .tc := ⟨.hbm, 417, rfl⟩
abbrev main_v173 : Ref sig .tc := ⟨.hbm, 418, rfl⟩
abbrev main_v174 : Ref sig .tc := ⟨.hbm, 419, rfl⟩
abbrev main_call10_cst : Ref sig .tc := ⟨.hbm, 420, rfl⟩
abbrev main_call10_v0 : Ref sig .tc := ⟨.hbm, 421, rfl⟩
abbrev main_call10_v1 : Ref sig .tc := ⟨.hbm, 422, rfl⟩
abbrev main_call10_v2 : Ref sig .tc := ⟨.hbm, 423, rfl⟩
abbrev main_call10_v3 : Ref sig .tc := ⟨.hbm, 424, rfl⟩
abbrev main_call10_v4 : Ref sig .tc := ⟨.hbm, 425, rfl⟩
abbrev main_call10_v5 : Ref sig .tc := ⟨.hbm, 426, rfl⟩
abbrev main_call10_v6 : Ref sig .tc := ⟨.hbm, 427, rfl⟩
abbrev main_call10_v7 : Ref sig .tc := ⟨.hbm, 428, rfl⟩
abbrev main_call10_v8 : Ref sig .tc := ⟨.hbm, 429, rfl⟩
abbrev main_call10_v9 : Ref sig .tc := ⟨.hbm, 430, rfl⟩
abbrev main_call10_v10 : Ref sig .tc := ⟨.hbm, 431, rfl⟩
abbrev main_call10_v11 : Ref sig .tc := ⟨.hbm, 432, rfl⟩
abbrev main_v175 : Ref sig .tc := ⟨.hbm, 433, rfl⟩
abbrev main_v176 : Ref sig .tc := ⟨.hbm, 434, rfl⟩
abbrev main_v177 : Ref sig .tc := ⟨.hbm, 435, rfl⟩
abbrev main_call11_c : Ref sig .tc := ⟨.hbm, 436, rfl⟩
abbrev main_call11_v0 : Ref sig .tc := ⟨.hbm, 437, rfl⟩
abbrev main_call11_v1 : Ref sig .tc := ⟨.hbm, 438, rfl⟩
abbrev main_call11_c_0 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_call11_v5 : Ref sig .tc := ⟨.hbm, 443, rfl⟩
abbrev main_call11_c_1 : Ref sig .tc := ⟨.hbm, 444, rfl⟩
abbrev main_call11_c_2 : Ref sig .tc := ⟨.hbm, 445, rfl⟩
abbrev main_call11_v6 : Ref sig .tc := ⟨.hbm, 446, rfl⟩
abbrev main_call11_v7 : Ref sig .tc := ⟨.hbm, 447, rfl⟩
abbrev main_call11_v8 : Ref sig .tc := ⟨.hbm, 448, rfl⟩
abbrev main_call11_v9 : Ref sig .tc := ⟨.hbm, 449, rfl⟩
abbrev main_call11_v10 : Ref sig .tc := ⟨.hbm, 450, rfl⟩
abbrev main_call11_v11 : Ref sig .tc := ⟨.hbm, 451, rfl⟩
abbrev main_call11_c_3 : Ref sig .tc := ⟨.hbm, 452, rfl⟩
abbrev main_call11_v12 : Ref sig .tc := ⟨.hbm, 453, rfl⟩
abbrev main_call11_v13 : Ref sig .tc := ⟨.hbm, 454, rfl⟩
abbrev main_call11_cst : Ref sig .tc := ⟨.hbm, 455, rfl⟩
abbrev main_call11_v14 : Ref sig .tc := ⟨.hbm, 456, rfl⟩
abbrev main_v178 : Ref sig .tc := ⟨.hbm, 457, rfl⟩
abbrev main_v179 : Ref sig .tc := ⟨.hbm, 458, rfl⟩
abbrev main_call12_v0 : Ref sig .tc := ⟨.hbm, 459, rfl⟩
abbrev main_call12_cst : Ref sig .tc := ⟨.hbm, 460, rfl⟩
abbrev main_call12_v1 : Ref sig .tc := ⟨.hbm, 461, rfl⟩
abbrev main_call12_v2 : Ref sig .tc := ⟨.hbm, 462, rfl⟩
abbrev main_v180 : Ref sig .tc := ⟨.hbm, 463, rfl⟩
abbrev main_cst_35 : Ref sig .tc := ⟨.hbm, 464, rfl⟩
abbrev main_v181 : Ref sig .tc := ⟨.hbm, 465, rfl⟩
abbrev main_v182 : Ref sig .tc := ⟨.hbm, 466, rfl⟩
abbrev main_v183 : Ref sig .tc := ⟨.hbm, 467, rfl⟩
abbrev main_v184 : Ref sig .tc := ⟨.hbm, 468, rfl⟩
abbrev main_c_36 : Ref sig .tc := ⟨.hbm, 469, rfl⟩
abbrev main_v185 : Ref sig .tc := ⟨.hbm, 470, rfl⟩
abbrev main_v186 : Ref sig .tc := ⟨.hbm, 471, rfl⟩
abbrev main_c_37 : Ref sig .tc := ⟨.hbm, 472, rfl⟩
abbrev main_v187 : Ref sig .tc := ⟨.hbm, 473, rfl⟩
abbrev main_v188 : Ref sig .tc := ⟨.hbm, 474, rfl⟩
abbrev main_v189 : Ref sig .tc := ⟨.hbm, 475, rfl⟩
abbrev main_v190 : Ref sig .tc := ⟨.hbm, 476, rfl⟩
abbrev main_v191 : Ref sig .tc := ⟨.hbm, 477, rfl⟩
abbrev main_v192 : Ref sig .tc := ⟨.hbm, 478, rfl⟩
abbrev main_cst_38 : Ref sig .tc := ⟨.hbm, 479, rfl⟩
abbrev main_v193 : Ref sig .tc := ⟨.hbm, 480, rfl⟩
abbrev main_v194 : Ref sig .tc := ⟨.hbm, 481, rfl⟩
abbrev main_v195 : Ref sig .tc := ⟨.hbm, 482, rfl⟩
abbrev main_cst_39 : Ref sig .tc := ⟨.hbm, 483, rfl⟩
abbrev main_v196 : Ref sig .tc := ⟨.hbm, 484, rfl⟩
abbrev main_v197 : Ref sig .tc := ⟨.hbm, 485, rfl⟩
abbrev main_cst_40 : Ref sig .tc := ⟨.hbm, 486, rfl⟩
abbrev main_v198 : Ref sig .tc := ⟨.hbm, 487, rfl⟩
abbrev main_v199 : Ref sig .tc := ⟨.hbm, 488, rfl⟩
abbrev main_c_41 : Ref sig .tc := ⟨.hbm, 489, rfl⟩
abbrev main_call13_cst : Ref sig .tc := ⟨.hbm, 490, rfl⟩
abbrev main_call13_v0 : Ref sig .tc := ⟨.hbm, 491, rfl⟩
abbrev main_call13_v1 : Ref sig .tc := ⟨.hbm, 492, rfl⟩
abbrev main_call13_cst_0 : Ref sig .tc := ⟨.hbm, 493, rfl⟩
abbrev main_call13_v2 : Ref sig .tc := ⟨.hbm, 494, rfl⟩
abbrev main_call13_v3 : Ref sig .tc := ⟨.hbm, 495, rfl⟩
abbrev main_call13_v4 : Ref sig .tc := ⟨.hbm, 496, rfl⟩
abbrev main_call13_v5 : Ref sig .tc := ⟨.hbm, 497, rfl⟩
abbrev main_call13_v6 : Ref sig .tc := ⟨.hbm, 498, rfl⟩
abbrev main_call13_v7 : Ref sig .tc := ⟨.hbm, 499, rfl⟩
abbrev main_call13_cst_1 : Ref sig .tc := ⟨.hbm, 500, rfl⟩
abbrev main_call13_v8 : Ref sig .tc := ⟨.hbm, 501, rfl⟩
abbrev main_call13_cst_2 : Ref sig .tc := ⟨.hbm, 502, rfl⟩
abbrev main_call13_v9 : Ref sig .tc := ⟨.hbm, 503, rfl⟩
abbrev main_call13_v10 : Ref sig .tc := ⟨.hbm, 504, rfl⟩
abbrev main_call13_v11 : Ref sig .tc := ⟨.hbm, 505, rfl⟩
abbrev main_call13_v12 : Ref sig .tc := ⟨.hbm, 506, rfl⟩
abbrev main_call13_cst_3 : Ref sig .tc := ⟨.hbm, 507, rfl⟩
abbrev main_call13_v13 : Ref sig .tc := ⟨.hbm, 508, rfl⟩
abbrev main_call13_cst_4 : Ref sig .tc := ⟨.hbm, 509, rfl⟩
abbrev main_call13_call0_v0 : Ref sig .tc := ⟨.hbm, 510, rfl⟩
abbrev main_call13_call0_v1 : Ref sig .tc := ⟨.hbm, 511, rfl⟩
abbrev main_v200 : Ref sig .tc := ⟨.hbm, 512, rfl⟩
abbrev main_v201 : Ref sig .tc := ⟨.hbm, 513, rfl⟩
abbrev main_v202 : Ref sig .tc := ⟨.hbm, 514, rfl⟩
abbrev main_cst_42 : Ref sig .tc := ⟨.hbm, 515, rfl⟩
abbrev main_v203 : Ref sig .tc := ⟨.hbm, 516, rfl⟩
abbrev main_v204 : Ref sig .tc := ⟨.hbm, 517, rfl⟩
abbrev main_v205 : Ref sig .tc := ⟨.hbm, 518, rfl⟩
abbrev main_v206 : Ref sig .tc := ⟨.hbm, 519, rfl⟩
abbrev main_v207 : Ref sig .tc := ⟨.hbm, 520, rfl⟩
abbrev main_v208 : Ref sig .tc := ⟨.hbm, 521, rfl⟩
abbrev main_v209 : Ref sig .tc := ⟨.hbm, 522, rfl⟩
abbrev main_v210 : Ref sig .tc := ⟨.hbm, 523, rfl⟩
abbrev main_v211 : Ref sig .tc := ⟨.hbm, 524, rfl⟩
abbrev main_v212 : Ref sig .tc := ⟨.hbm, 525, rfl⟩
abbrev main_v213 : Ref sig .tc := ⟨.hbm, 526, rfl⟩
abbrev main_cst_43 : Ref sig .tc := ⟨.hbm, 527, rfl⟩
abbrev main_v214 : Ref sig .tc := ⟨.hbm, 528, rfl⟩
abbrev main_v215 : Ref sig .tc := ⟨.hbm, 529, rfl⟩
abbrev main_cst_44 : Ref sig .tc := ⟨.hbm, 530, rfl⟩
abbrev main_v216 : Ref sig .tc := ⟨.hbm, 531, rfl⟩
abbrev main_v217 : Ref sig .tc := ⟨.hbm, 532, rfl⟩
abbrev main_c_45 : Ref sig .tc := ⟨.hbm, 533, rfl⟩
abbrev main_call14_cst : Ref sig .tc := ⟨.hbm, 534, rfl⟩
abbrev main_call14_v0 : Ref sig .tc := ⟨.hbm, 535, rfl⟩
abbrev main_call14_v1 : Ref sig .tc := ⟨.hbm, 536, rfl⟩
abbrev main_call14_cst_0 : Ref sig .tc := ⟨.hbm, 537, rfl⟩
abbrev main_call14_v2 : Ref sig .tc := ⟨.hbm, 538, rfl⟩
abbrev main_call14_v3 : Ref sig .tc := ⟨.hbm, 539, rfl⟩
abbrev main_call14_v4 : Ref sig .tc := ⟨.hbm, 540, rfl⟩
abbrev main_call14_v5 : Ref sig .tc := ⟨.hbm, 541, rfl⟩
abbrev main_call14_v6 : Ref sig .tc := ⟨.hbm, 542, rfl⟩
abbrev main_call14_v7 : Ref sig .tc := ⟨.hbm, 543, rfl⟩
abbrev main_call14_cst_1 : Ref sig .tc := ⟨.hbm, 544, rfl⟩
abbrev main_call14_v8 : Ref sig .tc := ⟨.hbm, 545, rfl⟩
abbrev main_call14_cst_2 : Ref sig .tc := ⟨.hbm, 546, rfl⟩
abbrev main_call14_v9 : Ref sig .tc := ⟨.hbm, 547, rfl⟩
abbrev main_call14_v10 : Ref sig .tc := ⟨.hbm, 548, rfl⟩
abbrev main_call14_v11 : Ref sig .tc := ⟨.hbm, 549, rfl⟩
abbrev main_call14_v12 : Ref sig .tc := ⟨.hbm, 550, rfl⟩
abbrev main_call14_cst_3 : Ref sig .tc := ⟨.hbm, 551, rfl⟩
abbrev main_call14_v13 : Ref sig .tc := ⟨.hbm, 552, rfl⟩
abbrev main_call14_cst_4 : Ref sig .tc := ⟨.hbm, 553, rfl⟩
abbrev main_call14_call0_v0 : Ref sig .tc := ⟨.hbm, 554, rfl⟩
abbrev main_call14_call0_v1 : Ref sig .tc := ⟨.hbm, 555, rfl⟩
abbrev main_v218 : Ref sig .tc := ⟨.hbm, 556, rfl⟩
abbrev main_v219 : Ref sig .tc := ⟨.hbm, 557, rfl⟩
abbrev main_v220 : Ref sig .tc := ⟨.hbm, 558, rfl⟩
abbrev main_cst_46 : Ref sig .tc := ⟨.hbm, 559, rfl⟩
abbrev main_v221 : Ref sig .tc := ⟨.hbm, 560, rfl⟩
abbrev main_v222 : Ref sig .tc := ⟨.hbm, 561, rfl⟩
abbrev main_v223 : Ref sig .tc := ⟨.hbm, 562, rfl⟩
abbrev main_v224 : Ref sig .tc := ⟨.hbm, 563, rfl⟩
abbrev main_v225 : Ref sig .tc := ⟨.hbm, 564, rfl⟩
abbrev main_v226 : Ref sig .tc := ⟨.hbm, 565, rfl⟩
abbrev main_v227 : Ref sig .tc := ⟨.hbm, 566, rfl⟩
abbrev main_v228 : Ref sig .tc := ⟨.hbm, 567, rfl⟩
abbrev main_v229 : Ref sig .tc := ⟨.hbm, 568, rfl⟩
abbrev main_v230 : Ref sig .tc := ⟨.hbm, 569, rfl⟩
abbrev main_v231 : Ref sig .tc := ⟨.hbm, 570, rfl⟩
abbrev main_v232 : Ref sig .tc := ⟨.hbm, 571, rfl⟩
abbrev main_v233 : Ref sig .tc := ⟨.hbm, 572, rfl⟩
abbrev main_v234 : Ref sig .tc := ⟨.hbm, 573, rfl⟩
abbrev main_cst_47 : Ref sig .tc := ⟨.hbm, 574, rfl⟩
abbrev main_v235 : Ref sig .tc := ⟨.hbm, 575, rfl⟩
abbrev main_v236 : Ref sig .tc := ⟨.hbm, 576, rfl⟩
abbrev main_v237 : Ref sig .tc := ⟨.hbm, 577, rfl⟩
abbrev main_v238 : Ref sig .tc := ⟨.hbm, 578, rfl⟩
abbrev main_v239 : Ref sig .tc := ⟨.hbm, 579, rfl⟩
abbrev main_values_48 : Ref sig .tc := ⟨.hbm, 580, rfl⟩
abbrev main_indices_49 : Ref sig .tc := ⟨.hbm, 581, rfl⟩
abbrev main_call15_c : Ref sig .tc := ⟨.hbm, 582, rfl⟩
abbrev main_call15_v0 : Ref sig .tc := ⟨.hbm, 583, rfl⟩
abbrev main_call15_v1 : Ref sig .tc := ⟨.hbm, 584, rfl⟩
abbrev main_call15_c_0 : Ref sig .tc := ⟨.hbm, 585, rfl⟩
abbrev main_call15_v2 : Ref sig .tc := ⟨.hbm, 586, rfl⟩
abbrev main_call15_v3 : Ref sig .tc := ⟨.hbm, 587, rfl⟩
abbrev main_call15_v4 : Ref sig .tc := ⟨.hbm, 588, rfl⟩
abbrev main_call15_v5 : Ref sig .tc := ⟨.hbm, 589, rfl⟩
abbrev main_call15_c_1 : Ref sig .tc := ⟨.hbm, 590, rfl⟩
abbrev main_call15_c_2 : Ref sig .tc := ⟨.hbm, 591, rfl⟩
abbrev main_call15_v6 : Ref sig .tc := ⟨.hbm, 592, rfl⟩
abbrev main_call15_v7 : Ref sig .tc := ⟨.hbm, 593, rfl⟩
abbrev main_call15_v8 : Ref sig .tc := ⟨.hbm, 594, rfl⟩
abbrev main_call15_v9 : Ref sig .tc := ⟨.hbm, 595, rfl⟩
abbrev main_call15_v10 : Ref sig .tc := ⟨.hbm, 596, rfl⟩
abbrev main_call15_v11 : Ref sig .tc := ⟨.hbm, 597, rfl⟩
abbrev main_call15_c_3 : Ref sig .tc := ⟨.hbm, 598, rfl⟩
abbrev main_call15_v12 : Ref sig .tc := ⟨.hbm, 599, rfl⟩
abbrev main_call15_v13 : Ref sig .tc := ⟨.hbm, 600, rfl⟩
abbrev main_call15_cst : Ref sig .tc := ⟨.hbm, 601, rfl⟩
abbrev main_call15_v14 : Ref sig .tc := ⟨.hbm, 602, rfl⟩
abbrev main_v240 : Ref sig .tc := ⟨.hbm, 603, rfl⟩
abbrev main_v241 : Ref sig .tc := ⟨.hbm, 604, rfl⟩
abbrev main_v242 : Ref sig .tc := ⟨.hbm, 605, rfl⟩
abbrev main_cst_50 : Ref sig .tc := ⟨.hbm, 606, rfl⟩
abbrev main_v243 : Ref sig .tc := ⟨.hbm, 607, rfl⟩
abbrev main_cst_51 : Ref sig .tc := ⟨.hbm, 608, rfl⟩
abbrev main_v244 : Ref sig .tc := ⟨.hbm, 609, rfl⟩
abbrev main_v245 : Ref sig .tc := ⟨.hbm, 610, rfl⟩
abbrev main_v246 : Ref sig .tc := ⟨.hbm, 611, rfl⟩
abbrev main_v247 : Ref sig .tc := ⟨.hbm, 612, rfl⟩
abbrev main_v248 : Ref sig .tc := ⟨.hbm, 613, rfl⟩
abbrev main_v249 : Ref sig .tc := ⟨.hbm, 614, rfl⟩
abbrev main_cst_52 : Ref sig .tc := ⟨.hbm, 615, rfl⟩
abbrev main_v250 : Ref sig .tc := ⟨.hbm, 616, rfl⟩
abbrev main_v251 : Ref sig .tc := ⟨.hbm, 617, rfl⟩
abbrev main_v252 : Ref sig .tc := ⟨.hbm, 618, rfl⟩
abbrev main_v253 : Ref sig .tc := ⟨.hbm, 619, rfl⟩
abbrev main_v254 : Ref sig .tc := ⟨.hbm, 620, rfl⟩
abbrev main_call16_cst : Ref sig .tc := ⟨.hbm, 621, rfl⟩
abbrev main_call16_v0 : Ref sig .tc := ⟨.hbm, 622, rfl⟩
abbrev main_call16_v1 : Ref sig .tc := ⟨.hbm, 623, rfl⟩
abbrev main_call16_v2 : Ref sig .tc := ⟨.hbm, 624, rfl⟩
abbrev main_call16_v3 : Ref sig .tc := ⟨.hbm, 625, rfl⟩
abbrev main_call16_v4 : Ref sig .tc := ⟨.hbm, 626, rfl⟩
abbrev main_call16_v5 : Ref sig .tc := ⟨.hbm, 627, rfl⟩
abbrev main_call16_v6 : Ref sig .tc := ⟨.hbm, 628, rfl⟩
abbrev main_call16_v7 : Ref sig .tc := ⟨.hbm, 629, rfl⟩
abbrev main_call16_v8 : Ref sig .tc := ⟨.hbm, 630, rfl⟩
abbrev main_call16_v9 : Ref sig .tc := ⟨.hbm, 631, rfl⟩
abbrev main_call16_v10 : Ref sig .tc := ⟨.hbm, 632, rfl⟩
abbrev main_call16_v11 : Ref sig .tc := ⟨.hbm, 633, rfl⟩
abbrev main_v255 : Ref sig .tc := ⟨.hbm, 634, rfl⟩
abbrev main_v256 : Ref sig .tc := ⟨.hbm, 635, rfl⟩
abbrev main_v257 : Ref sig .tc := ⟨.hbm, 636, rfl⟩
abbrev main_call17_c : Ref sig .tc := ⟨.hbm, 637, rfl⟩
abbrev main_call17_v0 : Ref sig .tc := ⟨.hbm, 638, rfl⟩
abbrev main_call17_v1 : Ref sig .tc := ⟨.hbm, 639, rfl⟩
abbrev main_call17_c_0 : Ref sig .tc := ⟨.hbm, 640, rfl⟩
abbrev main_call17_v2 : Ref sig .tc := ⟨.hbm, 641, rfl⟩
abbrev main_call17_v3 : Ref sig .tc := ⟨.hbm, 642, rfl⟩
abbrev main_call17_v4 : Ref sig .tc := ⟨.hbm, 643, rfl⟩
abbrev main_call17_v5 : Ref sig .tc := ⟨.hbm, 644, rfl⟩
abbrev main_call17_c_1 : Ref sig .tc := ⟨.hbm, 645, rfl⟩
abbrev main_call17_c_2 : Ref sig .tc := ⟨.hbm, 646, rfl⟩
abbrev main_call17_v6 : Ref sig .tc := ⟨.hbm, 647, rfl⟩
abbrev main_call17_v7 : Ref sig .tc := ⟨.hbm, 648, rfl⟩
abbrev main_call17_v8 : Ref sig .tc := ⟨.hbm, 649, rfl⟩
abbrev main_call17_v9 : Ref sig .tc := ⟨.hbm, 650, rfl⟩
abbrev main_call17_v10 : Ref sig .tc := ⟨.hbm, 651, rfl⟩
abbrev main_call17_v11 : Ref sig .tc := ⟨.hbm, 652, rfl⟩
abbrev main_call17_c_3 : Ref sig .tc := ⟨.hbm, 653, rfl⟩
abbrev main_call17_v12 : Ref sig .tc := ⟨.hbm, 654, rfl⟩
abbrev main_call17_v13 : Ref sig .tc := ⟨.hbm, 655, rfl⟩
abbrev main_call17_cst : Ref sig .tc := ⟨.hbm, 656, rfl⟩
abbrev main_call17_v14 : Ref sig .tc := ⟨.hbm, 657, rfl⟩
abbrev main_v258 : Ref sig .tc := ⟨.hbm, 658, rfl⟩
abbrev main_v259 : Ref sig .tc := ⟨.hbm, 659, rfl⟩
abbrev main_call18_v0 : Ref sig .tc := ⟨.hbm, 660, rfl⟩
abbrev main_call18_cst : Ref sig .tc := ⟨.hbm, 661, rfl⟩
abbrev main_call18_v1 : Ref sig .tc := ⟨.hbm, 662, rfl⟩
abbrev main_call18_v2 : Ref sig .tc := ⟨.hbm, 663, rfl⟩
abbrev main_v260 : Ref sig .tc := ⟨.hbm, 664, rfl⟩
abbrev main_cst_53 : Ref sig .tc := ⟨.hbm, 665, rfl⟩
abbrev main_v261 : Ref sig .tc := ⟨.hbm, 666, rfl⟩
abbrev main_v262 : Ref sig .tc := ⟨.hbm, 667, rfl⟩
abbrev main_v263 : Ref sig .tc := ⟨.hbm, 668, rfl⟩
abbrev main_v264 : Ref sig .tc := ⟨.hbm, 669, rfl⟩
abbrev main_c_54 : Ref sig .tc := ⟨.hbm, 670, rfl⟩
abbrev main_v265 : Ref sig .tc := ⟨.hbm, 671, rfl⟩
abbrev main_v266 : Ref sig .tc := ⟨.hbm, 672, rfl⟩
abbrev main_c_55 : Ref sig .tc := ⟨.hbm, 673, rfl⟩
abbrev main_v267 : Ref sig .tc := ⟨.hbm, 674, rfl⟩
abbrev main_v268 : Ref sig .tc := ⟨.hbm, 675, rfl⟩
abbrev main_v269 : Ref sig .tc := ⟨.hbm, 676, rfl⟩
abbrev main_v270 : Ref sig .tc := ⟨.hbm, 677, rfl⟩
abbrev main_v271 : Ref sig .tc := ⟨.hbm, 678, rfl⟩
abbrev main_v272 : Ref sig .tc := ⟨.hbm, 679, rfl⟩
abbrev main_cst_56 : Ref sig .tc := ⟨.hbm, 680, rfl⟩
abbrev main_v273 : Ref sig .tc := ⟨.hbm, 681, rfl⟩

abbrev nD : Nat := 1
abbrev τ : Topo := Topo.v7x

variable {F : FTy → Type} [FloatOps F]
-- ==== Proof.Layer.lean ====
/- The layer as the reference writes it, named: the normalization, the scores of a routing pass, its chosen sources, their
   weights and what they add. Each definition is the reference's own composition of operations at any float; the theorems
   say that the reference's run leaves these, and that the precondition reads the scores named here. -/
module

public import proofs.«01_k».proof.Pre_no_ties
public import proofs.«01_k».proof.Proof.Gen.ReferenceIdeal
public import proofs.«01_k».proof.Proof.Gen.ReferenceIdeal.Run

@[expose] public section

noncomputable section

namespace Cert.Layer

open Cert.ReferenceIdeal Cert.ReferenceIdeal.Gen Idealize.ShloMosaic Idealize.ShloMosaic.TcCoe Idealize.SL.Sem
open Idealize.ShloMosaic.StableHlo

variable {F : FTy → Type} [FloatOps F]

/-- A value less the mean of its last axis. -/
def centered (x : FVec F S2x2048x768 .f32) : FVec F S2x2048x768 .f32 :=
  subf x (broadcastInDim S2x2048x768 ![0, 1, 2] bcast_S2x2048x1_S2x2048x768_0_1_2 (Host.divf (broadcastInDim S2x2048x1 ![0, 1] bcast_S2x2048_S2x2048x1_0_1 (Host.reduceAdd x (constant S_ .f32 0x00000000#32) reducesTo_S2x2048x768_S2x2048_d2 h_S_)) (broadcastInDim S2x2048x1 ![] bcast_S_S2x2048x1 (constant S_ .f32 0x44400000#32))))

/-- The number of elements a variance divides by. -/
def count : FVec F S_ .f32 := subf (constant S_ .f32 0x44400000#32) (sitofp .f32 (constantI S_ 32 0#32))

/-- The variance along the last axis. -/
def variance (x : FVec F S2x2048x768 .f32) : FVec F S2x2048x1 .f32 :=
  select (broadcastInDim S2x2048x1 ![] bcast_S_S2x2048x1 (cmpf .ogt (count (F := F)) (constant S_ .f32 0x00000000#32))) (Host.divf (broadcastInDim S2x2048x1 ![0, 1] bcast_S2x2048_S2x2048x1_0_1 (Host.reduceAdd (mulf (centered x) (centered x)) (constant S_ .f32 0x00000000#32) reducesTo_S2x2048x768_S2x2048_d2 h_S_)) (broadcastInDim S2x2048x1 ![] bcast_S_S2x2048x1 (count (F := F)))) (broadcastInDim S2x2048x1 ![] bcast_S_S2x2048x1 (id (constant S_ .f32 0x7FC00000#32)))

/-- A row of 768 along every position of the nodes. -/
def rows (g : FVec F S768 .f32) : FVec F S2x2048x768 .f32 :=
  broadcastInDim S2x2048x768 ![0, 1, 2] bcast_S1x1x768_S2x2048x768_0_1_2 (broadcastInDim S1x1x768 ![2] bcast_S768_S1x1x768_2 g)

/-- The normalization `ln`. -/
def ln (x : FVec F S2x2048x768 .f32) (g b : FVec F S768 .f32) : FVec F S2x2048x768 .f32 :=
  addf (mulf (Host.divf (centered x) (broadcastInDim S2x2048x768 ![0, 1, 2] bcast_S2x2048x1_S2x2048x768_0_1_2 (Host.sqrt (addf (variance x) (broadcastInDim S2x2048x1 ![] bcast_S_S2x2048x1 (constant S_ .f32 0x3727C5AC#32)))))) (rows g)) (rows b)

/-- The initial values, one copy per batch. -/
def initVal (v : FVec F S2048x768 .f32) : FVec F S2x2048x768 .f32 :=
  broadcastInDim S2x2048x768 ![0, 1, 2] bcast_S1x2048x768_S2x2048x768_0_1_2 (broadcastInDim S1x2048x768 ![1, 2] bcast_S2048x768_S1x2048x768_1_2 v)

/-- The initial state, one copy per batch. -/
def initState (s : FVec F S2048 .f32) : FVec F S2x2048 .f32 :=
  broadcastInDim S2x2048 ![0, 1] bcast_S1x2048_S2x2048_0_1 (broadcastInDim S1x2048 ![1] bcast_S2048_S1x2048_1 s)

/-- The exponentials of the magnitudes of a state less their greatest. -/
def stateExp (x : FVec F S2x2048 .f32) : FVec F S2x2048 .f32 :=
  Host.exp (subf (Host.absf x) (broadcastInDim S2x2048 ![0, 1] bcast_S2x1_S2x2048_0_1 (broadcastInDim S2x1 ![0] bcast_S2_S2x1_0 (maximumf (broadcastInDim S2 ![] bcast_S_S2 (constant S_ .f32 0xFF800000#32)) (Host.reduce FloatOps.maximumf (Host.absf x) (constant S_ .f32 0xFF800000#32) reducesTo_S2x2048_S2_d1 h_S_)))))

/-- The signed softmax of a state. -/
def signedSoftmax (x : FVec F S2x2048 .f32) : FVec F S2x2048 .f32 :=
  mulf (Host.sign x) (Host.divf (stateExp x) (broadcastInDim S2x2048 ![0, 1] bcast_S2x1_S2x2048_0_1 (broadcastInDim S2x1 ![0] bcast_S2_S2x1_0 (Host.reduceAdd (stateExp x) (constant S_ .f32 0x00000000#32) reducesTo_S2x2048_S2_d1 h_S_))))

/-- The values times a low-rank matrix. -/
def proj (x : FVec F S2x2048x768 .f32) (w : FVec F S768x64 .f32) : FVec F S2x2048x64 .f32 :=
  Host.dotGeneral dot_S2x2048x768_S768x64_S2x2048x64_2_0_01_1_n_n none x w

/-- The routing scores of every destination against every source. -/
def scores (src dst : FVec F S2x2048x768 .f32) (wq wk : FVec F S768x64 .f32) : FVec F S2x2048x2048 .f32 :=
  Host.divf (Host.dotGeneral dot_S2x2048x64_S2x2048x64_S2x2048x2048_2_2_1_1_0_0 none (proj dst wk) (proj src wq)) (broadcastInDim S2x2048x2048 ![] bcast_S_S2x2048x2048 (id (Host.sqrt (constant S_ .f32 0x42800000#32))))

/-- The sixteen chosen sources of every destination. -/
def chosen (s : FVec F S2x2048x2048 .f32) : IVec S2x2048x16 32 :=
  (Host.topK S2x2048x16 2 (FloatOps.cmpfTotal .gt) (Host.absf s) sliceFits_S2x2048x2048_S2x2048x16).2

/-- An index counted from the end where it is negative. -/
def wrapped (i : IVec S2x2048x16 32) : IVec S2x2048x16 32 :=
  select (cmpi .slt i (broadcastInDim S2x2048x16 ![] bcast_S_S2x2048x16 (constantI S_ 32 0#32))) (addi i (broadcastInDim S2x2048x16 ![] bcast_S_S2x2048x16 (constantI S_ 32 2048#32))) i

/-- The indices as a gather takes them. -/
def column (i : IVec S2x2048x16 32) : IVec S2x2048x16x1 32 :=
  shapeCast _ (wrapped i) shapeCasts_S2x2048x16_S2x2048x16x1

/-- Of each destination's row the chosen elements; an index outside the row takes no number. -/
def takeAlong (x : FVec F S2x2048x2048 .f32) (i : IVec S2x2048x16 32) : FVec F S2x2048x16 .f32 :=
  select (Host.reduce IntOp.andi (andi (cmpi .sge (column i) (broadcastInDim S2x2048x16x1 ![] bcast_S_S2x2048x16x1 (constantI S_ 32 0#32))) (cmpi .sle (column i) (broadcastInDim S2x2048x16x1 ![0, 1, 2, 3] bcast_S1x1x1x1_S2x2048x16x1_0_1_2_3 (broadcastInDim S1x1x1x1 ![3] bcast_S1_S1x1x1x1_3 (constantI S1 32 2047#32))))) (constantI S_ 1 1#1) reducesTo_S2x2048x16x1_S2x2048x16_d3 h_S_) (Host.gather gather_S2x2048x2048_S2x2048x16x1_S2x2048x16_n_2_01_01_2_3_111 x (column i)) (broadcastInDim S2x2048x16 ![] bcast_S_S2x2048x16 (constant S_ .f32 0x7FC00000#32))

/-- The exponentials of the chosen magnitudes less their greatest. -/
def chosenExp (x : FVec F S2x2048x16 .f32) : FVec F S2x2048x16 .f32 :=
  Host.exp (subf (Host.absf x) (broadcastInDim S2x2048x16 ![0, 1, 2] bcast_S2x2048x1_S2x2048x16_0_1_2 (broadcastInDim S2x2048x1 ![0, 1] bcast_S2x2048_S2x2048x1_0_1 (maximumf (broadcastInDim S2x2048 ![] bcast_S_S2x2048 (constant S_ .f32 0xFF800000#32)) (Host.reduce FloatOps.maximumf (Host.absf x) (constant S_ .f32 0xFF800000#32) reducesTo_S2x2048x16_S2x2048_d2 h_S_)))))

/-- A state less zero. -/
def lessZero (s : FVec F S2x2048 .f32) : FVec F S2x2048 .f32 :=
  subf s (broadcastInDim S2x2048 ![] bcast_S_S2x2048 (constant S_ .f32 0x00000000#32))

/-- The gate: softplus of the source's state. -/
def softplus (s : FVec F S2x2048 .f32) : FVec F S2x2048 .f32 :=
  select (cmpf .une (lessZero s) (lessZero s)) (addf s (broadcastInDim S2x2048 ![] bcast_S_S2x2048 (constant S_ .f32 0x00000000#32))) (addf (maximumf s (broadcastInDim S2x2048 ![] bcast_S_S2x2048 (constant S_ .f32 0x00000000#32))) (Host.log1p (Host.exp (Host.negf (Host.absf (lessZero s))))))

/-- The gates as every destination reads them. -/
def gates (s : FVec F S2x2048 .f32) : FVec F S2x2048x2048 .f32 :=
  broadcastInDim S2x2048x2048 ![0, 1, 2] bcast_S2x1x2048_S2x2048x2048_0_1_2 (broadcastInDim S2x1x2048 ![0, 2] bcast_S2x2048_S2x1x2048_0_2 (softplus s))

/-- The weights of the chosen sources. -/
def weights (s : FVec F S2x2048x2048 .f32) (state : FVec F S2x2048 .f32) : FVec F S2x2048x16 .f32 :=
  mulf (mulf (Host.sign (takeAlong s (chosen s))) (Host.divf (chosenExp (takeAlong s (chosen s))) (broadcastInDim S2x2048x16 ![0, 1, 2] bcast_S2x2048x1_S2x2048x16_0_1_2 (broadcastInDim S2x2048x1 ![0, 1] bcast_S2x2048_S2x2048x1_0_1 (Host.reduceAdd (chosenExp (takeAlong s (chosen s))) (constant S_ .f32 0x00000000#32) reducesTo_S2x2048x16_S2x2048_d2 h_S_))))) (takeAlong (gates state) (chosen s))

/-- The directions of the source values. -/
def directions (x : FVec F S2x2048x768 .f32) : FVec F S2x2048x768 .f32 :=
  Host.divf x (broadcastInDim S2x2048x768 ![0, 1, 2] bcast_S2x2048x1_S2x2048x768_0_1_2 (addf (Host.sqrt (broadcastInDim S2x2048x1 ![0, 1] bcast_S2x2048_S2x2048x1_0_1 (Host.reduceAdd (mulf x x) (constant S_ .f32 0x00000000#32) reducesTo_S2x2048x768_S2x2048_d2 h_S_))) (broadcastInDim S2x2048x1 ![] bcast_S_S2x2048x1 (constant S_ .f32 0x358637BD#32))))

/-- The directions of the chosen sources. -/
def chosenDirections (s : FVec F S2x2048x2048 .f32) (src : FVec F S2x2048x768 .f32) : FVec F S2x2048x16x768 .f32 :=
  Host.gather gather_S2x2048x768_S2x2048x16x1_S2x2048x16x768_3_1_0_0_1_3_11768 (directions src) (broadcastInDim S2x2048x16x1 ![0, 1, 2] bcast_S2x2048x16_S2x2048x16x1_0_1_2 (wrapped (chosen s)))

/-- What a pass adds to the destinations' state. -/
def stateDelta (s : FVec F S2x2048x2048 .f32) (state : FVec F S2x2048 .f32) : FVec F S2x2048 .f32 :=
  Host.reduceAdd (weights s state) (constant S_ .f32 0x00000000#32) reducesTo_S2x2048x16_S2x2048_d2 h_S_

/-- What a pass adds to the destinations' values. -/
def valDelta (s : FVec F S2x2048x2048 .f32) (state : FVec F S2x2048 .f32) (src : FVec F S2x2048x768 .f32) :
    FVec F S2x2048x768 .f32 :=
  Host.dotGeneral dot_S2x2048x16_S2x2048x16x768_S2x2048x768_2_2_n_3_01_01 none (weights s state) (chosenDirections s src)

/-! ### The layer -/

/-- The sixteen arguments. -/
structure Args (F : FTy → Type) where
  bState : FVec F S2x2048 .f32
  bVal : FVec F S2x2048x768 .f32
  initState : FVec F S2048 .f32
  initVal : FVec F S2048x768 .f32
  bkWq : FVec F S768x64 .f32
  bkWk : FVec F S768x64 .f32
  kbWq : FVec F S768x64 .f32
  kbWk : FVec F S768x64 .f32
  ppWq : FVec F S768x64 .f32
  ppWk : FVec F S768x64 .f32
  kvG : FVec F S768 .f32
  kvB : FVec F S768 .f32
  brG : FVec F S768 .f32
  brB : FVec F S768 .f32
  pnG : FVec F S768 .f32
  pnB : FVec F S768 .f32

variable (a : Args F)

/-- The normalized initial values. -/
def kVal : FVec F S2x2048x768 .f32 := ln (initVal a.initVal) a.kvG a.kvB
/-- The first pass' destination values. -/
def dst1 : FVec F S2x2048x768 .f32 := ln (kVal a) a.kvG a.kvB
/-- The first pass' scores. -/
def scores1 : FVec F S2x2048x2048 .f32 := scores a.bVal (dst1 a) a.bkWq a.bkWk
/-- The first result: the state after the first pass. -/
def routedState : FVec F S2x2048 .f32 := addf (signedSoftmax (initState a.initState)) (stateDelta (scores1 a) a.bState)
/-- The values after the first pass, not yet normalized. -/
def routedSum : FVec F S2x2048x768 .f32 := addf (kVal a) (valDelta (scores1 a) a.bState a.bVal)
/-- The second result. -/
def routedVal : FVec F S2x2048x768 .f32 := ln (routedSum a) a.kvG a.kvB
/-- The second pass' values, sources and destinations. -/
def src2 : FVec F S2x2048x768 .f32 := ln (routedVal a) a.pnG a.pnB
/-- The second pass' scores. -/
def scores2 : FVec F S2x2048x2048 .f32 := scores (src2 a) (src2 a) a.ppWq a.ppWk
/-- The third result. -/
def propState : FVec F S2x2048 .f32 := addf (routedState a) (stateDelta (scores2 a) (routedState a))
/-- The values after the second pass, not yet normalized. -/
def propSum : FVec F S2x2048x768 .f32 := addf (routedVal a) (valDelta (scores2 a) (routedState a) (src2 a))
/-- The fourth result. -/
def propVal : FVec F S2x2048x768 .f32 := ln (propSum a) a.kvG a.kvB
/-- The third pass' source values. -/
def src3 : FVec F S2x2048x768 .f32 := ln (propVal a) a.kvG a.kvB
/-- The third pass' destination values. -/
def dst3 : FVec F S2x2048x768 .f32 := ln a.bVal a.brG a.brB
/-- The third pass' scores. -/
def scores3 : FVec F S2x2048x2048 .f32 := scores (src3 a) (dst3 a) a.kbWq a.kbWk
/-- The fifth result. -/
def backState : FVec F S2x2048 .f32 := stateDelta (scores3 a) (propState a)
/-- The sixth result. -/
def backVal : FVec F S2x2048x768 .f32 := valDelta (scores3 a) (propState a) (src3 a)

end Cert.Layer

end
-- ==== Proof.RefRun.lean ====
/- The reference's run leaves the layer as named: each of its results is the layer's, at any float. -/
module

public import proofs.«01_k».proof.Proof.Layer

@[expose] public section

noncomputable section

namespace Cert.Layer

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

/-- The arguments a valuation holds. -/
def argsOf (V : Valuation τ sig (Elt F)) : Args F where
  bState := V (Proc.devRef .tc main_arg0)
  bVal := V (Proc.devRef .tc main_arg1)
  initState := V (Proc.devRef .tc main_arg2)
  initVal := V (Proc.devRef .tc main_arg3)
  bkWq := V (Proc.devRef .tc main_arg4)
  bkWk := V (Proc.devRef .tc main_arg5)
  kbWq := V (Proc.devRef .tc main_arg6)
  kbWk := V (Proc.devRef .tc main_arg7)
  ppWq := V (Proc.devRef .tc main_arg8)
  ppWk := V (Proc.devRef .tc main_arg9)
  kvG := V (Proc.devRef .tc main_arg10)
  kvB := V (Proc.devRef .tc main_arg11)
  brG := V (Proc.devRef .tc main_arg12)
  brB := V (Proc.devRef .tc main_arg13)
  pnG := V (Proc.devRef .tc main_arg14)
  pnB := V (Proc.devRef .tc main_arg15)

variable (V : Valuation τ sig (Elt F))

/-- The initial values. -/
theorem v3_eq : res_main_v3 V = initVal (argsOf V).initVal := rfl

/-- The normalized initial values. -/
theorem v21_eq : res_main_v21 V = kVal (argsOf V) := rfl

/-- The first pass' scores. -/
theorem v64_eq : res_main_v64 V = scores1 (argsOf V) := by
  have h : res_main_v64 V = scores (argsOf V).bVal (ln (res_main_v21 V) (argsOf V).kvG (argsOf V).kvB)
      (argsOf V).bkWq (argsOf V).bkWk := rfl
  rw [h, v21_eq]; rfl

/-- The first pass' weights. -/
theorem v85_eq : res_main_v85 V = weights (scores1 (argsOf V)) (argsOf V).bState := by
  have h : res_main_v85 V = weights (res_main_v64 V) (argsOf V).bState := rfl
  rw [h, v64_eq]

/-- The first result. -/
theorem v151_eq : res_main_v151 V = routedState (argsOf V) := by
  have h : res_main_v151 V = addf (signedSoftmax (initState (argsOf V).initState))
      (Host.reduceAdd (res_main_v85 V) (constant S_ .f32 0x00000000#32) reducesTo_S2x2048x16_S2x2048_d2 h_S_) := rfl
  rw [h, v85_eq]; rfl

/-- The values after the first pass. -/
theorem v100_eq : res_main_v100 V = routedSum (argsOf V) := by
  have h : res_main_v100 V = addf (res_main_v21 V)
      (Host.dotGeneral dot_S2x2048x16_S2x2048x16x768_S2x2048x768_2_2_n_3_01_01 none (res_main_v85 V)
        (chosenDirections (res_main_v64 V) (argsOf V).bVal)) := rfl
  rw [h, v85_eq, v64_eq, v21_eq]; rfl

/-- The second result. -/
theorem v118_eq : res_main_v118 V = routedVal (argsOf V) := by
  have h : res_main_v118 V = ln (res_main_v100 V) (argsOf V).kvG (argsOf V).kvB := rfl
  rw [h, v100_eq]; rfl

/-- The second pass' values. -/
theorem v136_eq : res_main_v136 V = src2 (argsOf V) := by
  have h : res_main_v136 V = ln (res_main_v118 V) (argsOf V).pnG (argsOf V).pnB := rfl
  rw [h, v118_eq]; rfl

/-- The second pass' scores. -/
theorem v158_eq : res_main_v158 V = scores2 (argsOf V) := by
  have h : res_main_v158 V = scores (res_main_v136 V) (res_main_v136 V) (argsOf V).ppWq (argsOf V).ppWk := rfl
  rw [h, v136_eq]; rfl

/-- The second pass' weights. -/
theorem v179_eq : res_main_v179 V = weights (scores2 (argsOf V)) (routedState (argsOf V)) := by
  have h : res_main_v179 V = weights (res_main_v158 V) (res_main_v151 V) := rfl
  rw [h, v158_eq, v151_eq]

/-- The third result. -/
theorem v194_eq : res_main_v194 V = propState (argsOf V) := by
  have h : res_main_v194 V = addf (res_main_v151 V)
      (Host.reduceAdd (res_main_v179 V) (constant S_ .f32 0x00000000#32) reducesTo_S2x2048x16_S2x2048_d2 h_S_) := rfl
  rw [h, v179_eq, v151_eq]; rfl

/-- The values after the second pass. -/
theorem v195_eq : res_main_v195 V = propSum (argsOf V) := by
  have h : res_main_v195 V = addf (res_main_v118 V)
      (Host.dotGeneral dot_S2x2048x16_S2x2048x16x768_S2x2048x768_2_2_n_3_01_01 none (res_main_v179 V)
        (chosenDirections (res_main_v158 V) (res_main_v136 V))) := rfl
  rw [h, v179_eq, v158_eq, v136_eq, v118_eq]; rfl

/-- The fourth result. -/
theorem v213_eq : res_main_v213 V = propVal (argsOf V) := by
  have h : res_main_v213 V = ln (res_main_v195 V) (argsOf V).kvG (argsOf V).kvB := rfl
  rw [h, v195_eq]; rfl

/-- The third pass' source values. -/
theorem v231_eq : res_main_v231 V = src3 (argsOf V) := by
  have h : res_main_v231 V = ln (res_main_v213 V) (argsOf V).kvG (argsOf V).kvB := rfl
  rw [h, v213_eq]; rfl

/-- The third pass' scores. -/
theorem v238_eq : res_main_v238 V = scores3 (argsOf V) := by
  have h : res_main_v238 V = scores (res_main_v231 V) (dst3 (argsOf V)) (argsOf V).kbWq (argsOf V).kbWk := rfl
  rw [h, v231_eq]; rfl

/-- The third pass' weights. -/
theorem v259_eq : res_main_v259 V = weights (scores3 (argsOf V)) (propState (argsOf V)) := by
  have h : res_main_v259 V = weights (res_main_v238 V) (res_main_v194 V) := rfl
  rw [h, v238_eq, v194_eq]

/-- The sixth result. -/
theorem v272_eq :
    Host.dotGeneral dot_S2x2048x16_S2x2048x16x768_S2x2048x768_2_2_n_3_01_01 none (res_main_v259 V)
        (chosenDirections (res_main_v238 V) (res_main_v231 V)) = backVal (argsOf V) := by
  rw [v259_eq, v238_eq, v231_eq]; rfl

/-- The fifth result. -/
theorem v273_eq :
    Host.reduceAdd (res_main_v259 V) (constant S_ .f32 0x00000000#32) reducesTo_S2x2048x16_S2x2048_d2 h_S_
      = backState (argsOf V) := by
  rw [v259_eq]; rfl

/-- The reference's run: the six results are the layer's, the arguments as they were. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v151) = routedState (argsOf (launchContents m c))
      ∧ r.2.mem ((c.tc : Thread nD τ).loc main_v118) = routedVal (argsOf (launchContents m c))
      ∧ r.2.mem ((c.tc : Thread nD τ).loc main_v194) = propState (argsOf (launchContents m c))
      ∧ r.2.mem ((c.tc : Thread nD τ).loc main_v213) = propVal (argsOf (launchContents m c))
      ∧ r.2.mem ((c.tc : Thread nD τ).loc main_v273) = backState (argsOf (launchContents m c))
      ∧ r.2.mem ((c.tc : Thread nD τ).loc main_v272) = backVal (argsOf (launchContents m c)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun _ h c => ?_) (Cert.ReferenceIdeal.Value.run (F := F) m ρ)
  obtain ⟨h0, h1, h2, h3, h4, h5, ha⟩ := h c
  exact ⟨⟨h0.trans (v151_eq _), h1.trans (v118_eq _), h2.trans (v194_eq _), h3.trans (v213_eq _),
    h4.trans (v273_eq _), h5.trans (v272_eq _)⟩, ha⟩

end Cert.Layer

end
-- ==== Proof.KernelRun.lean ====
/- The kernel's run: what its six result buffers hold at the end, by the fold of its stretches and calls, and its arguments
   unchanged. -/
module

public import proofs.«01_k».proof.Proof.Gen.KernelIdeal.Frame

@[expose] public section

set_option maxRecDepth 16384
set_option maxHeartbeats 1600000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every result's buffer at the fold's last contents of it, and the arguments as they were. -/
theorem run_results : θ_run defs (onTc (τ := τ) (main (F := F))) ⟨m, fun _ => 0, ρ⟩ (fun r => ∀ c : Dev nD,
      (r.2.mem ((c.tc : Thread nD τ).loc main_v46) = W29 m ρ c (Proc.devRef .tc main_v46)
      ∧ r.2.mem ((c.tc : Thread nD τ).loc main_v65) = W29 m ρ c (Proc.devRef .tc main_v65)
      ∧ r.2.mem ((c.tc : Thread nD τ).loc main_v89) = W29 m ρ c (Proc.devRef .tc main_v89)
      ∧ r.2.mem ((c.tc : Thread nD τ).loc main_v108) = W29 m ρ c (Proc.devRef .tc main_v108)
      ∧ r.2.mem ((c.tc : Thread nD τ).loc main_v149) = W29 m ρ c (Proc.devRef .tc main_v149)
      ∧ r.2.mem ((c.tc : Thread nD τ).loc main_v148_1) = W29 m ρ c (Proc.devRef .tc main_v148_1))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h _ c => ⟨⟨h c _ (mem_uc main_v46 (by decide)), h c _ (mem_uc main_v65 (by decide)), h c _ (mem_uc main_v89 (by decide)), h c _ (mem_uc main_v108 (by decide)), h c _ (mem_uc main_v149 (by decide)), h c _ (mem_uc main_v148_1 (by decide))⟩,
       ⟨(h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c),
       (h c _ (mem_uc main_arg13 (by decide))).trans (W29_main_arg13 m ρ c),
       (h c _ (mem_uc main_arg14 (by decide))).trans (W29_main_arg14 m ρ c),
       (h c _ (mem_uc main_arg15 (by decide))).trans (W29_main_arg15 m ρ c)⟩⟩)

end Cert.KernelIdeal.Gen

end
-- ==== Proof.HostLines.lean ====
/- The kernel's lines of host operations: the normalizations between its calls, at any float. -/
module

public import proofs.«01_k».proof.Proof.Layer
public import proofs.«01_k».proof.Proof.Gen.KernelIdeal.Launch
public import Idealize.ShloMosaic.Lib.StableHlo.RunRead

@[expose] public section

set_option maxRecDepth 16384
set_option maxHeartbeats 1000000

noncomputable section

namespace Cert.Host

open Cert.KernelIdeal Cert.KernelIdeal.Gen Idealize.ShloMosaic Idealize.ShloMosaic.TcCoe
open Idealize.ShloMosaic.StableHlo Idealize.SL.Sem

variable {F : FTy → Type} [FloatOps F] (W : Valuation τ sig (Elt F))

/-- The normalized initial values. -/
theorem norm1 : after hostOps1_2 (after hostOps1_1 (after hostOps1 W)) (Proc.devRef .tc main_v21)
    = Cert.Layer.ln (Cert.Layer.initVal (W (Proc.devRef .tc main_arg3))) (W (Proc.devRef .tc main_arg10)) (W (Proc.devRef .tc main_arg11)) := by
  unfold hostOps1_2 hostOps1_1 hostOps1
  after_reads_simp
  rfl

/-- The first destination values. -/
theorem norm2 : after hostOps1_4 (after hostOps1_3 (after hostOps1_2 W)) (Proc.devRef .tc main_v39)
    = Cert.Layer.ln (after hostOps1_2 W (Proc.devRef .tc main_v21)) (W (Proc.devRef .tc main_arg10)) (W (Proc.devRef .tc main_arg11)) := by
  unfold hostOps1_4 hostOps1_3 hostOps1_2
  after_reads_simp
  rfl

/-- The first result: the signed softmax and what the first pass adds. -/
theorem state1 : after hostOps3 W (Proc.devRef .tc main_v46)
    = addf (broadcastInDim S2x2048 ![0, 1] bcast_S1x2048_S2x2048_0_1 (W (Proc.devRef .tc main_v1)))
        (shapeCast S2x2048 (W (Proc.devRef .tc main_v43_0)) shapeCasts_S2x2x1x1024_S2x2048) := by
  unfold hostOps3
  after_reads_simp
  rfl

/-- The second result. -/
theorem norm3 : after hostOps3_2 (after hostOps3_1 (after hostOps3 W)) (Proc.devRef .tc main_v65)
    = Cert.Layer.ln (addf (W (Proc.devRef .tc main_v21)) (W (Proc.devRef .tc main_v43_1))) (W (Proc.devRef .tc main_arg10)) (W (Proc.devRef .tc main_arg11)) := by
  unfold hostOps3_2 hostOps3_1 hostOps3
  after_reads_simp
  rfl

/-- The second pass' values. -/
theorem norm4 : after hostOps3_4 (after hostOps3_3 (after hostOps3_2 W)) (Proc.devRef .tc main_v83)
    = Cert.Layer.ln (after hostOps3_2 W (Proc.devRef .tc main_v65)) (W (Proc.devRef .tc main_arg14)) (W (Proc.devRef .tc main_arg15)) := by
  unfold hostOps3_4 hostOps3_3 hostOps3_2
  after_reads_simp
  rfl

/-- The third result: the first and what the second pass adds. -/
theorem state2 : after hostOps5 W (Proc.devRef .tc main_v89)
    = addf (W (Proc.devRef .tc main_v46))
        (shapeCast S2x2048 (W (Proc.devRef .tc main_v87_0)) shapeCasts_S2x2x1x1024_S2x2048) := by
  unfold hostOps5
  after_reads_simp
  rfl

/-- The fourth result. -/
theorem norm5 : after hostOps5_2 (after hostOps5_1 (after hostOps5 W)) (Proc.devRef .tc main_v108)
    = Cert.Layer.ln (addf (W (Proc.devRef .tc main_v65)) (W (Proc.devRef .tc main_v87_1))) (W (Proc.devRef .tc main_arg10)) (W (Proc.devRef .tc main_arg11)) := by
  unfold hostOps5_2 hostOps5_1 hostOps5
  after_reads_simp
  rfl

/-- The third pass' source values. -/
theorem norm6 : after hostOps5_4 (after hostOps5_3 (after hostOps5_2 W)) (Proc.devRef .tc main_v126)
    = Cert.Layer.ln (after hostOps5_2 W (Proc.devRef .tc main_v108)) (W (Proc.devRef .tc main_arg10)) (W (Proc.devRef .tc main_arg11)) := by
  unfold hostOps5_4 hostOps5_3 hostOps5_2
  after_reads_simp
  rfl

/-- The third pass' destination values. -/
theorem norm7 : after hostOps5_6 (after hostOps5_5 (after hostOps5_4 W)) (Proc.devRef .tc main_v144)
    = Cert.Layer.ln (W (Proc.devRef .tc main_arg1)) (W (Proc.devRef .tc main_arg12)) (W (Proc.devRef .tc main_arg13)) := by
  unfold hostOps5_6 hostOps5_5 hostOps5_4
  after_reads_simp
  rfl

/-- The initial state as a row. -/
theorem row0 : after hostOps0 W (Proc.devRef .tc main_v0)
    = shapeCast S1x2048 (W (Proc.devRef .tc main_arg2)) shapeCasts_S2048_S1x2048 := by
  unfold hostOps0
  after_reads_simp
  rfl

/-- The states in blocks, before each preparing call. -/
theorem blocks1 : after hostOps1_4 W (Proc.devRef .tc main_v40)
    = shapeCast S2x2x1x1024 (W (Proc.devRef .tc main_arg0)) shapeCasts_S2x2048_S2x2x1x1024 := by
  unfold hostOps1_4
  after_reads_simp
  rfl

/-- The states the second preparing call reads. -/
theorem blocks2 : after hostOps3_4 W (Proc.devRef .tc main_v84)
    = shapeCast S2x2x1x1024 (W (Proc.devRef .tc main_v46)) shapeCasts_S2x2048_S2x2x1x1024 := by
  unfold hostOps3_4
  after_reads_simp
  rfl

/-- The states the third preparing call reads. -/
theorem blocks3 : after hostOps5_6 W (Proc.devRef .tc main_v145)
    = shapeCast S2x2x1x1024 (W (Proc.devRef .tc main_v89)) shapeCasts_S2x2048_S2x2x1x1024 := by
  unfold hostOps5_6
  after_reads_simp
  rfl

/-- The gates in rows, before each routing call. -/
theorem rows1 : after hostOps2 W (Proc.devRef .tc main_v42)
    = shapeCast S2x1x2048 (W (Proc.devRef .tc main_v41_3)) shapeCasts_S2x2x1x1024_S2x1x2048 := by
  unfold hostOps2
  after_reads_simp
  rfl

/-- The gates the second routing call reads. -/
theorem rows2 : after hostOps4 W (Proc.devRef .tc main_v86)
    = shapeCast S2x1x2048 (W (Proc.devRef .tc main_v85_3)) shapeCasts_S2x2x1x1024_S2x1x2048 := by
  unfold hostOps4
  after_reads_simp
  rfl

/-- The gates the third routing call reads. -/
theorem rows3 : after hostOps6 W (Proc.devRef .tc main_v147)
    = shapeCast S2x1x2048 (W (Proc.devRef .tc main_v146_3)) shapeCasts_S2x2x1x1024_S2x1x2048 := by
  unfold hostOps6
  after_reads_simp
  rfl

/-- The fifth result. -/
theorem state3 : after hostOps7 W (Proc.devRef .tc main_v149)
    = shapeCast S2x2048 (W (Proc.devRef .tc main_v148_0)) shapeCasts_S2x2x1x1024_S2x2048 := by
  unfold hostOps7
  after_reads_simp
  rfl

end Cert.Host

end
-- ==== Proof.TopMath.lean ====
/- The mathematics of one destination's row of scores, on the extended reals: what the kernel's sixteen rounds of
   "greatest value below the last threshold" select, and that summing over everything with unselected weights zero is
   summing over the sixteen chosen sources. No program is mentioned here. -/
module

public import Idealize.ShloMosaic.Lib.SortFacts
public import Idealize.ShloMosaic.Lib.IdealHost

@[expose] public section

noncomputable section

namespace Cert.Top

open Idealize.ShloMosaic

variable {n : Nat}

/-! ### The descending order of a row -/

/-- The position of the `k`-th greatest element of a row, equal elements in index order. -/
def order (a : Fin n → EReal) : Fin n → Fin n :=
  sortedFrom fun k k' => Ideal.cmpTotal .gt (a k) (a k') == 1#1

/-- "Greater" as a truth value. -/
theorem gt_iff (x y : EReal) : (Ideal.cmpTotal .gt x y == 1#1) = decide (y < x) := by
  have h : Ideal.cmpTotal .gt x y = BitVec.ofBool (decide (y < x)) := rfl
  rw [h]
  cases decide (y < x) <;> rfl

/-- Later positions hold no greater element. -/
theorem order_antitone (a : Fin n → EReal) (i j : Fin n) (hij : i ≤ j) : a (order a j) ≤ a (order a i) := by
  rcases hij.lt_or_eq with h | h
  · have hs := sortedFrom_noInversion (fun k k' => Ideal.cmpTotal .gt (a k) (a k') == 1#1)
      (fun k k' => Ideal.cmpTotal .gt (a k) (a k') == 1#1)
      (by
        intro x y hxy
        simp only [gt_iff, decide_eq_true_eq, decide_eq_false_iff_not, not_lt] at *
        exact hxy.le)
      (fun _ _ h => h)
      (by
        intro x y z hxy hyz
        simp only [gt_iff, decide_eq_false_iff_not, not_lt] at *
        exact hxy.trans hyz) i j h
    rw [gt_iff, decide_eq_false_iff_not, not_lt] at hs
    exact hs
  · rw [h]

/-- No position is visited twice. -/
theorem order_injective (a : Fin n → EReal) : Function.Injective (order a) := sortedFrom_injective _

/-- Every position is visited. -/
theorem order_surjective (a : Fin n → EReal) : Function.Surjective (order a) := sortedFrom_surjective _

/-! ### The rounds -/

/-- The threshold after `r` further rounds: the greatest element, then each time the greatest of the elements below
    the last threshold (those at or above it being overwritten by `low`). -/
def cut (low : EReal) (a : Fin n → EReal) : Nat → EReal
  | 0 => Finset.univ.fold max ⊥ a
  | r + 1 => Finset.univ.fold max ⊥ fun j => if cut low a r ≤ a j then low else a j

/-- A fold of `max` from the least element is the supremum. -/
theorem fold_max_eq_sup (f : Fin n → EReal) : Finset.univ.fold max ⊥ f = Finset.univ.sup f := rfl

/-- A value attained and at least every other is the fold of `max`. -/
theorem fold_max_eq {f : Fin n → EReal} {v : EReal} (i : Fin n) (hi : f i = v) (hle : ∀ j, f j ≤ v) :
    Finset.univ.fold max ⊥ f = v := by
  rw [fold_max_eq_sup]
  apply le_antisymm
  · exact Finset.sup_le fun j _ => hle j
  · rw [← hi]; exact Finset.le_sup (f := f) (Finset.mem_univ i)

/-- The elements at or above the `r`-th greatest are the first `r + 1` of the order, when the `r`-th is strictly
    greater than the next. -/
theorem le_iff_order (a : Fin n → EReal) (r : Nat) (hr : r + 1 < n)
    (hs : a (order a ⟨r + 1, hr⟩) < a (order a ⟨r, by omega⟩)) (k : Fin n) :
    a (order a ⟨r, by omega⟩) ≤ a (order a k) ↔ k.val ≤ r := by
  constructor
  · intro h
    by_contra hk
    have : a (order a k) ≤ a (order a ⟨r + 1, hr⟩) := order_antitone a _ _ (by
      show r + 1 ≤ k.val
      omega)
    exact absurd (h.trans this) (not_le.mpr hs)
  · intro h
    exact order_antitone a _ _ h

/-- Round by round the thresholds are the elements of the row in descending order, while these strictly descend. -/
theorem cut_eq (low : EReal) (a : Fin n → EReal) (hlow : ∀ j, low ≤ a j) (r : Nat) (hr : r < n)
    (hs : ∀ k (hk : k + 1 < n), k < r → a (order a ⟨k + 1, hk⟩) < a (order a ⟨k, by omega⟩)) :
    cut low a r = a (order a ⟨r, hr⟩) := by
  induction r with
  | zero =>
    refine fold_max_eq (order a ⟨0, hr⟩) rfl fun j => ?_
    obtain ⟨k, rfl⟩ := order_surjective a j
    exact order_antitone a _ _ (Nat.zero_le _)
  | succ r ih =>
    have hc := ih (by omega) fun k hk hkr => hs k hk (by omega)
    unfold cut
    rw [hc]
    have hstep := hs r hr (by omega)
    refine fold_max_eq (order a ⟨r + 1, hr⟩) ?_ fun j => ?_
    · rw [if_neg]
      exact not_le.mpr hstep
    · obtain ⟨k, rfl⟩ := order_surjective a j
      by_cases hk : k.val ≤ r
      · rw [if_pos ((le_iff_order a r hr hstep k).mpr hk)]
        exact hlow _
      · rw [if_neg fun h => hk ((le_iff_order a r hr hstep k).mp h)]
        exact order_antitone a _ _ (by show r + 1 ≤ k.val; omega)

/-! ### The exponential -/

/-- The exponential of zero. -/
theorem exp_zero : Ideal.exp 0 = 1 := by
  show ((Real.exp 0 : ℝ) : EReal) = 1
  simp

/-- Exponentials are not negative. -/
theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-- Where the greatest magnitude is finite its own exponential term is one. -/
theorem exp_self_sub {x : EReal} (h0 : 0 ≤ x) (h1 : x < ⊤) : Ideal.exp (x - x) = 1 := by
  rw [EReal.sub_self h1.ne (ne_bot_of_le_ne_bot EReal.zero_ne_bot h0)]
  exact exp_zero

/-- A sum of nonnegative terms one of which is one is not zero. -/
theorem sum_ne_zero {ι : Type} [Fintype ι] (e : ι → EReal) (i : ι) (hi : e i = 1) (h0 : ∀ j, 0 ≤ e j) :
    ∑ j, e j ≠ 0 := by
  intro h
  have h1 : e i ≤ ∑ j, e j := Finset.single_le_sum (fun j _ => h0 j) (Finset.mem_univ i)
  rw [h, hi] at h1
  exact absurd h1 (by simp)

/-! ### The weights -/

/-- The kernel's exponential term of source `j`: zero where its magnitude is below the threshold. -/
def expTerm (low : EReal) (a : Fin n → EReal) (r : Nat) (j : Fin n) : EReal :=
  if cut low a r ≤ a j then Ideal.exp (a j - cut low a 0) else 0

/-- The kernel's weight of source `j`: its sign, times the exponential term, times the gate, over the sum. -/
def weight (low : EReal) (a σ g : Fin n → EReal) (r : Nat) (j : Fin n) : EReal :=
  Ideal.div (σ j * expTerm low a r j * g j) (∑ i, expTerm low a r i)

/-- The reference's exponential term of the `k`-th chosen source. -/
def topExp {K : Nat} (b : Fin K → EReal) (k : Fin K) : EReal :=
  Ideal.exp (b k - Finset.univ.fold max ⊥ b)

/-- The reference's weight of the `k`-th chosen source: its sign, times its softmax, times its gate. -/
def topWeight {K : Nat} (b σ g : Fin K → EReal) (k : Fin K) : EReal :=
  σ k * Ideal.div (topExp b k) (∑ i, topExp b i) * g k

/-- A quotient by a nonzero number multiplies through. -/
theorem mul_div_mul (s e g : EReal) {z : EReal} (hz : z ≠ 0) : Ideal.div (s * e * g) z = s * Ideal.div e z * g := by
  unfold Ideal.div
  rw [if_neg hz, if_neg hz]
  ac_rfl

section

variable {r : Nat} (low : EReal) (a : Fin n → EReal) (hr : r + 1 < n)

/-- The `k`-th chosen source. -/
def pick (a : Fin n → EReal) (hr : r + 1 < n) (k : Fin (r + 1)) : Fin n := order a (k.castLE hr.le)

variable (hlow : ∀ j, low ≤ a j) (hs : ∀ k : Fin (r + 1), a (order a ⟨k.val + 1, Nat.lt_of_le_of_lt k.isLt hr⟩) < a (order a (k.castLE hr.le)))

include hlow hs

/-- The last threshold is the magnitude of the last chosen. -/
theorem cut_last : cut low a r = a (order a ⟨r, by omega⟩) :=
  cut_eq low a hlow r (by omega) fun k _ hkr => hs ⟨k, by omega⟩

/-- The first threshold is the greatest magnitude. -/
theorem cut_first : cut low a 0 = a (order a ⟨0, by omega⟩) :=
  cut_eq low a hlow 0 (by omega) fun _ _ h => absurd h (by omega)

/-- A source passes the last threshold exactly when it is one of the chosen. -/
theorem cut_le_iff (j : Fin n) : cut low a r ≤ a j ↔ ∃ k, pick a hr k = j := by
  rw [cut_last low a hr hlow hs]
  obtain ⟨k, rfl⟩ := order_surjective a j
  rw [le_iff_order a r hr (hs ⟨r, by omega⟩)]
  constructor
  · intro h
    exact ⟨⟨k.val, by omega⟩, rfl⟩
  · rintro ⟨k', hk'⟩
    have := order_injective a hk'
    rw [← this]
    show k'.val ≤ r
    omega

/-- Different ranks choose different sources. -/
theorem pick_injective : Function.Injective (pick a hr) := by
  intro k k' h
  have h' := order_injective a h
  exact Fin.castLE_injective _ h'

/-- The greatest magnitude of the chosen is the greatest of the row. -/
theorem fold_pick : Finset.univ.fold max ⊥ (fun k => a (pick a hr k)) = cut low a 0 := by
  rw [cut_first low a hr hlow hs]
  exact fold_max_eq ⟨0, by omega⟩ rfl fun k => order_antitone a _ _ (Nat.zero_le _)

/-- A chosen source's term is its exponential. -/
theorem expTerm_pick (k : Fin (r + 1)) : expTerm low a r (pick a hr k) = topExp (fun k => a (pick a hr k)) k := by
  unfold expTerm topExp
  rw [if_pos ((cut_le_iff low a hr hlow hs _).mpr ⟨k, rfl⟩), fold_pick low a hr hlow hs]

/-- A source that is not chosen has no term. -/
theorem expTerm_other (j : Fin n) (h : ∀ k, pick a hr k ≠ j) : expTerm low a r j = 0 := by
  unfold expTerm
  rw [if_neg fun hc => ?_]
  obtain ⟨k, hk⟩ := (cut_le_iff low a hr hlow hs j).mp hc
  exact h k hk

/-- A sum over all the sources whose terms vanish off the chosen ones is the sum over the chosen ones. -/
theorem sum_pick (f : Fin n → EReal) (h : ∀ j, (∀ k, pick a hr k ≠ j) → f j = 0) :
    ∑ j, f j = ∑ k, f (pick a hr k) := by
  symm
  apply Finset.sum_of_injOn (pick a hr) ((pick_injective low a hr hlow hs).injOn) (fun _ _ => Finset.mem_univ _)
  · intro j _ hj
    apply h j
    intro k hk
    exact hj ⟨k, by simp, hk⟩
  · intro k _
    rfl

/-- The normalizers agree. -/
theorem sum_expTerm : ∑ j, expTerm low a r j = ∑ k, topExp (fun k => a (pick a hr k)) k := by
  rw [sum_pick low a hr hlow hs _ fun j h => expTerm_other low a hr hlow hs j h]
  exact Finset.sum_congr rfl fun k _ => expTerm_pick low a hr hlow hs k

variable (h0 : ∀ j, 0 ≤ a j) (hfin : ∀ k : Fin (r + 1), a (pick a hr k) < ⊤)

include h0 hfin

/-- The normalizer is not zero. -/
theorem sum_topExp_ne_zero : ∑ k, topExp (fun k => a (pick a hr k)) k ≠ 0 := by
  refine sum_ne_zero _ ⟨0, by omega⟩ ?_ fun k => exp_nonneg _
  unfold topExp
  rw [fold_pick low a hr hlow hs, cut_first low a hr hlow hs]
  exact exp_self_sub (h0 _) (hfin ⟨0, by omega⟩)

/-- The kernel's weights summed against any values over all the sources are the reference's weights summed against the
    values of the chosen sources. -/
theorem sum_weight (σ g f : Fin n → EReal) :
    ∑ j, weight low a σ g r j * f j
      = ∑ k, topWeight (fun k => a (pick a hr k)) (fun k => σ (pick a hr k)) (fun k => g (pick a hr k)) k
          * f (pick a hr k) := by
  have hz := sum_topExp_ne_zero low a hr hlow hs h0 hfin
  rw [sum_pick low a hr hlow hs]
  · refine Finset.sum_congr rfl fun k _ => ?_
    unfold weight topWeight
    rw [sum_expTerm low a hr hlow hs, expTerm_pick low a hr hlow hs, mul_div_mul _ _ _ hz]
  · intro j hj
    unfold weight
    rw [sum_expTerm low a hr hlow hs, expTerm_other low a hr hlow hs j hj, mul_zero, zero_mul,
      Ideal.zero_div hz, zero_mul]

/-- The kernel's weights summed over all the sources are the reference's weights summed over the chosen. -/
theorem sum_weight_one (σ g : Fin n → EReal) :
    ∑ j, weight low a σ g r j
      = ∑ k, topWeight (fun k => a (pick a hr k)) (fun k => σ (pick a hr k)) (fun k => g (pick a hr k)) k := by
  have h := sum_weight low a hr hlow hs h0 hfin σ g fun _ => 1
  simpa only [mul_one] using h

end

/-! ### Signs and scales -/

/-- One's sign carried by a nonzero number, zero kept: the sign. -/
theorem sign_eq (x : EReal) :
    (if 0 < max x (-x) then (if x < 0 then (-1 : EReal) else 1) else x) = Ideal.sign x := by
  induction x using EReal.rec with
  | bot =>
    have h : (0 : EReal) < max ⊥ (-⊥) := by simp
    rw [if_pos h, if_pos (by simp)]; rfl
  | top =>
    have h : (0 : EReal) < max ⊤ (-⊤) := by simp
    rw [if_pos h, if_neg (by simp)]; rfl
  | coe r =>
    show _ = ((SignType.sign r : ℝ) : EReal)
    rcases lt_trichotomy r 0 with h | h | h
    · have h1 : (0 : EReal) < max (r : EReal) (-(r : EReal)) := by
        apply lt_max_of_lt_right
        rw [← EReal.coe_neg]
        exact_mod_cast neg_pos.mpr h
      rw [if_pos h1, if_pos (by exact_mod_cast h), sign_neg h]
      simp
    · subst h
      simp
    · have h1 : (0 : EReal) < max (r : EReal) (-(r : EReal)) := lt_max_of_lt_left (by exact_mod_cast h)
      rw [if_pos h1, if_neg (by exact_mod_cast h.le.not_gt), sign_pos h]
      simp

end Cert.Top

end
-- ==== Proof.LayerOps.lean ====
/- The reference's layer at the extended reals, read at an index. -/
module

public import proofs.«01_k».proof.Proof.Layer
public import proofs.«01_k».proof.Proof.TopMath
public import Idealize.ShloMosaic.Lib.Pointwise

@[expose] public section

set_option maxRecDepth 16384

noncomputable section

namespace Cert.Layer

open Cert.ReferenceIdeal Cert.ReferenceIdeal.Gen Idealize.ShloMosaic Idealize.ShloMosaic.TcCoe

/-! ### Constants -/

/-- The word of negative infinity. -/
theorem word_bot : Ideal.ofBits .f32 0xFF800000#32 = ⊥ := by simp [Ideal.ofBits, Ideal.ieee]

/-- The word of 64. -/
theorem word_64 : Ideal.ofBits .f32 0x42800000#32 = ((64 : ℝ) : EReal) := by
  simp [Ideal.ofBits, Ideal.ieee, -EReal.coe_mul, -EReal.coe_neg]; norm_num

/-- The word of an eighth. -/
theorem word_eighth : Ideal.ofBits .f32 0x3E000000#32 = ((1 / 8 : ℝ) : EReal) := by
  simp [Ideal.ofBits, Ideal.ieee, -EReal.coe_mul, -EReal.coe_neg]; norm_num

/-- Dividing by the root of 64 is multiplying by an eighth. -/
theorem div_root (x : EReal) :
    Ideal.div x (Ideal.sqrt (Ideal.ofBits .f32 0x42800000#32)) = x * Ideal.ofBits .f32 0x3E000000#32 := by
  have h : Ideal.sqrt (Ideal.ofBits .f32 0x42800000#32) = ((8 : ℝ) : EReal) := by
    rw [word_64, show (64 : ℝ) = 8 * 8 by norm_num]
    rw [Ideal.sqrt_coe, if_neg (by norm_num)]
    rw [Real.sqrt_mul_self (by norm_num)]
  rw [h, word_eighth, Ideal.div, if_neg (by norm_num)]
  congr 1
  rw [← EReal.coe_inv]
  norm_num

/-! ### The operations of a pass -/

/-- A projection read at an index. -/
theorem proj_apply (x : FVec Ideal S2x2048x768 .f32) (w : FVec Ideal S768x64 .f32) (b : Fin 2) (n : Fin 2048) (r : Fin 64) :
    proj x w (ix3 b n r) = ∑ e, x (ix3 b n e) * w (ix2 e r) := by
  pointwise [proj]
  done

/-- A score read at an index: the product of a key and a query, times an eighth. -/
theorem scores_apply (src dst : FVec Ideal S2x2048x768 .f32) (wq wk : FVec Ideal S768x64 .f32) (b : Fin 2) (j n : Fin 2048) :
    scores src dst wq wk (ix3 b j n)
      = (∑ r, proj dst wk (ix3 b j r) * proj src wq (ix3 b n r)) * Ideal.ofBits .f32 0x3E000000#32 := by
  pointwise [scores]
  exact div_root _

/-- A direction read at an index. -/
theorem directions_apply (x : FVec Ideal S2x2048x768 .f32) (b : Fin 2) (n : Fin 2048) (e : Fin 768) :
    directions x (ix3 b n e) = Ideal.div (x (ix3 b n e))
      (Ideal.sqrt (∑ e, x (ix3 b n e) * x (ix3 b n e)) + Ideal.ofBits .f32 0x358637BD#32) := by
  pointwise [directions]
  done

/-- A gate read at an index. -/
theorem softplus_apply (s : FVec Ideal S2x2048 .f32) (b : Fin 2) (n : Fin 2048) :
    softplus s (ix2 b n) = max (s (ix2 b n)) 0 + Ideal.log1p (Ideal.exp (0 - max (s (ix2 b n)) (-s (ix2 b n)))) := by
  pointwise [softplus, lessZero]
  simp [Ideal.absf_def]

/-- The initial state, the same in every batch. -/
theorem initState_apply (s : FVec Ideal S2048 .f32) (b : Fin 2) (n : Fin 2048) : initState s (ix2 b n) = s (ix1 n) := by
  pointwise [initState]
  done

/-- The initial values, the same in every batch. -/
theorem initVal_apply (s : FVec Ideal S2048x768 .f32) (b : Fin 2) (n : Fin 2048) (e : Fin 768) :
    initVal s (ix3 b n e) = s (ix2 n e) := by
  pointwise [initVal]
  done

/-- An exponential of a state read at an index. -/
theorem stateExp_apply (x : FVec Ideal S2x2048 .f32) (b : Fin 2) (n : Fin 2048) :
    stateExp x (ix2 b n) = Ideal.exp (max (x (ix2 b n)) (-x (ix2 b n))
      - Finset.univ.fold max ⊥ fun n => max (x (ix2 b n)) (-x (ix2 b n))) := by
  pointwise [stateExp]
  simp [word_bot, Ideal.absf_def]

/-- The signed softmax read at an index. -/
theorem signedSoftmax_apply (x : FVec Ideal S2x2048 .f32) (b : Fin 2) (n : Fin 2048) :
    signedSoftmax x (ix2 b n)
      = Ideal.sign (x (ix2 b n)) * Ideal.div (stateExp x (ix2 b n)) (∑ n, stateExp x (ix2 b n)) := by
  pointwise [signedSoftmax]
  done

/-- A gate as a destination reads it. -/
theorem gates_apply (s : FVec Ideal S2x2048 .f32) (b : Fin 2) (j n : Fin 2048) :
    gates s (ix3 b j n) = softplus s (ix2 b n) := by
  pointwise [gates]
  done

end Cert.Layer

end
-- ==== Proof.RouteChunk.lean ====
/- A routing call of the kernel, one chunk of 256 destinations at a time: the chunk's operations named, and the call's two
   output blocks as four such chunks. -/
module

public import proofs.«01_k».proof.Proof.Gen.KernelIdeal.Frame.Region2
public import proofs.«01_k».proof.Proof.Gen.KernelIdeal.Frame.Region4
public import proofs.«01_k».proof.Proof.Gen.KernelIdeal.Frame.Region6

@[expose] public section

set_option maxRecDepth 16384

noncomputable section

namespace Cert.Chunk

open Cert.KernelIdeal Cert.KernelIdeal.Gen Idealize.ShloMosaic Idealize.ShloMosaic.TcCoe

variable {F : FTy → Type} [FloatOps F]

/-- The chunk's scores. -/
def score (k : FVec F S1x256x64 .f32) (q : FVec F S1x2048x64 .f32) : FVec F S256x2048 .f32 :=
  mulf (matmul dot_S256x64_S2048x64_S256x2048_1_1_0_0_n_n none (shapeCast S256x64 k shapeCasts_S1x256x64_S256x64) (shapeCast S2048x64 q shapeCasts_S1x2048x64_S2048x64) (constant S256x2048 .f32 0x00000000#32)) (broadcast S256x2048 (Scalar.ofBits .f32 0x3E000000#32))

/-- The greatest element of every row. -/
def rowMax (x : FVec F S256x2048 .f32) : FVec F S256x1 .f32 :=
  shapeCast S256x1 (multiReduction .maximumf [1] S256 x 0xFF800000#32 reduces_S256x2048_S256 (.inl rfl) rfl) shapeCasts_S256_S256x1

/-- Which elements reach their row's threshold. -/
def reaches (a : FVec F S256x2048 .f32) (t : FVec F S256x1 .f32) : IVec S256x2048 1 :=
  cmpf .oge a (broadcastTo S256x2048 t broadcasts_S256x1_S256x2048)

/-- The thresholds after `r` rounds. -/
def threshold (a : FVec F S256x2048 .f32) : Nat → FVec F S256x1 .f32
  | 0 => rowMax a
  | r + 1 => rowMax (select (reaches a (threshold a r)) (broadcast S256x2048 (Scalar.ofBits .f32 0xFF7FC99E#32)) a)

/-- The exponentials of what reaches the last threshold, zero elsewhere. -/
def exps (a : FVec F S256x2048 .f32) : FVec F S256x2048 .f32 :=
  select (reaches a (threshold a 15)) (exp (subf a (broadcastTo S256x2048 (rowMax a) broadcasts_S256x1_S256x2048))) (broadcast S256x2048 (Scalar.ofBits .f32 0x00000000#32))

/-- The signs. -/
def signs (s : FVec F S256x2048 .f32) : FVec F S256x2048 .f32 :=
  select (cmpf .ogt (absf s) (broadcast S256x2048 (Scalar.ofBits .f32 0x00000000#32))) (select (cmpf .olt s (constant S256x2048 .f32 0x00000000#32)) (constant S256x2048 .f32 0xBF800000#32) (constant S256x2048 .f32 0x3F800000#32)) s

/-- The weights of a chunk, from its scores. -/
def weights (s : FVec F S256x2048 .f32) (g : FVec F S1x1x2048 .f32) : FVec F S256x2048 .f32 :=
  divf (mulf (mulf (signs s) (exps (absf s))) (broadcastTo S256x2048 (shapeCast S1x2048 g shapeCasts_S1x1x2048_S1x2048) broadcasts_S1x2048_S256x2048)) (broadcastTo S256x2048 (shapeCast S256x1 (multiReduction .add [1] S256 (exps (absf s)) 0x00000000#32 reduces_S256x2048_S256 (.inl rfl) rfl) shapeCasts_S256_S256x1) broadcasts_S256x1_S256x2048)

/-- The states a chunk writes. -/
def states (k : FVec F S1x256x64 .f32) (q : FVec F S1x2048x64 .f32) (g : FVec F S1x1x2048 .f32) : FVec F S1x1x1x256 .f32 :=
  shapeCast S1x1x1x256 (multiReduction .add [1] S256 (weights (score k q) g) 0x00000000#32 reduces_S256x2048_S256 (.inl rfl) rfl) shapeCasts_S256_S1x1x1x256

/-- The values a chunk writes. -/
def vals (k : FVec F S1x256x64 .f32) (q : FVec F S1x2048x64 .f32) (g : FVec F S1x1x2048 .f32) (d : FVec F S1x2048x768 .f32) :
    FVec F S1x256x768 .f32 :=
  shapeCast S1x256x768 (matmul dot_S256x2048_S2048x768_S256x768_1_0_0_1_n_n none (weights (score k q) g) (shapeCast S2048x768 d shapeCasts_S1x2048x768_S2048x768) (constant S256x768 .f32 0x00000000#32)) shapeCasts_S256x768_S1x256x768

variable (x0 : Vec F S1x1024x64 .f32) (x1 : Vec F S1x2048x64 .f32) (x2 : Vec F S1x1x2048 .f32) (x3 : Vec F S1x2048x768 .f32)

/-- The call's block of states, chunk by chunk. -/
theorem out2_4_eq : out2_4 x0 x1 x2 x3 = View.canon [⟨r2_13, states (View.ld x0 r2_12) (View.ld x1 r2_0) (View.ld x2 r2_1)⟩,
    ⟨r2_10, states (View.ld x0 r2_9) (View.ld x1 r2_0) (View.ld x2 r2_1)⟩,
    ⟨r2_7, states (View.ld x0 r2_6) (View.ld x1 r2_0) (View.ld x2 r2_1)⟩,
    ⟨r2_4, states (View.ld x0 r2_3) (View.ld x1 r2_0) (View.ld x2 r2_1)⟩] := rfl

/-- The call's block of values, chunk by chunk. -/
theorem out2_5_eq : out2_5 x0 x1 x2 x3 = View.canon [⟨r2_14, vals (View.ld x0 r2_12) (View.ld x1 r2_0) (View.ld x2 r2_1) (View.ld x3 r2_2)⟩,
    ⟨r2_11, vals (View.ld x0 r2_9) (View.ld x1 r2_0) (View.ld x2 r2_1) (View.ld x3 r2_2)⟩,
    ⟨r2_8, vals (View.ld x0 r2_6) (View.ld x1 r2_0) (View.ld x2 r2_1) (View.ld x3 r2_2)⟩,
    ⟨r2_5, vals (View.ld x0 r2_3) (View.ld x1 r2_0) (View.ld x2 r2_1) (View.ld x3 r2_2)⟩] := rfl

/-- The second routing call is the first's text. -/
theorem out4_4_eq : out4_4 x0 x1 x2 x3 = out2_4 x0 x1 x2 x3 := rfl

/-- The same of its values. -/
theorem out4_5_eq : out4_5 x0 x1 x2 x3 = out2_5 x0 x1 x2 x3 := rfl

/-- The third routing call is the first's text. -/
theorem out6_4_eq : out6_4 x0 x1 x2 x3 = out2_4 x0 x1 x2 x3 := rfl

/-- The same of its values. -/
theorem out6_5_eq : out6_5 x0 x1 x2 x3 = out2_5 x0 x1 x2 x3 := rfl

end Cert.Chunk

end
-- ==== Proof.RouteRow.lean ====
/- One destination's row of a routing call, on the extended reals: the chunk's operations read at an index. -/
module

public import proofs.«01_k».proof.Proof.RouteChunk
public import proofs.«01_k».proof.Proof.TopMath
public import Idealize.ShloMosaic.Lib.Pointwise
public import Idealize.ShloMosaic.Lib.Pipeline.ValueKit

@[expose] public section

set_option maxRecDepth 16384

noncomputable section

namespace Cert.Chunk

open Cert.KernelIdeal Cert.KernelIdeal.Gen Idealize.ShloMosaic Idealize.ShloMosaic.TcCoe

/-- The kernel's "lower than any magnitude". -/
def low : EReal := Ideal.ofBits .f32 0xFF7FC99E#32

/-- A destination's score against a source. -/
def rowScore (k : Fin 64 → EReal) (q : Fin 2048 → Fin 64 → EReal) (n : Fin 2048) : EReal :=
  (∑ r, k r * q n r) * Ideal.ofBits .f32 0x3E000000#32

/-- A source's weight for a destination, from the destination's scores. -/
def rowWeight (s g : Fin 2048 → EReal) (n : Fin 2048) : EReal :=
  Cert.Top.weight low (fun n => max (s n) (-s n)) (fun n => Ideal.sign (s n)) g 15 n

/-- It is below zero. -/
theorem low_le (x : EReal) (h : 0 ≤ x) : low ≤ x := by
  refine le_trans (le_of_eq_of_le (b := ((-(16763294 * 2 ^ (104 : ℤ)) : ℝ) : EReal)) ?_ ?_) h
  · simp [low, Ideal.ofBits, Ideal.ieee, -EReal.coe_mul, -EReal.coe_neg]
  · exact EReal.coe_nonpos.mpr (by norm_num)

/-- The word of negative infinity. -/
theorem word_bot : Ideal.ofBits .f32 0xFF800000#32 = ⊥ := by simp [Ideal.ofBits, Ideal.ieee]

/-- The word of minus one. -/
theorem word_neg_one : Ideal.ofBits .f32 0xBF800000#32 = -1 := IdealRules.sign_bit.ideal_negOnePat .f32

/-- A choice by a decided proposition. -/
theorem select_decide {α : Type} (p : Prop) [Decidable p] (x y : α) :
    Scalar.select (BitVec.ofBool (decide p)) x y = if p then x else y := by
  by_cases h : p <;> simp [Scalar.select, h]

/-- A score of a chunk read at an index. -/
theorem score_apply (k : FVec Ideal S1x256x64 .f32) (q : FVec Ideal S1x2048x64 .f32) (i : Fin 256) (n : Fin 2048) :
    score k q (ix2 i n) = rowScore (fun r => k (ix3 0 i r)) (fun n r => q (ix3 0 n r)) n := by
  pointwise [score, rowScore]
  done

/-- A row's greatest element. -/
theorem rowMax_apply (x : FVec Ideal S256x2048 .f32) (i : Fin 256) :
    rowMax x (ix2 i 0) = Finset.univ.fold max ⊥ fun n => x (ix2 i n) := by
  pointwise [rowMax]
  rw [word_bot]

/-- Whether an element reaches its row's threshold. -/
theorem reaches_apply (a : FVec Ideal S256x2048 .f32) (t : FVec Ideal S256x1 .f32) (i : Fin 256) (n : Fin 2048) :
    reaches a t (ix2 i n) = BitVec.ofBool (decide (t (ix2 i 0) ≤ a (ix2 i n))) := by
  pointwise [reaches]
  done

/-- The threshold after `r` steps is the row's cut. -/
theorem threshold_apply (a : FVec Ideal S256x2048 .f32) (i : Fin 256) (r : Nat) :
    threshold a r (ix2 i 0) = Cert.Top.cut low (fun n => a (ix2 i n)) r := by
  induction r with
  | zero => exact rowMax_apply a i
  | succ r ih =>
    unfold threshold Cert.Top.cut
    rw [rowMax_apply]
    congr 1
    funext n
    rw [ValueIdx.select_apply, reaches_apply, ih]
    exact select_decide _ _ _

/-- An exponential of a chunk: that of its magnitude where it passes the last threshold, else zero. -/
theorem exps_apply (a : FVec Ideal S256x2048 .f32) (i : Fin 256) (n : Fin 2048) :
    exps a (ix2 i n) = Cert.Top.expTerm low (fun n => a (ix2 i n)) 15 n := by
  pointwise [exps]
  rw [reaches_apply, select_decide, threshold_apply, rowMax_apply]
  rfl

/-- A sign of a chunk. -/
theorem signs_apply (s : FVec Ideal S256x2048 .f32) (i : Fin 256) (n : Fin 2048) :
    signs s (ix2 i n) = Ideal.sign (s (ix2 i n)) := by
  pointwise [signs]
  rw [word_neg_one]
  exact Cert.Top.sign_eq _

/-- A weight of a chunk. -/
theorem weights_apply (s : FVec Ideal S256x2048 .f32) (g : FVec Ideal S1x1x2048 .f32) (i : Fin 256) (n : Fin 2048) :
    weights s g (ix2 i n) = rowWeight (fun n => s (ix2 i n)) (fun n => g (ix3 0 0 n)) n := by
  pointwise [weights, signs_apply, exps_apply]
  rfl

/-- A chunk's state: the sum of its row of weights. -/
theorem states_apply (k : FVec Ideal S1x256x64 .f32) (q : FVec Ideal S1x2048x64 .f32) (g : FVec Ideal S1x1x2048 .f32) (i : Fin 256) :
    states k q g (ix4 0 0 0 i)
      = ∑ n, rowWeight (rowScore (fun r => k (ix3 0 i r)) (fun n r => q (ix3 0 n r))) (fun n => g (ix3 0 0 n)) n := by
  pointwise [states, weights_apply, score_apply]
  done

/-- A chunk's value: its row of weights against the directions. -/
theorem vals_apply (k : FVec Ideal S1x256x64 .f32) (q : FVec Ideal S1x2048x64 .f32) (g : FVec Ideal S1x1x2048 .f32)
    (d : FVec Ideal S1x2048x768 .f32) (i : Fin 256) (e : Fin 768) :
    vals k q g d (ix3 0 i e)
      = ∑ n, rowWeight (rowScore (fun r => k (ix3 0 i r)) (fun n r => q (ix3 0 n r))) (fun n => g (ix3 0 0 n)) n * d (ix3 0 n e) := by
  pointwise [vals, weights_apply, score_apply]
  done

end Cert.Chunk

end
-- ==== Proof.RouteBlock.lean ====
/- The two output blocks of a routing call, read at an index: every destination of the block gets its own row. -/
module

public import proofs.«01_k».proof.Proof.RouteRow

@[expose] public section

set_option maxRecDepth 16384

noncomputable section

namespace Cert.Chunk

open Cert.KernelIdeal Cert.KernelIdeal.Gen Idealize.ShloMosaic Idealize.ShloMosaic.TcCoe

variable (x0 : Vec Ideal S1x1024x64 .f32) (x1 : Vec Ideal S1x2048x64 .f32) (x2 : Vec Ideal S1x1x2048 .f32) (x3 : Vec Ideal S1x2048x768 .f32)

/-- The weights of a block's destination `j`. -/
def blockWeight (j : Fin 1024) (n : Fin 2048) : EReal :=
  rowWeight (rowScore (fun r => x0 (ix3 0 j r)) (fun n r => x1 (ix3 0 n r))) (fun n => x2 (ix3 0 0 n)) n

/-- A chunk's states, when its destination at `y` is the block's `j`. -/
theorem states_chunk (k : FVec Ideal S1x256x64 .f32) (y : S1x1x1x256.Idx) (j : Fin 1024)
    (h : ∀ r : Fin 64, k (ix3 0 (y 3) r) = x0 (ix3 0 j r)) :
    states k (View.ld x1 r2_0) (View.ld x2 r2_1) y = ∑ n, blockWeight x0 x1 x2 j n := by
  rw [View.ld_unit_lit _ x1 (by decide), View.ld_unit_lit _ x2 (by decide)]
  idx_vars y
  have e : (ix4 y0 y1 y2 y3 : S1x1x1x256.Idx) = ix4 0 0 0 y3 := by
    rw [Subsingleton.elim y0 0, Subsingleton.elim y1 0, Subsingleton.elim y2 0]
  rw [e, states_apply]
  simp only [blockWeight, ← h]

/-- The block of states at destination `j`. -/
theorem out2_4_apply (j : Fin 1024) : out2_4 x0 x1 x2 x3 (ix4 0 0 0 j) = ∑ n, blockWeight x0 x1 x2 j n := by
  rw [out2_4_eq]
  canon_tiles y h
  all_goals
    refine states_chunk x0 x1 x2 _ y j fun r => ?_
    pointwise
    refine congrArg x0 (congrArg (fun a => ix3 0 a r) (Fin.ext ?_))
    have h4 : (j : ℕ) = _ := h3
    simp only [h4]

/-- A chunk's values, when its destination at `y` is the block's `j`. -/
theorem vals_chunk (k : FVec Ideal S1x256x64 .f32) (y : S1x256x768.Idx) (j : Fin 1024) (e : Fin 768)
    (h : ∀ r : Fin 64, k (ix3 0 (y 1) r) = x0 (ix3 0 j r)) (he : (e : ℕ) = (y 2 : ℕ)) :
    vals k (View.ld x1 r2_0) (View.ld x2 r2_1) (View.ld x3 r2_2) y = ∑ n, blockWeight x0 x1 x2 j n * x3 (ix3 0 n e) := by
  rw [View.ld_unit_lit _ x1 (by decide), View.ld_unit_lit _ x2 (by decide), View.ld_unit_lit _ x3 (by decide)]
  idx_vars y
  obtain rfl : e = y2 := Fin.ext he
  rw [Subsingleton.elim y0 0, vals_apply]
  simp only [blockWeight, ← h]

/-- The block of values at destination `j`. -/
theorem out2_5_apply (j : Fin 1024) (e : Fin 768) :
    out2_5 x0 x1 x2 x3 (ix3 0 j e) = ∑ n, blockWeight x0 x1 x2 j n * x3 (ix3 0 n e) := by
  rw [out2_5_eq]
  canon_tiles y h
  all_goals
    refine vals_chunk x0 x1 x2 x3 _ y j e (fun r => ?_) h2
    pointwise
    refine congrArg x0 (congrArg (fun a => ix3 0 a r) (Fin.ext ?_))
    have h4 : (j : ℕ) = _ := h1
    simp only [h4]

end Cert.Chunk

end
-- ==== Proof.RouteRegion.lean ====
/- The routing calls' result arrays, read at an index. -/
module

public import proofs.«01_k».proof.Proof.RouteBlock

@[expose] public section

set_option maxRecDepth 16384

noncomputable section

namespace Cert.Chunk

open Cert.KernelIdeal Cert.KernelIdeal.Gen Idealize.ShloMosaic Idealize.ShloMosaic.TcCoe
open Idealize.ShloMosaic.Pipeline (Dat)

variable (K Q : FVec Ideal S2x2048x64 .f32) (G : FVec Ideal S2x1x2048 .f32) (D : FVec Ideal S2x2048x768 .f32)

/-- The weight of source `n` for destination `j` of batch `b`. -/
def arrWeight (b : Fin 2) (j n : Fin 2048) : EReal :=
  rowWeight (rowScore (fun r => K (ix3 b j r)) (fun n r => Q (ix3 b n r))) (fun n => G (ix3 b 0 n)) n

/-- The destination that entry `i` of the array of states is. -/
def dstOf (t : Fin 2) (j : Fin 1024) : Fin 2048 := ⟨t.val * 1024 + j.val, by omega⟩

/-- The array of states a routing call leaves. -/
def stateArr : FVec Ideal S2x2x1x1024 .f32 := fun i =>
  ∑ n, arrWeight K Q G (i 0) (dstOf (i 1) (i 3)) n

/-- The array of values a routing call leaves. -/
def valArr : FVec Ideal S2x2048x768 .f32 := fun i =>
  ∑ n, arrWeight K Q G (i 0) (i 1) n * D (ix3 (i 0) n (i 2))

/-- A block of states is the array's block, when the operands are the arrays' blocks. -/
theorem state_point (x0 : Vec Ideal S1x1024x64 .f32) (x1 : Vec Ideal S1x2048x64 .f32) (x2 : Vec Ideal S1x1x2048 .f32)
    (x3 : Vec Ideal S1x2048x768 .f32) (b t : Fin 2)
    (h0 : ∀ (j : Fin 1024) (r : Fin 64), x0 (ix3 0 j r) = K (ix3 b (dstOf t j) r))
    (h1 : ∀ (n : Fin 2048) (r : Fin 64), x1 (ix3 0 n r) = Q (ix3 b n r)) (h2 : ∀ n : Fin 2048, x2 (ix3 0 0 n) = G (ix3 b 0 n))
    (y : S1x1x1x1024.Idx) (i : S2x2x1x1024.Idx) (hb : (i 0 : ℕ) = b.val) (ht : (i 1 : ℕ) = t.val) (hy : (i 3 : ℕ) = (y 3 : ℕ)) :
    out2_4 x0 x1 x2 x3 y = stateArr K Q G i := by
  idx_vars y
  idx_vars i
  obtain rfl : i0 = b := Fin.ext hb
  obtain rfl : i1 = t := Fin.ext ht
  obtain rfl : i3 = y3 := Fin.ext hy
  rw [Subsingleton.elim y0 0, Subsingleton.elim y1 0, Subsingleton.elim y2 0, out2_4_apply]
  simp only [blockWeight, h0, h1, h2]
  rfl

/-- A block of values is the array's block, when the operands are the arrays' blocks. -/
theorem val_point (x0 : Vec Ideal S1x1024x64 .f32) (x1 : Vec Ideal S1x2048x64 .f32) (x2 : Vec Ideal S1x1x2048 .f32)
    (x3 : Vec Ideal S1x2048x768 .f32) (b t : Fin 2)
    (h0 : ∀ (j : Fin 1024) (r : Fin 64), x0 (ix3 0 j r) = K (ix3 b (dstOf t j) r))
    (h1 : ∀ (n : Fin 2048) (r : Fin 64), x1 (ix3 0 n r) = Q (ix3 b n r)) (h2 : ∀ n : Fin 2048, x2 (ix3 0 0 n) = G (ix3 b 0 n))
    (h3 : ∀ (n : Fin 2048) (e : Fin 768), x3 (ix3 0 n e) = D (ix3 b n e))
    (y : S1x1024x768.Idx) (i : S2x2048x768.Idx) (hb : (i 0 : ℕ) = b.val) (ht : (i 1 : ℕ) = t.val * 1024 + (y 1 : ℕ))
    (hy : (i 2 : ℕ) = (y 2 : ℕ)) :
    out2_5 x0 x1 x2 x3 y = valArr K Q G D i := by
  idx_vars y
  idx_vars i
  obtain rfl : i0 = b := Fin.ext hb
  obtain rfl : i1 = dstOf t y1 := Fin.ext ht
  obtain rfl : i2 = y2 := Fin.ext hy
  rw [Subsingleton.elim y0 0, out2_5_apply]
  simp only [blockWeight, h0, h1, h2, h3]
  rfl

variable (V : (c : Dev nD) → (b : Ref sig .tc) → Buf (Elt Ideal) ((c : Thread nD τ).loc b)) (c : Dev nD)

/-! ### The first routing call -/

/-- The block indices of its windows. -/
theorem idx2 : ∀ t : Fin cfg2.N, win2_0.index t = ![(grid2.coords t 0).val, (grid2.coords t 1).val, 0]
    ∧ win2_1.index t = ![(grid2.coords t 0).val, 0, 0] ∧ win2_2.index t = ![(grid2.coords t 0).val, 0, 0]
    ∧ win2_3.index t = ![(grid2.coords t 0).val, 0, 0]
    ∧ win2_4.index t = ![(grid2.coords t 0).val, (grid2.coords t 1).val, 0, 0]
    ∧ win2_5.index t = ![(grid2.coords t 0).val, (grid2.coords t 1).val, 0] :=
  (by decide +kernel : ∀ t : Fin grid2.N, _)

/-- Its destination rows. -/
theorem block2_0 (t : Fin cfg2.N) (j : Fin 1024) (r : Fin 64) :
    iblk2 V c 0 t (ix3 0 j r : S1x1024x64.Idx) = (V c main_v41_1 : FVec Ideal S2x2048x64 .f32) (ix3 (grid2.coords t 0) (dstOf (grid2.coords t 1) j) r) := by
  obtain ⟨e0, -, -, -, -, -⟩ := idx2 t
  blk_ext! [iblk2, e0]
  rfl

/-- Its source rows. -/
theorem block2_1 (t : Fin cfg2.N) (n : Fin 2048) (r : Fin 64) :
    iblk2 V c 1 t (ix3 0 n r : S1x2048x64.Idx) = (V c main_v41_0 : FVec Ideal S2x2048x64 .f32) (ix3 (grid2.coords t 0) n r) := by
  obtain ⟨-, e1, -, -, -, -⟩ := idx2 t
  blk_ext! [iblk2, e1]

/-- Its gates. -/
theorem block2_2 (t : Fin cfg2.N) (n : Fin 2048) :
    iblk2 V c 2 t (ix3 0 0 n : S1x1x2048.Idx) = (V c main_v42 : FVec Ideal S2x1x2048 .f32) (ix3 (grid2.coords t 0) 0 n) := by
  obtain ⟨-, -, e2, -, -, -⟩ := idx2 t
  blk_ext! [iblk2, e2]

/-- Its directions. -/
theorem block2_3 (t : Fin cfg2.N) (n : Fin 2048) (e : Fin 768) :
    iblk2 V c 3 t (ix3 0 n e : S1x2048x768.Idx) = (V c main_v41_2 : FVec Ideal S2x2048x768 .f32) (ix3 (grid2.coords t 0) n e) := by
  obtain ⟨-, -, -, e3, -, -⟩ := idx2 t
  blk_ext! [iblk2, e3]

/-- Its array of states. -/
theorem arr2_4 : (dat2 V c).arrAt 4 cfg2.N = stateArr (V c main_v41_1) (V c main_v41_0) (V c main_v42) := by
  refine (dat2 V c).arrAt_eq_of_covers 4 _ (by decide +kernel) fun t _ y => ?_
  obtain ⟨-, -, -, -, e4, -⟩ := idx2 t
  blk_simp
  rw [after2_4]
  exact state_point _ _ _ _ _ _ _ (grid2.coords t 0) (grid2.coords t 1) (block2_0 V c t) (block2_1 V c t) (block2_2 V c t) y _
    (by blk_simp [e4]) (by blk_simp [e4]) (by blk_simp [e4])

/-- Its array of values. -/
theorem arr2_5 : (dat2 V c).arrAt 5 cfg2.N = valArr (V c main_v41_1) (V c main_v41_0) (V c main_v42) (V c main_v41_2) := by
  refine (dat2 V c).arrAt_eq_of_covers 5 _ (by decide +kernel) fun t _ y => ?_
  obtain ⟨-, -, -, -, -, e5⟩ := idx2 t
  blk_simp
  rw [after2_5]
  exact val_point _ _ _ _ _ _ _ _ (grid2.coords t 0) (grid2.coords t 1) (block2_0 V c t) (block2_1 V c t) (block2_2 V c t) (block2_3 V c t) y _
    (by blk_simp [e5]) (by blk_simp [e5]) (by blk_simp [e5])

/-! ### The second routing call -/

/-- The block indices of its windows. -/
theorem idx4 : ∀ t : Fin cfg4.N, win4_0.index t = ![(grid4.coords t 0).val, (grid4.coords t 1).val, 0]
    ∧ win4_1.index t = ![(grid4.coords t 0).val, 0, 0] ∧ win4_2.index t = ![(grid4.coords t 0).val, 0, 0]
    ∧ win4_3.index t = ![(grid4.coords t 0).val, 0, 0]
    ∧ win4_4.index t = ![(grid4.coords t 0).val, (grid4.coords t 1).val, 0, 0]
    ∧ win4_5.index t = ![(grid4.coords t 0).val, (grid4.coords t 1).val, 0] :=
  (by decide +kernel : ∀ t : Fin grid4.N, _)

/-- Its destination rows. -/
theorem block4_0 (t : Fin cfg4.N) (j : Fin 1024) (r : Fin 64) :
    iblk4 V c 0 t (ix3 0 j r : S1x1024x64.Idx) = (V c main_v85_1 : FVec Ideal S2x2048x64 .f32) (ix3 (grid4.coords t 0) (dstOf (grid4.coords t 1) j) r) := by
  obtain ⟨e0, -, -, -, -, -⟩ := idx4 t
  blk_ext! [iblk4, e0]
  rfl

/-- Its source rows. -/
theorem block4_1 (t : Fin cfg4.N) (n : Fin 2048) (r : Fin 64) :
    iblk4 V c 1 t (ix3 0 n r : S1x2048x64.Idx) = (V c main_v85_0 : FVec Ideal S2x2048x64 .f32) (ix3 (grid4.coords t 0) n r) := by
  obtain ⟨-, e1, -, -, -, -⟩ := idx4 t
  blk_ext! [iblk4, e1]

/-- Its gates. -/
theorem block4_2 (t : Fin cfg4.N) (n : Fin 2048) :
    iblk4 V c 2 t (ix3 0 0 n : S1x1x2048.Idx) = (V c main_v86 : FVec Ideal S2x1x2048 .f32) (ix3 (grid4.coords t 0) 0 n) := by
  obtain ⟨-, -, e2, -, -, -⟩ := idx4 t
  blk_ext! [iblk4, e2]

/-- Its directions. -/
theorem block4_3 (t : Fin cfg4.N) (n : Fin 2048) (e : Fin 768) :
    iblk4 V c 3 t (ix3 0 n e : S1x2048x768.Idx) = (V c main_v85_2 : FVec Ideal S2x2048x768 .f32) (ix3 (grid4.coords t 0) n e) := by
  obtain ⟨-, -, -, e3, -, -⟩ := idx4 t
  blk_ext! [iblk4, e3]

/-- Its array of states. -/
theorem arr4_4 : (dat4 V c).arrAt 4 cfg4.N = stateArr (V c main_v85_1) (V c main_v85_0) (V c main_v86) := by
  refine (dat4 V c).arrAt_eq_of_covers 4 _ (by decide +kernel) fun t _ y => ?_
  obtain ⟨-, -, -, -, e4, -⟩ := idx4 t
  blk_simp
  rw [after4_4, out4_4_eq]
  exact state_point _ _ _ _ _ _ _ (grid4.coords t 0) (grid4.coords t 1) (block4_0 V c t) (block4_1 V c t) (block4_2 V c t) y _
    (by blk_simp [e4]) (by blk_simp [e4]) (by blk_simp [e4])

/-- Its array of values. -/
theorem arr4_5 : (dat4 V c).arrAt 5 cfg4.N = valArr (V c main_v85_1) (V c main_v85_0) (V c main_v86) (V c main_v85_2) := by
  refine (dat4 V c).arrAt_eq_of_covers 5 _ (by decide +kernel) fun t _ y => ?_
  obtain ⟨-, -, -, -, -, e5⟩ := idx4 t
  blk_simp
  rw [after4_5, out4_5_eq]
  exact val_point _ _ _ _ _ _ _ _ (grid4.coords t 0) (grid4.coords t 1) (block4_0 V c t) (block4_1 V c t) (block4_2 V c t) (block4_3 V c t) y _
    (by blk_simp [e5]) (by blk_simp [e5]) (by blk_simp [e5])

/-! ### The third routing call -/

/-- The block indices of its windows. -/
theorem idx6 : ∀ t : Fin cfg6.N, win6_0.index t = ![(grid6.coords t 0).val, (grid6.coords t 1).val, 0]
    ∧ win6_1.index t = ![(grid6.coords t 0).val, 0, 0] ∧ win6_2.index t = ![(grid6.coords t 0).val, 0, 0]
    ∧ win6_3.index t = ![(grid6.coords t 0).val, 0, 0]
    ∧ win6_4.index t = ![(grid6.coords t 0).val, (grid6.coords t 1).val, 0, 0]
    ∧ win6_5.index t = ![(grid6.coords t 0).val, (grid6.coords t 1).val, 0] :=
  (by decide +kernel : ∀ t : Fin grid6.N, _)

/-- Its destination rows. -/
theorem block6_0 (t : Fin cfg6.N) (j : Fin 1024) (r : Fin 64) :
    iblk6 V c 0 t (ix3 0 j r : S1x1024x64.Idx) = (V c main_v146_1 : FVec Ideal S2x2048x64 .f32) (ix3 (grid6.coords t 0) (dstOf (grid6.coords t 1) j) r) := by
  obtain ⟨e0, -, -, -, -, -⟩ := idx6 t
  blk_ext! [iblk6, e0]
  rfl

/-- Its source rows. -/
theorem block6_1 (t : Fin cfg6.N) (n : Fin 2048) (r : Fin 64) :
    iblk6 V c 1 t (ix3 0 n r : S1x2048x64.Idx) = (V c main_v146_0 : FVec Ideal S2x2048x64 .f32) (ix3 (grid6.coords t 0) n r) := by
  obtain ⟨-, e1, -, -, -, -⟩ := idx6 t
  blk_ext! [iblk6, e1]

/-- Its gates. -/
theorem block6_2 (t : Fin cfg6.N) (n : Fin 2048) :
    iblk6 V c 2 t (ix3 0 0 n : S1x1x2048.Idx) = (V c main_v147 : FVec Ideal S2x1x2048 .f32) (ix3 (grid6.coords t 0) 0 n) := by
  obtain ⟨-, -, e2, -, -, -⟩ := idx6 t
  blk_ext! [iblk6, e2]

/-- Its directions. -/
theorem block6_3 (t : Fin cfg6.N) (n : Fin 2048) (e : Fin 768) :
    iblk6 V c 3 t (ix3 0 n e : S1x2048x768.Idx) = (V c main_v146_2 : FVec Ideal S2x2048x768 .f32) (ix3 (grid6.coords t 0) n e) := by
  obtain ⟨-, -, -, e3, -, -⟩ := idx6 t
  blk_ext! [iblk6, e3]

/-- Its array of states. -/
theorem arr6_4 : (dat6 V c).arrAt 4 cfg6.N = stateArr (V c main_v146_1) (V c main_v146_0) (V c main_v147) := by
  refine (dat6 V c).arrAt_eq_of_covers 4 _ (by decide +kernel) fun t _ y => ?_
  obtain ⟨-, -, -, -, e4, -⟩ := idx6 t
  blk_simp
  rw [after6_4, out6_4_eq]
  exact state_point _ _ _ _ _ _ _ (grid6.coords t 0) (grid6.coords t 1) (block6_0 V c t) (block6_1 V c t) (block6_2 V c t) y _
    (by blk_simp [e4]) (by blk_simp [e4]) (by blk_simp [e4])

/-- Its array of values. -/
theorem arr6_5 : (dat6 V c).arrAt 5 cfg6.N = valArr (V c main_v146_1) (V c main_v146_0) (V c main_v147) (V c main_v146_2) := by
  refine (dat6 V c).arrAt_eq_of_covers 5 _ (by decide +kernel) fun t _ y => ?_
  obtain ⟨-, -, -, -, -, e5⟩ := idx6 t
  blk_simp
  rw [after6_5, out6_5_eq]
  exact val_point _ _ _ _ _ _ _ _ (grid6.coords t 0) (grid6.coords t 1) (block6_0 V c t) (block6_1 V c t) (block6_2 V c t) (block6_3 V c t) y _
    (by blk_simp [e5]) (by blk_simp [e5]) (by blk_simp [e5])

end Cert.Chunk

end
-- ==== Proof.StateRegion.lean ====
/- The first call's result array: the signed softmax of the initial state. -/
module

public import proofs.«01_k».proof.Proof.LayerOps
public import proofs.«01_k».proof.Proof.TopMath
public import proofs.«01_k».proof.Proof.RouteRegion
public import proofs.«01_k».proof.Proof.Gen.KernelIdeal.Frame.Region0
public import Idealize.ShloMosaic.Lib.Pipeline.ValueKit

@[expose] public section

set_option maxRecDepth 16384

noncomputable section

namespace Cert.State

open Cert.KernelIdeal Cert.KernelIdeal.Gen Idealize.ShloMosaic Idealize.ShloMosaic.TcCoe
open Idealize.ShloMosaic.Pipeline (Dat)

/-- The exponential of a magnitude less the greatest of its row. -/
def rowExp (x : Fin 2048 → EReal) (n : Fin 2048) : EReal :=
  Ideal.exp (max (x n) (-x n) - Finset.univ.fold max ⊥ fun j => max (x j) (-x j))

/-- Where every element is finite, the exponentials do not sum to zero: the greatest magnitude's is one. -/
theorem sum_rowExp_ne_zero (x : Fin 2048 → EReal) (h : ∀ n, max (x n) (-x n) < ⊤) : ∑ n, rowExp x n ≠ 0 := by
  obtain ⟨i, -, hi⟩ := Finset.exists_mem_eq_sup (Finset.univ : Finset (Fin 2048)) ⟨0, Finset.mem_univ _⟩
    (fun j => max (x j) (-x j))
  refine Cert.Top.sum_ne_zero _ i ?_ fun j => Cert.Top.exp_nonneg _
  unfold rowExp
  rw [Cert.Top.fold_max_eq_sup, hi]
  refine Cert.Top.exp_self_sub ?_ (h i)
  rcases le_total 0 (x i) with h0 | h0
  · exact le_max_of_le_left h0
  · exact le_max_of_le_right (by simpa using EReal.neg_le_neg_iff.mpr h0)

/-- The call's row. -/
theorem out0_1_apply (x0 : Vec Ideal S1x2048 .f32) (n : Fin 2048) :
    out0_1 x0 (ix2 0 n) = Ideal.div (Ideal.sign (x0 (ix2 0 n)) * rowExp (fun j => x0 (ix2 0 j)) n)
      (∑ j, rowExp (fun j => x0 (ix2 0 j)) j) := by
  unfold out0_1
  rw [View.canon_cons_unit_lit _ _ _ (by decide), View.ld_unit_lit _ x0 (by decide)]
  pointwise [k0_pay1]
  simp only [Ideal.absf_def, Cert.Chunk.word_bot, Cert.Chunk.word_neg_one, Cert.Chunk.select_decide, ← Cert.Top.sign_eq, rowExp]
  done

/-- The block at the call's one point is the whole row. -/
theorem idx0 : ∀ t : Fin cfg0.N, win0_0.index t = ![0, 0] ∧ win0_1.index t = ![0, 0] :=
  (by decide +kernel : ∀ t : Fin grid0.N, _)

/-- The row the call leaves, of the row it reads. -/
def stateRow (S : FVec Ideal S1x2048 .f32) : FVec Ideal S1x2048 .f32 := fun i =>
  Ideal.div (Ideal.sign (S i) * rowExp (fun j => S (ix2 0 j)) (i 1)) (∑ j, rowExp (fun j => S (ix2 0 j)) j)

/-- What the body leaves is the row of its input. -/
theorem out0_1_eq (x0 : Vec Ideal S1x2048 .f32) : out0_1 x0 = stateRow x0 := by
  funext y
  idx_vars y
  revert y0 y1
  intro a n
  rw [Subsingleton.elim a (0 : Fin 1), out0_1_apply]
  rfl

section Arrays

variable (V : (c : Dev nD) → (b : Ref sig .tc) → Buf (Elt Ideal) ((c : Thread nD τ).loc b)) (c : Dev nD)

/-- The one input block is the array. -/
theorem block0_0 : iblk0 V c 0 t0_0 = V c main_v0 := by
  blk_ext! [iblk0, idx0 t0_0]

/-- The result array of the first call. -/
theorem arr0_1 : (dat0 V c).arrAt 1 cfg0.N = stateRow (V c main_v0) := by
  refine (dat0 V c).arrAt_eq_of_after_last 1 t0_0 (by decide +kernel) _ fun j => ?_
  blk_simp
  rw [after0_1, block0_0, out0_1_eq]
  done

end Arrays

/-- The call's row of a finite initial state, in every batch, is the signed softmax. -/
theorem row_eq (s : FVec Ideal S2048 .f32) (h : ∀ n, max (s (ix1 n)) (-s (ix1 n)) < ⊤) :
    broadcastInDim S2x2048 ![0, 1] bcast_S1x2048_S2x2048_0_1 (stateRow (shapeCast S1x2048 s shapeCasts_S2048_S1x2048))
      = Cert.Layer.signedSoftmax (F := Ideal) (Cert.Layer.initState (F := Ideal) s) := by
  funext i
  idx_vars i
  revert i0 i1
  intro b n
  have hz := sum_rowExp_ne_zero (fun n => s (ix1 n)) h
  have e1 : ∀ n : Fin 2048, shapeCast S1x2048 s shapeCasts_S2048_S1x2048 (ix2 0 n) = s (ix1 n) := fun n => by
    pointwise []
  rw [Cert.Layer.signedSoftmax_apply]
  simp only [Cert.Layer.stateExp_apply, Cert.Layer.initState_apply]
  have e2 : broadcastInDim S2x2048 ![0, 1] bcast_S1x2048_S2x2048_0_1 (stateRow (shapeCast S1x2048 s shapeCasts_S2048_S1x2048)) (ix2 b n)
      = stateRow (shapeCast S1x2048 s shapeCasts_S2048_S1x2048) (ix2 0 n) := by
    pointwise []
  rw [e2]
  show Ideal.div (Ideal.sign (shapeCast S1x2048 s shapeCasts_S2048_S1x2048 (ix2 0 n)) * rowExp (fun j => shapeCast S1x2048 s shapeCasts_S2048_S1x2048 (ix2 0 j)) n) (∑ j, rowExp (fun j => shapeCast S1x2048 s shapeCasts_S2048_S1x2048 (ix2 0 j)) j) = _
  simp only [e1]
  have := Cert.Top.mul_div_mul (Ideal.sign (s (ix1 n))) (rowExp (fun n => s (ix1 n)) n) 1 hz
  rw [mul_one, mul_one] at this
  exact this

end Cert.State

end
-- ==== Proof.LayerRead.lean ====
/- The sources the reference chooses, read at an index. -/
module

public import proofs.«01_k».proof.Proof.LayerOps

@[expose] public section

set_option maxRecDepth 16384

noncomputable section

namespace Cert.Layer

open Cert.ReferenceIdeal Cert.ReferenceIdeal.Gen Idealize.ShloMosaic Idealize.ShloMosaic.TcCoe

/-! ### The chosen sources -/

/-- An index with its last coordinate replaced. -/
theorem along_eq (h : 2 < S2x2048x2048.rank) (b : Fin 2) (j k n : Fin 2048) :
    Shape.Idx.along (s := S2x2048x2048) (ix3 b j k) ⟨2, h⟩ n = ix3 b j n := by
  funext a
  match a with
  | ⟨0, _⟩ => rfl
  | ⟨1, _⟩ => rfl
  | ⟨2, _⟩ => rfl

/-- The comparison of two positions of a row. -/
theorem before_eq (h : 2 < S2x2048x2048.rank) (x : FVec Ideal S2x2048x2048 .f32) (b : Fin 2) (j k : Fin 2048) :
    (fun p p' : Fin 2048 => FloatOps.cmpfTotal (F := Ideal) (φ := .f32) .gt
        (x (Shape.Idx.along (s := S2x2048x2048) (ix3 b j k) ⟨2, h⟩ p))
        (x (Shape.Idx.along (s := S2x2048x2048) (ix3 b j k) ⟨2, h⟩ p')) == 1#1)
      = fun p p' => Ideal.cmpTotal .gt (x (ix3 b j p)) (x (ix3 b j p')) == 1#1 := by
  funext p p'
  rw [along_eq, along_eq]
  rfl

/-- A row's positions, at the index that has position `n` in place of its last coordinate. -/
theorem iota_along (h : 2 < S2x2048x2048.rank) (b : Fin 2) (j k n : Fin 2048) :
    iotaInDim S2x2048x2048 32 ⟨2, h⟩ (Shape.Idx.along (s := S2x2048x2048) (ix3 b j k) ⟨2, h⟩ n) = BitVec.ofNat 32 n.val := by
  rw [along_eq]
  rfl

/-- Which source is chosen at rank `k`. -/
theorem topK_index (x : FVec Ideal S2x2048x2048 .f32) (h : S2x2048x2048.Slices (fun _ => 0) S2x2048x16)
    (b : Fin 2) (j : Fin 2048) (k : Fin 16) :
    (Host.topK S2x2048x16 2 (FloatOps.cmpfTotal (F := Ideal) .gt) x h).2 (ix3 b j k)
      = BitVec.ofNat 32 (Cert.Top.order (fun n => x (ix3 b j n)) (k.castLE (by decide))).val := by
  have he : extractStridedSlice S2x2048x16 (fun _ => 0) (fun i : S2x2048x2048.Idx => i) h (ix3 b j k) = ix3 b j (k.castLE (by decide)) := by
    pointwise
    rfl
  unfold Host.topK Host.sort2
  simp only [dif_pos (show 2 < S2x2048x2048.rank by decide)]
  unfold extractStridedSlice at he ⊢
  simp only at he ⊢
  rw [he]
  refine (iota_along (by decide) b j _ _).trans ?_
  exact congrArg₂ (fun f q => BitVec.ofNat 32 (sortedFrom f q).val) (before_eq (by decide) x b j _) (congrFun he 2)

/-- The magnitude at rank `k`. -/
theorem topK_value (x : FVec Ideal S2x2048x2048 .f32) (h : S2x2048x2048.Slices (fun _ => 0) ⟨3, ![2, 2048, 17]⟩)
    (b : Fin 2) (j : Fin 2048) (k : Fin 17) :
    (Host.topK (⟨3, ![2, 2048, 17]⟩ : Shape) 2 (FloatOps.cmpfTotal (F := Ideal) .gt) x h).1 (ix3 b j k)
      = x (ix3 b j (Cert.Top.order (fun n => x (ix3 b j n)) (k.castLE (by decide)))) := by
  have he : extractStridedSlice (⟨3, ![2, 2048, 17]⟩ : Shape) (fun _ => 0) (fun i : S2x2048x2048.Idx => i) h (ix3 b j k) = ix3 b j (k.castLE (by decide)) := by
    pointwise
    rfl
  unfold Host.topK Host.sort2
  simp only [dif_pos (show 2 < S2x2048x2048.rank by decide)]
  unfold extractStridedSlice at he ⊢
  simp only at he ⊢
  rw [he]
  exact (congrArg x (along_eq (by decide) b j _ _)).trans (congrArg₂ (fun f q => x (ix3 b j (sortedFrom f q))) (before_eq (by decide) x b j _) (congrFun he 2))

/-- A gather along a row. -/
theorem gather_row (x : FVec Ideal S2x2048x2048 .f32) (idx : IVec S2x2048x16x1 32) (b : Fin 2) (j : Fin 2048) (k : Fin 16)
    (n : Fin 2048) (h : (idx (ix4 b j k 0)).toInt.toNat = n.val) :
    Host.gather gather_S2x2048x2048_S2x2048x16x1_S2x2048x16_n_2_01_01_2_3_111 x idx (ix3 b j k) = x (ix3 b j n) := by
  unfold Host.gather
  congr 1
  funext a
  refine Fin.ext ?_
  show GatherDims.start _ (ix3 b j k) idx a + GatherDims.batchCoord _ (ix3 b j k) a + GatherDims.offCoord _ (ix3 b j k) a = _
  rw [GatherDims.offCoord_eq_zero _ _ _ (by revert a; decide)]
  have ha : a = 0 ∨ a = 1 ∨ a = 2 := (by decide : ∀ a : Fin 3, a = 0 ∨ a = 1 ∨ a = 2) a
  rcases ha with rfl | rfl | rfl
  · rw [GatherDims.start_batching _ _ _ _ (by decide)]
    unfold GatherDims.batchCoord
    rw [dif_pos (by decide)]
    simp
    rfl
  · rw [GatherDims.start_batching _ _ _ _ (by decide)]
    unfold GatherDims.batchCoord
    rw [dif_pos (by decide)]
    simp
    rfl
  · rw [GatherDims.batchCoord_eq_zero _ _ _ (by decide)]
    unfold GatherDims.start
    rw [dif_pos (by decide)]
    have hsi : ∀ c, GatherDims.siIdx gather_S2x2048x2048_S2x2048x16x1_S2x2048x16_n_2_01_01_2_3_111 (ix3 b j k) c = ix4 b j k 0 := by
      intro c
      funext q
      match q with
      | ⟨0, _⟩ => rfl
      | ⟨1, _⟩ => rfl
      | ⟨2, _⟩ => rfl
      | ⟨3, _⟩ => exact Subsingleton.elim (α := Fin 1) _ _
    rw [hsi, h]
    have := n.isLt
    show min n.val 2047 + 0 + 0 = n.val
    omega

/-- A gather of rows. -/
theorem gather_rows (x : FVec Ideal S2x2048x768 .f32) (idx : IVec S2x2048x16x1 32) (b : Fin 2) (j : Fin 2048) (k : Fin 16)
    (e : Fin 768) (n : Fin 2048) (h : (idx (ix4 b j k 0)).toInt.toNat = n.val) :
    Host.gather gather_S2x2048x768_S2x2048x16x1_S2x2048x16x768_3_1_0_0_1_3_11768 x idx (ix4 b j k e) = x (ix3 b n e) := by
  unfold Host.gather
  congr 1
  funext a
  refine Fin.ext ?_
  show GatherDims.start _ (ix4 b j k e) idx a + GatherDims.batchCoord _ (ix4 b j k e) a + GatherDims.offCoord _ (ix4 b j k e) a = _
  have ha : a = 0 ∨ a = 1 ∨ a = 2 := (by decide : ∀ a : Fin 3, a = 0 ∨ a = 1 ∨ a = 2) a
  rcases ha with rfl | rfl | rfl
  · rw [GatherDims.offCoord_eq_zero _ _ _ (by decide), GatherDims.start_batching _ _ _ _ (by decide)]
    unfold GatherDims.batchCoord
    rw [dif_pos (by decide)]
    simp
    rfl
  · rw [GatherDims.offCoord_eq_zero _ _ _ (by decide), GatherDims.batchCoord_eq_zero _ _ _ (by decide)]
    unfold GatherDims.start
    rw [dif_pos (by decide)]
    have hsi : ∀ c, GatherDims.siIdx gather_S2x2048x768_S2x2048x16x1_S2x2048x16x768_3_1_0_0_1_3_11768 (ix4 b j k e) c = ix4 b j k 0 := by
      intro c
      funext q
      match q with
      | ⟨0, _⟩ => rfl
      | ⟨1, _⟩ => rfl
      | ⟨2, _⟩ => rfl
      | ⟨3, _⟩ => exact Subsingleton.elim (α := Fin 1) _ _
    rw [hsi, h]
    have := n.isLt
    show min n.val 2047 + 0 + 0 = n.val
    omega
  · rw [GatherDims.batchCoord_eq_zero _ _ _ (by decide)]
    unfold GatherDims.start GatherDims.offCoord
    rw [dif_neg (by decide), dif_pos (by decide)]
    simp

/-- A row position as a word, read as a number. -/
theorem toInt_row (n : Fin 2048) : (BitVec.ofNat 32 n.val).toInt = n.val := by
  have := n.isLt
  rw [BitVec.toInt_eq_toNat_cond, BitVec.toNat_ofNat]
  omega

section Along

variable (i : IVec S2x2048x16 32) (b : Fin 2) (j : Fin 2048) (k : Fin 16) (n : Fin 2048)
  (h : i (ix3 b j k) = BitVec.ofNat 32 n.val)

include h

/-- An index inside the row is not negative, so it stays. -/
theorem wrapped_apply : wrapped i (ix3 b j k) = BitVec.ofNat 32 n.val := by
  pointwise [wrapped]
  rw [h]
  have : (BitVec.ofNat 32 n.val).slt 0#32 = false := by
    simp [BitVec.slt, toInt_row]
  simp [IntOp.cmpi, this, Scalar.select]

/-- The same index as a gather takes it. -/
theorem column_apply : column i (ix4 b j k 0) = BitVec.ofNat 32 n.val := by
  rw [← wrapped_apply i b j k n h]
  pointwise [column]
  done

/-- The element taken along a row is the chosen one. -/
theorem takeAlong_apply (x : FVec Ideal S2x2048x2048 .f32) : takeAlong x i (ix3 b j k) = x (ix3 b j n) := by
  unfold takeAlong
  rw [ValueIdx.select_apply, gather_row x _ b j k n (by rw [column_apply i b j k n h, toInt_row]; rfl)]
  have hc := column_apply i b j k n h
  have hm : ∀ m, m = 1#1 → ∀ y : EReal, Scalar.select m (x (ix3 b j n)) y = x (ix3 b j n) := by
    rintro m rfl y; rfl
  refine hm _ ?_ _
  pointwise
  have hle : ∀ z : Fin 1, IntOp.andi (IntOp.cmpi .sge (column i (ix4 b j k z)) 0#32) (IntOp.cmpi .sle (column i (ix4 b j k z)) 2047#32) = 1#1 := by
    intro z
    rw [Subsingleton.elim z 0, hc]
    have := n.isLt
    have h1 : (0#32).sle (BitVec.ofNat 32 n.val) = true := by simp [BitVec.sle, toInt_row]
    have h2 : (BitVec.ofNat 32 n.val).sle 2047#32 = true := by
      simp only [BitVec.sle, toInt_row]; simp; omega
    simp [IntOp.cmpi, h1, h2, IntOp.andi]
  simp only [hle]
  rfl

/-- The direction gathered is the chosen source's. -/
theorem chosenDirections_row (s : FVec Ideal S2x2048x2048 .f32) (src : FVec Ideal S2x2048x768 .f32) (e : Fin 768)
    (hi : i = chosen s) : chosenDirections s src (ix4 b j k e) = directions src (ix3 b n e) := by
  subst hi
  have hw := wrapped_apply _ b j k n h
  unfold chosenDirections
  refine gather_rows _ _ b j k e n ?_
  pointwise
  rw [hw, toInt_row]
  rfl

end Along

/-! ### What a pass adds -/

/-- A row's magnitudes. -/
def mags (s : FVec Ideal S2x2048x2048 .f32) (b : Fin 2) (j n : Fin 2048) : EReal := max (s (ix3 b j n)) (-s (ix3 b j n))

/-- The source chosen at rank `k`. -/
def source (s : FVec Ideal S2x2048x2048 .f32) (b : Fin 2) (j : Fin 2048) (k : Fin 16) : Fin 2048 :=
  Cert.Top.pick (r := 15) (mags s b j) (by decide) k

/-- The chosen index is the rank's place in the order of the magnitudes. -/
theorem chosen_apply (s : FVec Ideal S2x2048x2048 .f32) (b : Fin 2) (j : Fin 2048) (k : Fin 16) :
    chosen s (ix3 b j k) = BitVec.ofNat 32 (source s b j k).val := by
  unfold chosen
  rw [topK_index]
  rfl

/-- An exponential of a chosen magnitude read at an index. -/
theorem chosenExp_apply (x : FVec Ideal S2x2048x16 .f32) (b : Fin 2) (j : Fin 2048) (k : Fin 16) :
    chosenExp x (ix3 b j k) = Cert.Top.topExp (fun k => max (x (ix3 b j k)) (-x (ix3 b j k))) k := by
  pointwise [chosenExp]
  simp [word_bot, Ideal.absf_def, Cert.Top.topExp]

/-- The weight of the source chosen at rank `k`. -/
theorem weights_apply (s : FVec Ideal S2x2048x2048 .f32) (state : FVec Ideal S2x2048 .f32) (b : Fin 2) (j : Fin 2048) (k : Fin 16) :
    weights s state (ix3 b j k) = Cert.Top.topWeight (fun k => mags s b j (source s b j k))
      (fun k => Ideal.sign (s (ix3 b j (source s b j k)))) (fun k => softplus state (ix2 b (source s b j k))) k := by
  have ht : ∀ (x : FVec Ideal S2x2048x2048 .f32) (k : Fin 16), takeAlong x (chosen s) (ix3 b j k) = x (ix3 b j (source s b j k)) :=
    fun x k => takeAlong_apply _ b j k _ (chosen_apply s b j k) x
  pointwise [weights, chosenExp_apply, ht, gates_apply]
  rfl

/-- What a pass adds to a state: the sum of the weights. -/
theorem stateDelta_apply (s : FVec Ideal S2x2048x2048 .f32) (state : FVec Ideal S2x2048 .f32) (b : Fin 2) (j : Fin 2048) :
    stateDelta s state (ix2 b j) = ∑ k, weights s state (ix3 b j k) := by
  pointwise [stateDelta]
  done

/-- What a pass adds to a value: the weighted sum of the chosen directions. -/
theorem valDelta_apply (s : FVec Ideal S2x2048x2048 .f32) (state : FVec Ideal S2x2048 .f32) (src : FVec Ideal S2x2048x768 .f32)
    (b : Fin 2) (j : Fin 2048) (e : Fin 768) :
    valDelta s state src (ix3 b j e) = ∑ k, weights s state (ix3 b j k) * directions src (ix3 b (source s b j k) e) := by
  have hd : ∀ k : Fin 16, chosenDirections s src (ix4 b j k e) = directions src (ix3 b (source s b j k) e) :=
    fun k => chosenDirections_row _ b j k _ (chosen_apply s b j k) s src e rfl
  pointwise [valDelta, hd]
  done

end Cert.Layer

end
-- ==== Proof.PrepRegion.lean ====
/- The preparing calls' result arrays: the projections, the directions and the gates of the whole arrays. -/
module

public import proofs.«01_k».proof.Proof.LayerOps
public import proofs.«01_k».proof.Proof.Gen.KernelIdeal.Frame.Region1
public import proofs.«01_k».proof.Proof.Gen.KernelIdeal.Frame.Region3
public import proofs.«01_k».proof.Proof.Gen.KernelIdeal.Frame.Region5
public import Idealize.ShloMosaic.Lib.Pipeline.ValueKit

@[expose] public section

set_option maxRecDepth 16384

noncomputable section

namespace Cert.Prep

open Cert.KernelIdeal Cert.KernelIdeal.Gen Idealize.ShloMosaic Idealize.ShloMosaic.TcCoe
open Idealize.ShloMosaic.Pipeline (Dat)

/-- The position that row `j` of block `t` is. -/
def rowOf (t : Fin 2) (j : Fin 1024) : Fin 2048 := ⟨t.val * 1024 + j.val, by omega⟩

/-- The gates of an array of states. -/
def gateArr (S : FVec Ideal S2x2x1x1024 .f32) : FVec Ideal S2x2x1x1024 .f32 := fun i =>
  max (S i) 0 + Ideal.log1p (Ideal.exp (0 - max (S i) (-S i)))

section Blocks

variable (x0 x1 : Vec Ideal S1x1024x768 .f32) (x2 : Vec Ideal S1x1x1x1024 .f32) (x3 x4 : Vec Ideal S768x64 .f32)

/-- A block of queries. -/
theorem out1_5_apply (j : Fin 1024) (r : Fin 64) :
    out1_5 x0 x1 x2 x3 x4 (ix3 0 j r) = ∑ e, x0 (ix3 0 j e) * x3 (ix2 e r) := by
  unfold out1_5
  rw [View.canon_cons_unit_lit _ _ _ (by decide), View.ld_unit_lit _ x0 (by decide), View.ld_unit_lit _ x3 (by decide)]
  pointwise [k1_pay3, k1_pay2]
  done

/-- A block of keys. -/
theorem out1_6_apply (j : Fin 1024) (r : Fin 64) :
    out1_6 x0 x1 x2 x3 x4 (ix3 0 j r) = ∑ e, x1 (ix3 0 j e) * x4 (ix2 e r) := by
  unfold out1_6
  rw [View.canon_cons_unit_lit _ _ _ (by decide), View.ld_unit_lit _ x1 (by decide), View.ld_unit_lit _ x4 (by decide)]
  pointwise [k1_pay4]
  done

/-- A block of directions. -/
theorem out1_7_apply (j : Fin 1024) (e : Fin 768) :
    out1_7 x0 x1 x2 x3 x4 (ix3 0 j e) = Ideal.div (x0 (ix3 0 j e))
      (Ideal.sqrt (∑ e, x0 (ix3 0 j e) * x0 (ix3 0 j e)) + Ideal.ofBits .f32 0x358637BD#32) := by
  unfold out1_7
  rw [View.canon_cons_unit_lit _ _ _ (by decide), View.ld_unit_lit _ x0 (by decide)]
  pointwise [k1_pay5, k1_pay2]
  done

/-- A block of gates. -/
theorem out1_8_apply (j : Fin 1024) :
    out1_8 x0 x1 x2 x3 x4 (ix4 0 0 0 j)
      = max (x2 (ix4 0 0 0 j)) 0 + Ideal.log1p (Ideal.exp (0 - max (x2 (ix4 0 0 0 j)) (-x2 (ix4 0 0 0 j)))) := by
  unfold out1_8
  rw [View.canon_cons_unit_lit _ _ _ (by decide), View.ld_unit_lit _ x2 (by decide)]
  pointwise [k1_pay1, k1_pay6]
  rfl

/-- The preparing calls share one body: output 5. -/
theorem out3_5_eq : out3_5 (F := Ideal) = out1_5 := rfl
/-- The preparing calls share one body: output 6. -/
theorem out3_6_eq : out3_6 (F := Ideal) = out1_6 := rfl
/-- The preparing calls share one body: output 7. -/
theorem out3_7_eq : out3_7 (F := Ideal) = out1_7 := rfl
/-- The preparing calls share one body: output 8. -/
theorem out3_8_eq : out3_8 (F := Ideal) = out1_8 := rfl
/-- The preparing calls share one body: output 5. -/
theorem out5_5_eq : out5_5 (F := Ideal) = out1_5 := rfl
/-- The preparing calls share one body: output 6. -/
theorem out5_6_eq : out5_6 (F := Ideal) = out1_6 := rfl
/-- The preparing calls share one body: output 7. -/
theorem out5_7_eq : out5_7 (F := Ideal) = out1_7 := rfl
/-- The preparing calls share one body: output 8. -/
theorem out5_8_eq : out5_8 (F := Ideal) = out1_8 := rfl

variable (X0 X1 : FVec Ideal S2x2048x768 .f32) (X2 : FVec Ideal S2x2x1x1024 .f32) (X3 X4 : FVec Ideal S768x64 .f32) (b t : Fin 2)

/-- A block of queries is the array's. -/
theorem query_point (h0 : ∀ (j : Fin 1024) (e : Fin 768), x0 (ix3 0 j e) = X0 (ix3 b (rowOf t j) e))
    (h3 : ∀ (e : Fin 768) (r : Fin 64), x3 (ix2 e r) = X3 (ix2 e r))
    (y : S1x1024x64.Idx) (i : S2x2048x64.Idx) (hb : (i 0 : ℕ) = b.val) (ht : (i 1 : ℕ) = t.val * 1024 + (y 1 : ℕ))
    (hy : (i 2 : ℕ) = (y 2 : ℕ)) : out1_5 x0 x1 x2 x3 x4 y = Cert.Layer.proj X0 X3 i := by
  idx_vars y
  idx_vars i
  obtain rfl : i0 = b := Fin.ext hb
  obtain rfl : i1 = rowOf t y1 := Fin.ext ht
  obtain rfl : i2 = y2 := Fin.ext hy
  rw [Subsingleton.elim y0 0, out1_5_apply]
  simp only [h0, h3]
  exact (Cert.Layer.proj_apply X0 X3 i0 (rowOf t y1) i2).symm

/-- A block of keys is the array's. -/
theorem key_point (h1 : ∀ (j : Fin 1024) (e : Fin 768), x1 (ix3 0 j e) = X1 (ix3 b (rowOf t j) e))
    (h4 : ∀ (e : Fin 768) (r : Fin 64), x4 (ix2 e r) = X4 (ix2 e r))
    (y : S1x1024x64.Idx) (i : S2x2048x64.Idx) (hb : (i 0 : ℕ) = b.val) (ht : (i 1 : ℕ) = t.val * 1024 + (y 1 : ℕ))
    (hy : (i 2 : ℕ) = (y 2 : ℕ)) : out1_6 x0 x1 x2 x3 x4 y = Cert.Layer.proj X1 X4 i := by
  idx_vars y
  idx_vars i
  obtain rfl : i0 = b := Fin.ext hb
  obtain rfl : i1 = rowOf t y1 := Fin.ext ht
  obtain rfl : i2 = y2 := Fin.ext hy
  rw [Subsingleton.elim y0 0, out1_6_apply]
  simp only [h1, h4]
  exact (Cert.Layer.proj_apply X1 X4 i0 (rowOf t y1) i2).symm

/-- A block of directions is the array's. -/
theorem direction_point (h0 : ∀ (j : Fin 1024) (e : Fin 768), x0 (ix3 0 j e) = X0 (ix3 b (rowOf t j) e))
    (y : S1x1024x768.Idx) (i : S2x2048x768.Idx) (hb : (i 0 : ℕ) = b.val) (ht : (i 1 : ℕ) = t.val * 1024 + (y 1 : ℕ))
    (hy : (i 2 : ℕ) = (y 2 : ℕ)) : out1_7 x0 x1 x2 x3 x4 y = Cert.Layer.directions X0 i := by
  idx_vars y
  idx_vars i
  obtain rfl : i0 = b := Fin.ext hb
  obtain rfl : i1 = rowOf t y1 := Fin.ext ht
  obtain rfl : i2 = y2 := Fin.ext hy
  rw [Subsingleton.elim y0 0, out1_7_apply]
  simp only [h0]
  exact (Cert.Layer.directions_apply X0 i0 (rowOf t y1) i2).symm

/-- A block of gates is the array's. -/
theorem gate_point (h2 : ∀ j : Fin 1024, x2 (ix4 0 0 0 j) = X2 (ix4 b t 0 j))
    (y : S1x1x1x1024.Idx) (i : S2x2x1x1024.Idx) (hb : (i 0 : ℕ) = b.val) (ht : (i 1 : ℕ) = t.val) (hy : (i 3 : ℕ) = (y 3 : ℕ)) :
    out1_8 x0 x1 x2 x3 x4 y = gateArr X2 i := by
  idx_vars y
  idx_vars i
  obtain rfl : i0 = b := Fin.ext hb
  obtain rfl : i1 = t := Fin.ext ht
  obtain rfl : i3 = y3 := Fin.ext hy
  rw [Subsingleton.elim y0 0, Subsingleton.elim y1 0, Subsingleton.elim y2 0, Subsingleton.elim i2 0, out1_8_apply]
  simp only [h2]
  rfl

end Blocks

variable (V : (c : Dev nD) → (b : Ref sig .tc) → Buf (Elt Ideal) ((c : Thread nD τ).loc b)) (c : Dev nD)

/-! ### The first preparing call -/

/-- The block indices of its windows. -/
theorem idx1 : ∀ t : Fin cfg1.N, win1_0.index t = ![(grid1.coords t 0).val, (grid1.coords t 1).val, 0]
    ∧ win1_1.index t = ![(grid1.coords t 0).val, (grid1.coords t 1).val, 0]
    ∧ win1_2.index t = ![(grid1.coords t 0).val, (grid1.coords t 1).val, 0, 0]
    ∧ win1_3.index t = ![0, 0] ∧ win1_4.index t = ![0, 0]
    ∧ win1_5.index t = ![(grid1.coords t 0).val, (grid1.coords t 1).val, 0]
    ∧ win1_6.index t = ![(grid1.coords t 0).val, (grid1.coords t 1).val, 0]
    ∧ win1_7.index t = ![(grid1.coords t 0).val, (grid1.coords t 1).val, 0]
    ∧ win1_8.index t = ![(grid1.coords t 0).val, (grid1.coords t 1).val, 0, 0] :=
  (by decide +kernel : ∀ t : Fin grid1.N, _)

/-- Its source rows. -/
theorem block1_0 (t : Fin cfg1.N) (j : Fin 1024) (e : Fin 768) :
    iblk1 V c 0 t (ix3 0 j e : S1x1024x768.Idx) = (V c main_arg1 : FVec Ideal S2x2048x768 .f32) (ix3 (grid1.coords t 0) (rowOf (grid1.coords t 1) j) e) := by
  obtain ⟨e0, -⟩ := idx1 t
  blk_ext! [iblk1, e0]
  rfl

/-- Its destination rows. -/
theorem block1_1 (t : Fin cfg1.N) (j : Fin 1024) (e : Fin 768) :
    iblk1 V c 1 t (ix3 0 j e : S1x1024x768.Idx) = (V c main_v39 : FVec Ideal S2x2048x768 .f32) (ix3 (grid1.coords t 0) (rowOf (grid1.coords t 1) j) e) := by
  obtain ⟨-, e1, -⟩ := idx1 t
  blk_ext! [iblk1, e1]
  rfl

/-- Its states. -/
theorem block1_2 (t : Fin cfg1.N) (j : Fin 1024) :
    iblk1 V c 2 t (ix4 0 0 0 j : S1x1x1x1024.Idx) = (V c main_v40 : FVec Ideal S2x2x1x1024 .f32) (ix4 (grid1.coords t 0) (grid1.coords t 1) 0 j) := by
  obtain ⟨-, -, e2, -⟩ := idx1 t
  blk_ext! [iblk1, e2]

/-- Its matrix for the sources. -/
theorem block1_3 (t : Fin cfg1.N) (e : Fin 768) (r : Fin 64) :
    iblk1 V c 3 t (ix2 e r : S768x64.Idx) = (V c main_arg4 : FVec Ideal S768x64 .f32) (ix2 e r) := by
  obtain ⟨-, -, -, e3, -⟩ := idx1 t
  blk_ext! [iblk1, e3]

/-- Its matrix for the destinations. -/
theorem block1_4 (t : Fin cfg1.N) (e : Fin 768) (r : Fin 64) :
    iblk1 V c 4 t (ix2 e r : S768x64.Idx) = (V c main_arg5 : FVec Ideal S768x64 .f32) (ix2 e r) := by
  obtain ⟨-, -, -, -, e4, -⟩ := idx1 t
  blk_ext! [iblk1, e4]

/-- Its queries. -/
theorem arr1_5 : (dat1 V c).arrAt 5 cfg1.N = Cert.Layer.proj (F := Ideal) (V c main_arg1) (V c main_arg4) := by
  refine (dat1 V c).arrAt_eq_of_covers 5 _ (by decide +kernel) fun t _ y => ?_
  obtain ⟨-, -, -, -, -, e5, -⟩ := idx1 t
  blk_simp
  rw [after1_5]
  exact query_point _ _ _ _ _ _ _ (grid1.coords t 0) (grid1.coords t 1) (block1_0 V c t) (block1_3 V c t) y _ (by blk_simp [e5]) (by blk_simp [e5]) (by blk_simp [e5])

/-- Its keys. -/
theorem arr1_6 : (dat1 V c).arrAt 6 cfg1.N = Cert.Layer.proj (F := Ideal) (V c main_v39) (V c main_arg5) := by
  refine (dat1 V c).arrAt_eq_of_covers 6 _ (by decide +kernel) fun t _ y => ?_
  obtain ⟨-, -, -, -, -, -, e6, -⟩ := idx1 t
  blk_simp
  rw [after1_6]
  exact key_point _ _ _ _ _ _ _ (grid1.coords t 0) (grid1.coords t 1) (block1_1 V c t) (block1_4 V c t) y _ (by blk_simp [e6]) (by blk_simp [e6]) (by blk_simp [e6])

/-- Its directions. -/
theorem arr1_7 : (dat1 V c).arrAt 7 cfg1.N = Cert.Layer.directions (F := Ideal) (V c main_arg1) := by
  refine (dat1 V c).arrAt_eq_of_covers 7 _ (by decide +kernel) fun t _ y => ?_
  obtain ⟨-, -, -, -, -, -, -, e7, -⟩ := idx1 t
  blk_simp
  rw [after1_7]
  exact direction_point _ _ _ _ _ _ (grid1.coords t 0) (grid1.coords t 1) (block1_0 V c t) y _ (by blk_simp [e7]) (by blk_simp [e7]) (by blk_simp [e7])

/-- Its gates. -/
theorem arr1_8 : (dat1 V c).arrAt 8 cfg1.N = gateArr (V c main_v40) := by
  refine (dat1 V c).arrAt_eq_of_covers 8 _ (by decide +kernel) fun t _ y => ?_
  obtain ⟨-, -, -, -, -, -, -, -, e8⟩ := idx1 t
  blk_simp
  rw [after1_8]
  exact gate_point _ _ _ _ _ _ (grid1.coords t 0) (grid1.coords t 1) (block1_2 V c t) y _ (by blk_simp [e8]) (by blk_simp [e8]) (by blk_simp [e8])

/-! ### The second preparing call -/

/-- The block indices of its windows. -/
theorem idx3 : ∀ t : Fin cfg3.N, win3_0.index t = ![(grid3.coords t 0).val, (grid3.coords t 1).val, 0]
    ∧ win3_1.index t = ![(grid3.coords t 0).val, (grid3.coords t 1).val, 0]
    ∧ win3_2.index t = ![(grid3.coords t 0).val, (grid3.coords t 1).val, 0, 0]
    ∧ win3_3.index t = ![0, 0] ∧ win3_4.index t = ![0, 0]
    ∧ win3_5.index t = ![(grid3.coords t 0).val, (grid3.coords t 1).val, 0]
    ∧ win3_6.index t = ![(grid3.coords t 0).val, (grid3.coords t 1).val, 0]
    ∧ win3_7.index t = ![(grid3.coords t 0).val, (grid3.coords t 1).val, 0]
    ∧ win3_8.index t = ![(grid3.coords t 0).val, (grid3.coords t 1).val, 0, 0] :=
  (by decide +kernel : ∀ t : Fin grid3.N, _)

/-- Its source rows. -/
theorem block3_0 (t : Fin cfg3.N) (j : Fin 1024) (e : Fin 768) :
    iblk3 V c 0 t (ix3 0 j e : S1x1024x768.Idx) = (V c main_v83 : FVec Ideal S2x2048x768 .f32) (ix3 (grid3.coords t 0) (rowOf (grid3.coords t 1) j) e) := by
  obtain ⟨e0, -⟩ := idx3 t
  blk_ext! [iblk3, e0]
  rfl

/-- Its destination rows. -/
theorem block3_1 (t : Fin cfg3.N) (j : Fin 1024) (e : Fin 768) :
    iblk3 V c 1 t (ix3 0 j e : S1x1024x768.Idx) = (V c main_v83 : FVec Ideal S2x2048x768 .f32) (ix3 (grid3.coords t 0) (rowOf (grid3.coords t 1) j) e) := by
  obtain ⟨-, e1, -⟩ := idx3 t
  blk_ext! [iblk3, e1]
  rfl

/-- Its states. -/
theorem block3_2 (t : Fin cfg3.N) (j : Fin 1024) :
    iblk3 V c 2 t (ix4 0 0 0 j : S1x1x1x1024.Idx) = (V c main_v84 : FVec Ideal S2x2x1x1024 .f32) (ix4 (grid3.coords t 0) (grid3.coords t 1) 0 j) := by
  obtain ⟨-, -, e2, -⟩ := idx3 t
  blk_ext! [iblk3, e2]

/-- Its matrix for the sources. -/
theorem block3_3 (t : Fin cfg3.N) (e : Fin 768) (r : Fin 64) :
    iblk3 V c 3 t (ix2 e r : S768x64.Idx) = (V c main_arg8 : FVec Ideal S768x64 .f32) (ix2 e r) := by
  obtain ⟨-, -, -, e3, -⟩ := idx3 t
  blk_ext! [iblk3, e3]

/-- Its matrix for the destinations. -/
theorem block3_4 (t : Fin cfg3.N) (e : Fin 768) (r : Fin 64) :
    iblk3 V c 4 t (ix2 e r : S768x64.Idx) = (V c main_arg9 : FVec Ideal S768x64 .f32) (ix2 e r) := by
  obtain ⟨-, -, -, -, e4, -⟩ := idx3 t
  blk_ext! [iblk3, e4]

/-- Its queries. -/
theorem arr3_5 : (dat3 V c).arrAt 5 cfg3.N = Cert.Layer.proj (F := Ideal) (V c main_v83) (V c main_arg8) := by
  refine (dat3 V c).arrAt_eq_of_covers 5 _ (by decide +kernel) fun t _ y => ?_
  obtain ⟨-, -, -, -, -, e5, -⟩ := idx3 t
  blk_simp
  rw [after3_5, out3_5_eq]
  exact query_point _ _ _ _ _ _ _ (grid3.coords t 0) (grid3.coords t 1) (block3_0 V c t) (block3_3 V c t) y _ (by blk_simp [e5]) (by blk_simp [e5]) (by blk_simp [e5])

/-- Its keys. -/
theorem arr3_6 : (dat3 V c).arrAt 6 cfg3.N = Cert.Layer.proj (F := Ideal) (V c main_v83) (V c main_arg9) := by
  refine (dat3 V c).arrAt_eq_of_covers 6 _ (by decide +kernel) fun t _ y => ?_
  obtain ⟨-, -, -, -, -, -, e6, -⟩ := idx3 t
  blk_simp
  rw [after3_6, out3_6_eq]
  exact key_point _ _ _ _ _ _ _ (grid3.coords t 0) (grid3.coords t 1) (block3_1 V c t) (block3_4 V c t) y _ (by blk_simp [e6]) (by blk_simp [e6]) (by blk_simp [e6])

/-- Its directions. -/
theorem arr3_7 : (dat3 V c).arrAt 7 cfg3.N = Cert.Layer.directions (F := Ideal) (V c main_v83) := by
  refine (dat3 V c).arrAt_eq_of_covers 7 _ (by decide +kernel) fun t _ y => ?_
  obtain ⟨-, -, -, -, -, -, -, e7, -⟩ := idx3 t
  blk_simp
  rw [after3_7, out3_7_eq]
  exact direction_point _ _ _ _ _ _ (grid3.coords t 0) (grid3.coords t 1) (block3_0 V c t) y _ (by blk_simp [e7]) (by blk_simp [e7]) (by blk_simp [e7])

/-- Its gates. -/
theorem arr3_8 : (dat3 V c).arrAt 8 cfg3.N = gateArr (V c main_v84) := by
  refine (dat3 V c).arrAt_eq_of_covers 8 _ (by decide +kernel) fun t _ y => ?_
  obtain ⟨-, -, -, -, -, -, -, -, e8⟩ := idx3 t
  blk_simp
  rw [after3_8, out3_8_eq]
  exact gate_point _ _ _ _ _ _ (grid3.coords t 0) (grid3.coords t 1) (block3_2 V c t) y _ (by blk_simp [e8]) (by blk_simp [e8]) (by blk_simp [e8])

/-! ### The third preparing call -/

/-- The block indices of its windows. -/
theorem idx5 : ∀ t : Fin cfg5.N, win5_0.index t = ![(grid5.coords t 0).val, (grid5.coords t 1).val, 0]
    ∧ win5_1.index t = ![(grid5.coords t 0).val, (grid5.coords t 1).val, 0]
    ∧ win5_2.index t = ![(grid5.coords t 0).val, (grid5.coords t 1).val, 0, 0]
    ∧ win5_3.index t = ![0, 0] ∧ win5_4.index t = ![0, 0]
    ∧ win5_5.index t = ![(grid5.coords t 0).val, (grid5.coords t 1).val, 0]
    ∧ win5_6.index t = ![(grid5.coords t 0).val, (grid5.coords t 1).val, 0]
    ∧ win5_7.index t = ![(grid5.coords t 0).val, (grid5.coords t 1).val, 0]
    ∧ win5_8.index t = ![(grid5.coords t 0).val, (grid5.coords t 1).val, 0, 0] :=
  (by decide +kernel : ∀ t : Fin grid5.N, _)

/-- Its source rows. -/
theorem block5_0 (t : Fin cfg5.N) (j : Fin 1024) (e : Fin 768) :
    iblk5 V c 0 t (ix3 0 j e : S1x1024x768.Idx) = (V c main_v126 : FVec Ideal S2x2048x768 .f32) (ix3 (grid5.coords t 0) (rowOf (grid5.coords t 1) j) e) := by
  obtain ⟨e0, -⟩ := idx5 t
  blk_ext! [iblk5, e0]
  rfl

/-- Its destination rows. -/
theorem block5_1 (t : Fin cfg5.N) (j : Fin 1024) (e : Fin 768) :
    iblk5 V c 1 t (ix3 0 j e : S1x1024x768.Idx) = (V c main_v144 : FVec Ideal S2x2048x768 .f32) (ix3 (grid5.coords t 0) (rowOf (grid5.coords t 1) j) e) := by
  obtain ⟨-, e1, -⟩ := idx5 t
  blk_ext! [iblk5, e1]
  rfl

/-- Its states. -/
theorem block5_2 (t : Fin cfg5.N) (j : Fin 1024) :
    iblk5 V c 2 t (ix4 0 0 0 j : S1x1x1x1024.Idx) = (V c main_v145 : FVec Ideal S2x2x1x1024 .f32) (ix4 (grid5.coords t 0) (grid5.coords t 1) 0 j) := by
  obtain ⟨-, -, e2, -⟩ := idx5 t
  blk_ext! [iblk5, e2]

/-- Its matrix for the sources. -/
theorem block5_3 (t : Fin cfg5.N) (e : Fin 768) (r : Fin 64) :
    iblk5 V c 3 t (ix2 e r : S768x64.Idx) = (V c main_arg6 : FVec Ideal S768x64 .f32) (ix2 e r) := by
  obtain ⟨-, -, -, e3, -⟩ := idx5 t
  blk_ext! [iblk5, e3]

/-- Its matrix for the destinations. -/
theorem block5_4 (t : Fin cfg5.N) (e : Fin 768) (r : Fin 64) :
    iblk5 V c 4 t (ix2 e r : S768x64.Idx) = (V c main_arg7 : FVec Ideal S768x64 .f32) (ix2 e r) := by
  obtain ⟨-, -, -, -, e4, -⟩ := idx5 t
  blk_ext! [iblk5, e4]

/-- Its queries. -/
theorem arr5_5 : (dat5 V c).arrAt 5 cfg5.N = Cert.Layer.proj (F := Ideal) (V c main_v126) (V c main_arg6) := by
  refine (dat5 V c).arrAt_eq_of_covers 5 _ (by decide +kernel) fun t _ y => ?_
  obtain ⟨-, -, -, -, -, e5, -⟩ := idx5 t
  blk_simp
  rw [after5_5, out5_5_eq]
  exact query_point _ _ _ _ _ _ _ (grid5.coords t 0) (grid5.coords t 1) (block5_0 V c t) (block5_3 V c t) y _ (by blk_simp [e5]) (by blk_simp [e5]) (by blk_simp [e5])

/-- Its keys. -/
theorem arr5_6 : (dat5 V c).arrAt 6 cfg5.N = Cert.Layer.proj (F := Ideal) (V c main_v144) (V c main_arg7) := by
  refine (dat5 V c).arrAt_eq_of_covers 6 _ (by decide +kernel) fun t _ y => ?_
  obtain ⟨-, -, -, -, -, -, e6, -⟩ := idx5 t
  blk_simp
  rw [after5_6, out5_6_eq]
  exact key_point _ _ _ _ _ _ _ (grid5.coords t 0) (grid5.coords t 1) (block5_1 V c t) (block5_4 V c t) y _ (by blk_simp [e6]) (by blk_simp [e6]) (by blk_simp [e6])

/-- Its directions. -/
theorem arr5_7 : (dat5 V c).arrAt 7 cfg5.N = Cert.Layer.directions (F := Ideal) (V c main_v126) := by
  refine (dat5 V c).arrAt_eq_of_covers 7 _ (by decide +kernel) fun t _ y => ?_
  obtain ⟨-, -, -, -, -, -, -, e7, -⟩ := idx5 t
  blk_simp
  rw [after5_7, out5_7_eq]
  exact direction_point _ _ _ _ _ _ (grid5.coords t 0) (grid5.coords t 1) (block5_0 V c t) y _ (by blk_simp [e7]) (by blk_simp [e7]) (by blk_simp [e7])

/-- Its gates. -/
theorem arr5_8 : (dat5 V c).arrAt 8 cfg5.N = gateArr (V c main_v145) := by
  refine (dat5 V c).arrAt_eq_of_covers 8 _ (by decide +kernel) fun t _ y => ?_
  obtain ⟨-, -, -, -, -, -, -, -, e8⟩ := idx5 t
  blk_simp
  rw [after5_8, out5_8_eq]
  exact gate_point _ _ _ _ _ _ (grid5.coords t 0) (grid5.coords t 1) (block5_2 V c t) y _ (by blk_simp [e8]) (by blk_simp [e8]) (by blk_simp [e8])

end Cert.Prep

end
-- ==== Proof.RouteEq.lean ====
/- A routing pass of the kernel adds what the reference's pass adds, wherever the greatest magnitudes are told apart. -/
module

public import proofs.«01_k».proof.Proof.LayerRead
public import proofs.«01_k».proof.Proof.PrepRegion
public import proofs.«01_k».proof.Proof.RouteRegion

@[expose] public section

set_option maxRecDepth 16384

noncomputable section

namespace Cert.Route

open Cert.KernelIdeal Cert.KernelIdeal.Gen Idealize.ShloMosaic Idealize.ShloMosaic.TcCoe
open Cert.Layer (scores proj directions softplus mags source stateDelta valDelta)

/-- What the precondition says of a pass' scores: along every row the first sixteen magnitudes are finite, and each is
    greater than the next. -/
structure Apart (s : FVec Ideal Cert.ReferenceIdeal.S2x2048x2048 .f32) : Prop where
  descends : ∀ b j (k : Fin 16), mags s b j (Cert.Top.order (mags s b j) ⟨k.val + 1, Nat.lt_of_le_of_lt k.isLt (by decide)⟩)
    < mags s b j (Cert.Top.order (mags s b j) (k.castLE (by decide)))
  finite : ∀ b j (k : Fin 16), mags s b j (Cert.Top.order (mags s b j) (k.castLE (by decide))) < ⊤

variable (src dst : FVec Ideal S2x2048x768 .f32) (wq wk : FVec Ideal S768x64 .f32) (state : FVec Ideal S2x2048 .f32)

/-- The gates in rows, of a state. -/
def gateRows : FVec Ideal S2x1x2048 .f32 :=
  shapeCast S2x1x2048 (Cert.Prep.gateArr (shapeCast S2x2x1x1024 state shapeCasts_S2x2048_S2x2x1x1024))
    shapeCasts_S2x2x1x1024_S2x1x2048

/-- A gate in a row is the softplus of the state at its position. -/
theorem gateRows_apply (b : Fin 2) (n : Fin 2048) : gateRows state (ix3 b 0 n) = softplus (F := Ideal) state (ix2 b n) := by
  have e1 : gateRows state (ix3 b 0 n)
      = Cert.Prep.gateArr (shapeCast S2x2x1x1024 state shapeCasts_S2x2048_S2x2x1x1024)
          (ix4 b ⟨n.val / 1024, by omega⟩ 0 ⟨n.val % 1024, by omega⟩) := by
    unfold gateRows
    pointwise []
  have e2 : shapeCast S2x2x1x1024 state shapeCasts_S2x2048_S2x2x1x1024 (ix4 b ⟨n.val / 1024, by omega⟩ 0 ⟨n.val % 1024, by omega⟩)
      = state (ix2 b n) := by
    pointwise []
  rw [e1, Cert.Layer.softplus_apply]
  unfold Cert.Prep.gateArr
  rw [e2]

/-- The kernel's weights are those of the scores. -/
theorem arrWeight_eq (b : Fin 2) (j n : Fin 2048) :
    Cert.Chunk.arrWeight (proj (F := Ideal) dst wk) (proj (F := Ideal) src wq) (gateRows state) b j n
      = Cert.Top.weight Cert.Chunk.low (mags (scores (F := Ideal) src dst wq wk) b j)
          (fun n => Ideal.sign (scores (F := Ideal) src dst wq wk (ix3 b j n)))
          (fun n => softplus (F := Ideal) state (ix2 b n)) 15 n := by
  have e : Cert.Chunk.rowScore (fun r => proj (F := Ideal) dst wk (ix3 b j r)) (fun n r => proj (F := Ideal) src wq (ix3 b n r))
      = fun n => scores (F := Ideal) src dst wq wk (ix3 b j n) := by
    funext n
    rw [Cert.Layer.scores_apply]
    rfl
  unfold Cert.Chunk.arrWeight Cert.Chunk.rowWeight
  rw [e]
  simp only [gateRows_apply]
  rfl

/-- Magnitudes are not negative. -/
theorem mags_nonneg (s : FVec Ideal Cert.ReferenceIdeal.S2x2048x2048 .f32) (b : Fin 2) (j n : Fin 2048) : 0 ≤ mags s b j n := by
  unfold mags
  rcases le_total 0 (s (ix3 b j n)) with h0 | h0
  · exact le_max_of_le_left h0
  · exact le_max_of_le_right (by simpa using EReal.neg_le_neg_iff.mpr h0)

/-- The kernel's weights summed are the reference's weights summed. -/
theorem sum_state (s : FVec Ideal Cert.ReferenceIdeal.S2x2048x2048 .f32) (h : Apart s) (b : Fin 2) (j : Fin 2048) :
    ∑ n, Cert.Top.weight Cert.Chunk.low (mags s b j) (fun n => Ideal.sign (s (ix3 b j n)))
          (fun n => softplus (F := Ideal) state (ix2 b n)) 15 n
      = stateDelta (F := Ideal) s state (ix2 b j) := by
  rw [Cert.Layer.stateDelta_apply, Finset.sum_congr rfl fun k _ => Cert.Layer.weights_apply s state b j k]
  exact Cert.Top.sum_weight_one (r := 15) Cert.Chunk.low (mags s b j) (by decide) (fun n => Cert.Chunk.low_le _ (mags_nonneg s b j n))
    (h.descends b j) (mags_nonneg s b j) (h.finite b j) (fun n => Ideal.sign (s (ix3 b j n)))
    (fun n => softplus (F := Ideal) state (ix2 b n))

/-- The kernel's weights summed against the directions are the reference's. -/
theorem sum_val (s : FVec Ideal Cert.ReferenceIdeal.S2x2048x2048 .f32) (h : Apart s) (b : Fin 2) (j : Fin 2048) (e : Fin 768) :
    ∑ n, Cert.Top.weight Cert.Chunk.low (mags s b j) (fun n => Ideal.sign (s (ix3 b j n)))
          (fun n => softplus (F := Ideal) state (ix2 b n)) 15 n * directions (F := Ideal) src (ix3 b n e)
      = valDelta (F := Ideal) s state src (ix3 b j e) := by
  rw [Cert.Layer.valDelta_apply, Finset.sum_congr rfl fun k _ => congrArg (· * _) (Cert.Layer.weights_apply s state b j k)]
  exact Cert.Top.sum_weight (r := 15) Cert.Chunk.low (mags s b j) (by decide) (fun n => Cert.Chunk.low_le _ (mags_nonneg s b j n))
    (h.descends b j) (mags_nonneg s b j) (h.finite b j) (fun n => Ideal.sign (s (ix3 b j n)))
    (fun n => softplus (F := Ideal) state (ix2 b n)) (fun n => directions (F := Ideal) src (ix3 b n e))

variable (h : Apart (scores (F := Ideal) src dst wq wk))
include h

/-- The state a pass adds. -/
theorem state_eq :
    shapeCast S2x2048 (Cert.Chunk.stateArr (proj (F := Ideal) dst wk) (proj (F := Ideal) src wq) (gateRows state)) shapeCasts_S2x2x1x1024_S2x2048
      = stateDelta (F := Ideal) (scores (F := Ideal) src dst wq wk) state := by
  funext i
  idx_vars i
  revert i0 i1
  intro b j
  have e1 : shapeCast S2x2048 (Cert.Chunk.stateArr (proj (F := Ideal) dst wk) (proj (F := Ideal) src wq) (gateRows state)) shapeCasts_S2x2x1x1024_S2x2048 (ix2 b j)
      = Cert.Chunk.stateArr (proj (F := Ideal) dst wk) (proj (F := Ideal) src wq) (gateRows state)
          (ix4 b ⟨j.val / 1024, by omega⟩ 0 ⟨j.val % 1024, by omega⟩) := by
    pointwise []
  have e2 : Cert.Chunk.dstOf (⟨j.val / 1024, by omega⟩ : Fin 2) ⟨j.val % 1024, by omega⟩ = j := by
    apply Fin.ext
    simp only [Cert.Chunk.dstOf]
    omega
  have e3 : Cert.Chunk.stateArr (proj (F := Ideal) dst wk) (proj (F := Ideal) src wq) (gateRows state)
          (ix4 b ⟨j.val / 1024, by omega⟩ 0 ⟨j.val % 1024, by omega⟩)
      = ∑ n, Cert.Chunk.arrWeight (proj (F := Ideal) dst wk) (proj (F := Ideal) src wq) (gateRows state) b
          (Cert.Chunk.dstOf (⟨j.val / 1024, by omega⟩ : Fin 2) ⟨j.val % 1024, by omega⟩) n := rfl
  rw [e1, e3, e2, Finset.sum_congr rfl fun n _ => arrWeight_eq src dst wq wk state b j n]
  exact sum_state state _ h b j

/-- The values a pass adds. -/
theorem val_eq :
    Cert.Chunk.valArr (proj (F := Ideal) dst wk) (proj (F := Ideal) src wq) (gateRows state) (directions (F := Ideal) src)
      = valDelta (F := Ideal) (scores (F := Ideal) src dst wq wk) state src := by
  funext i
  idx_vars i
  revert i0 i1 i2
  intro b j e
  have e3 : Cert.Chunk.valArr (proj (F := Ideal) dst wk) (proj (F := Ideal) src wq) (gateRows state) (directions (F := Ideal) src) (ix3 b j e)
      = ∑ n, Cert.Chunk.arrWeight (proj (F := Ideal) dst wk) (proj (F := Ideal) src wq) (gateRows state) b j n
          * directions (F := Ideal) src (ix3 b n e) := rfl
  rw [e3, Finset.sum_congr rfl fun n _ => congrArg (· * _) (arrWeight_eq src dst wq wk state b j n)]
  exact sum_val src state _ h b j e

end Cert.Route

end
-- ==== Proof.KernelValue.lean ====
/- The kernel's six results: what its run leaves is the layer of its arguments. -/
module

public import proofs.«01_k».proof.Proof.HostLines
public import proofs.«01_k».proof.Proof.StateRegion
public import proofs.«01_k».proof.Proof.RouteEq
public import proofs.«01_k».proof.Proof.Gen.KernelIdeal.Frame.Fold0

@[expose] public section

set_option maxRecDepth 16384

noncomputable section

namespace Cert.KernelIdeal.Results

open Cert.KernelIdeal Cert.KernelIdeal.Gen Idealize.ShloMosaic Idealize.ShloMosaic.TcCoe
open Idealize.ShloMosaic.StableHlo Idealize.SL.Sem
open Cert.Layer

variable (m : (ℓ : Loc nD τ sig) → Buf (Elt Ideal) ℓ) (ρ : Dev nD → PrngReg) (c : Dev nD)

/-- The kernel's arguments. -/
def args : Args Ideal where
  bState := m ((c : Thread nD τ).loc main_arg0)
  bVal := m ((c : Thread nD τ).loc main_arg1)
  initState := m ((c : Thread nD τ).loc main_arg2)
  initVal := m ((c : Thread nD τ).loc main_arg3)
  bkWq := m ((c : Thread nD τ).loc main_arg4)
  bkWk := m ((c : Thread nD τ).loc main_arg5)
  kbWq := m ((c : Thread nD τ).loc main_arg6)
  kbWk := m ((c : Thread nD τ).loc main_arg7)
  ppWq := m ((c : Thread nD τ).loc main_arg8)
  ppWk := m ((c : Thread nD τ).loc main_arg9)
  kvG := m ((c : Thread nD τ).loc main_arg10)
  kvB := m ((c : Thread nD τ).loc main_arg11)
  brG := m ((c : Thread nD τ).loc main_arg12)
  brB := m ((c : Thread nD τ).loc main_arg13)
  pnG := m ((c : Thread nD τ).loc main_arg14)
  pnB := m ((c : Thread nD τ).loc main_arg15)

/-- Normalizations of equal arrays are equal. -/
theorem ln_congr {x x' : FVec Ideal S2x2048x768 .f32} {g g' b b' : FVec Ideal S768 .f32} (hx : x = x') (hg : g = g') (hb : b = b') :
    ln (F := Ideal) x g b = ln (F := Ideal) x' g' b' := by
  rw [hx, hg, hb]

/-- Projections of equal arrays are equal. -/
theorem proj_congr {x x' : FVec Ideal S2x2048x768 .f32} {w w' : FVec Ideal S768x64 .f32} (hx : x = x') (hw : w = w') :
    proj (F := Ideal) x w = proj (F := Ideal) x' w' := by
  rw [hx, hw]

/-- A routing call's states, of arrays that are a pass' keys, queries and gates. -/
theorem pass_state {src dst : FVec Ideal S2x2048x768 .f32} {wq wk : FVec Ideal S768x64 .f32} {state : FVec Ideal S2x2048 .f32}
    {K Q : FVec Ideal S2x2048x64 .f32} {G : FVec Ideal S2x1x2048 .f32} {D : FVec Ideal S2x2x1x1024 .f32}
    (h : Cert.Route.Apart (scores (F := Ideal) src dst wq wk))
    (hD : D = Cert.Chunk.stateArr K Q G) (hK : K = proj (F := Ideal) dst wk) (hQ : Q = proj (F := Ideal) src wq)
    (hG : G = Cert.Route.gateRows state) :
    shapeCast S2x2048 D shapeCasts_S2x2x1x1024_S2x2048 = stateDelta (F := Ideal) (scores (F := Ideal) src dst wq wk) state := by
  subst hD hK hQ hG
  exact Cert.Route.state_eq src dst wq wk state h

/-- A routing call's values. -/
theorem pass_val {src dst : FVec Ideal S2x2048x768 .f32} {wq wk : FVec Ideal S768x64 .f32} {state : FVec Ideal S2x2048 .f32}
    {K Q : FVec Ideal S2x2048x64 .f32} {G : FVec Ideal S2x1x2048 .f32} {E D : FVec Ideal S2x2048x768 .f32}
    (h : Cert.Route.Apart (scores (F := Ideal) src dst wq wk))
    (hE : E = Cert.Chunk.valArr K Q G D) (hK : K = proj (F := Ideal) dst wk) (hQ : Q = proj (F := Ideal) src wq)
    (hG : G = Cert.Route.gateRows state) (hD : D = directions (F := Ideal) src) :
    E = valDelta (F := Ideal) (scores (F := Ideal) src dst wq wk) state src := by
  subst hE hK hQ hG hD
  exact Cert.Route.val_eq src dst wq wk state h

/-- A preparing call's gates in rows. -/
theorem pass_gates {state : FVec Ideal S2x2048 .f32} {S D : FVec Ideal S2x2x1x1024 .f32} {G : FVec Ideal S2x1x2048 .f32}
    (hG : G = shapeCast S2x1x2048 D shapeCasts_S2x2x1x1024_S2x1x2048) (hD : D = Cert.Prep.gateArr S)
    (hS : S = shapeCast S2x2x1x1024 state shapeCasts_S2x2048_S2x2x1x1024) : G = Cert.Route.gateRows state := by
  subst hG hD hS
  rfl

/-! ### The first call -/

/-- The first call leaves its row of the initial state. -/
theorem w2_v1 : W2 m ρ c (Proc.devRef .tc main_v1)
    = Cert.State.stateRow (shapeCast S1x2048 (args m c).initState shapeCasts_S2048_S1x2048) :=
  (W2_arr m ρ c 1).trans ((Cert.State.arr0_1 (V1 m ρ) c).trans (congrArg Cert.State.stateRow (Cert.Host.row0 (W0 m ρ c))))

/-- That row is still there after the first pass. -/
theorem w10_v1 : W10 m ρ c (Proc.devRef .tc main_v1) = W2 m ρ c (Proc.devRef .tc main_v1) := by
  rw [W10_of m ρ c _ (by decide), W9_of m ρ c _ (by decide), W8_of m ρ c _ (by decide), W7_of m ρ c _ (by decide),
    W6_of m ρ c _ (by decide), W5_of m ρ c _ (by decide), W4_of m ρ c _ (by decide), W3_of m ρ c _ (by decide)]

/-! ### The first pass -/

/-- The normalized initial values are computed. -/
theorem w5_v21 : W5 m ρ c (Proc.devRef .tc main_v21) = kVal (args m c) :=
  (Cert.Host.norm1 (W2 m ρ c)).trans (ln_congr (congrArg (Cert.Layer.initVal (F := Ideal)) (W2_args m ρ c _ (by decide)))
    (W2_args m ρ c _ (by decide)) (W2_args m ρ c _ (by decide)))

/-- They are still there after the first pass. -/
theorem w10_v21 : W10 m ρ c (Proc.devRef .tc main_v21) = kVal (args m c) := by
  rw [W10_of m ρ c _ (by decide), W9_of m ρ c _ (by decide), W8_of m ρ c _ (by decide), W7_of m ρ c _ (by decide),
    W6_of m ρ c _ (by decide), w5_v21]

/-- The first pass' destination values are computed. -/
theorem w7_v39 : W7 m ρ c (Proc.devRef .tc main_v39) = dst1 (args m c) :=
  (Cert.Host.norm2 (W4 m ρ c)).trans (ln_congr (w5_v21 m ρ c) (W4_args m ρ c _ (by decide)) (W4_args m ρ c _ (by decide)))

/-- The first pass' source states, in blocks. -/
theorem w7_v40 : W7 m ρ c (Proc.devRef .tc main_v40)
    = shapeCast S2x2x1x1024 (args m c).bState shapeCasts_S2x2048_S2x2x1x1024 :=
  (Cert.Host.blocks1 (W6 m ρ c)).trans (congrArg (fun x => shapeCast S2x2x1x1024 x shapeCasts_S2x2048_S2x2x1x1024) (W6_args m ρ c main_arg0 (by decide)))

/-- The first routing call's queries. -/
theorem w9_queries : W9 m ρ c (Proc.devRef .tc main_v41_0) = proj (F := Ideal) (args m c).bVal (args m c).bkWq :=
  (W9_of m ρ c _ (by decide)).trans ((W8_arr m ρ c 5).trans ((Cert.Prep.arr1_5 (V7 m ρ) c).trans
    (proj_congr (W7_args m ρ c _ (by decide)) (W7_args m ρ c _ (by decide)))))

/-- The first routing call's keys. -/
theorem w9_keys : W9 m ρ c (Proc.devRef .tc main_v41_1) = proj (F := Ideal) (dst1 (args m c)) (args m c).bkWk :=
  (W9_of m ρ c _ (by decide)).trans ((W8_arr m ρ c 6).trans ((Cert.Prep.arr1_6 (V7 m ρ) c).trans
    (proj_congr (w7_v39 m ρ c) (W7_args m ρ c _ (by decide)))))

/-- The first routing call's directions. -/
theorem w9_directions : W9 m ρ c (Proc.devRef .tc main_v41_2) = directions (F := Ideal) (args m c).bVal :=
  (W9_of m ρ c _ (by decide)).trans ((W8_arr m ρ c 7).trans ((Cert.Prep.arr1_7 (V7 m ρ) c).trans
    (congrArg (directions (F := Ideal)) (W7_args m ρ c _ (by decide)))))

/-- The first routing call's gates. -/
theorem w9_gates : W9 m ρ c (Proc.devRef .tc main_v42) = Cert.Route.gateRows (args m c).bState :=
  pass_gates (Cert.Host.rows1 (W8 m ρ c)) ((W8_arr m ρ c 8).trans (Cert.Prep.arr1_8 (V7 m ρ) c)) (w7_v40 m ρ c)

variable (h0 : ∀ n, max ((args m c).initState (ix1 n)) (-(args m c).initState (ix1 n)) < ⊤)
  (h1 : Cert.Route.Apart (scores1 (args m c))) (h2 : Cert.Route.Apart (scores2 (args m c))) (h3 : Cert.Route.Apart (scores3 (args m c)))

section First
include h1

/-- The first routing call leaves what the pass adds to the values. -/
theorem w10_vals : W10 m ρ c (Proc.devRef .tc main_v43_1)
    = valDelta (F := Ideal) (scores1 (args m c)) (args m c).bState (args m c).bVal :=
  pass_val h1 ((W10_arr m ρ c 5).trans (Cert.Chunk.arr2_5 (V9 m ρ) c)) (w9_keys m ρ c) (w9_queries m ρ c) (w9_gates m ρ c) (w9_directions m ρ c)

/-- The second result, as soon as it is computed. -/
theorem w13_v65 : W13 m ρ c (Proc.devRef .tc main_v65) = routedVal (args m c) :=
  (Cert.Host.norm3 (W10 m ρ c)).trans (ln_congr (congrArg₂ addf (w10_v21 m ρ c) (w10_vals m ρ c h1))
    (W10_args m ρ c _ (by decide)) (W10_args m ρ c _ (by decide)))

/-- The second pass' values are computed. -/
theorem w15_v83 : W15 m ρ c (Proc.devRef .tc main_v83) = src2 (args m c) :=
  (Cert.Host.norm4 (W12 m ρ c)).trans (ln_congr (w13_v65 m ρ c h1) (W12_args m ρ c _ (by decide)) (W12_args m ρ c _ (by decide)))

/-- The second result is still there after the second pass. -/
theorem w18_v65 : W18 m ρ c (Proc.devRef .tc main_v65) = routedVal (args m c) := by
  rw [W18_of m ρ c _ (by decide), W17_of m ρ c _ (by decide), W16_of m ρ c _ (by decide), W15_of m ρ c _ (by decide),
    W14_of m ρ c _ (by decide), w13_v65 m ρ c h1]

include h0

omit h1 in
/-- The row in every batch is the signed softmax of the initial state. -/
theorem w10_row : broadcastInDim S2x2048 ![0, 1] bcast_S1x2048_S2x2048_0_1 (W10 m ρ c (Proc.devRef .tc main_v1))
    = signedSoftmax (F := Ideal) (Cert.Layer.initState (F := Ideal) (args m c).initState) := by
  have e : W10 m ρ c (Proc.devRef .tc main_v1) = _ := (w10_v1 m ρ c).trans (w2_v1 m ρ c)
  rw [e]
  exact Cert.State.row_eq (args m c).initState h0

omit h0 in
/-- The first routing call leaves what the pass adds to the states. -/
theorem w10_states : shapeCast S2x2048 (W10 m ρ c (Proc.devRef .tc main_v43_0)) shapeCasts_S2x2x1x1024_S2x2048
    = stateDelta (F := Ideal) (scores1 (args m c)) (args m c).bState :=
  pass_state h1 ((W10_arr m ρ c 4).trans (Cert.Chunk.arr2_4 (V9 m ρ) c)) (w9_keys m ρ c) (w9_queries m ρ c) (w9_gates m ρ c)

/-- The first result, as soon as it is computed. -/
theorem w11_v46 : W11 m ρ c (Proc.devRef .tc main_v46) = routedState (args m c) := by
  unfold routedState
  exact (Cert.Host.state1 (W10 m ρ c)).trans (congrArg₂ addf (w10_row m ρ c h0) (w10_states m ρ c h1))

/-- The first result is still there when it is put in blocks. -/
theorem w14_v46 : W14 m ρ c (Proc.devRef .tc main_v46) = routedState (args m c) := by
  rw [W14_of m ρ c _ (by decide), W13_of m ρ c _ (by decide), W12_of m ρ c _ (by decide), w11_v46 m ρ c h0 h1]

/-- The first result is still there after the second pass. -/
theorem w18_v46 : W18 m ρ c (Proc.devRef .tc main_v46) = routedState (args m c) := by
  rw [W18_of m ρ c _ (by decide), W17_of m ρ c _ (by decide), W16_of m ρ c _ (by decide), W15_of m ρ c _ (by decide),
    w14_v46 m ρ c h0 h1]

/-- The second pass' source states, in blocks. -/
theorem w15_v84 : W15 m ρ c (Proc.devRef .tc main_v84)
    = shapeCast S2x2x1x1024 (routedState (args m c)) shapeCasts_S2x2048_S2x2x1x1024 :=
  (Cert.Host.blocks2 (W14 m ρ c)).trans (congrArg (fun x => shapeCast S2x2x1x1024 x shapeCasts_S2x2048_S2x2x1x1024) (w14_v46 m ρ c h0 h1))

/-! ### The second pass -/

/-- The second routing call's gates. -/
theorem w17_gates : W17 m ρ c (Proc.devRef .tc main_v86) = Cert.Route.gateRows (routedState (args m c)) :=
  pass_gates (Cert.Host.rows2 (W16 m ρ c)) ((W16_arr m ρ c 8).trans (Cert.Prep.arr3_8 (V15 m ρ) c)) (w15_v84 m ρ c h0 h1)

omit h0

/-- The second routing call's queries. -/
theorem w17_queries : W17 m ρ c (Proc.devRef .tc main_v85_0) = proj (F := Ideal) (src2 (args m c)) (args m c).ppWq :=
  (W17_of m ρ c _ (by decide)).trans ((W16_arr m ρ c 5).trans ((Cert.Prep.arr3_5 (V15 m ρ) c).trans
    (proj_congr (w15_v83 m ρ c h1) (W15_args m ρ c _ (by decide)))))

/-- The second routing call's keys. -/
theorem w17_keys : W17 m ρ c (Proc.devRef .tc main_v85_1) = proj (F := Ideal) (src2 (args m c)) (args m c).ppWk :=
  (W17_of m ρ c _ (by decide)).trans ((W16_arr m ρ c 6).trans ((Cert.Prep.arr3_6 (V15 m ρ) c).trans
    (proj_congr (w15_v83 m ρ c h1) (W15_args m ρ c _ (by decide)))))

/-- The second routing call's directions. -/
theorem w17_directions : W17 m ρ c (Proc.devRef .tc main_v85_2) = directions (F := Ideal) (src2 (args m c)) :=
  (W17_of m ρ c _ (by decide)).trans ((W16_arr m ρ c 7).trans ((Cert.Prep.arr3_7 (V15 m ρ) c).trans
    (congrArg (directions (F := Ideal)) (w15_v83 m ρ c h1))))

end First

section Second
include h0 h1 h2

/-- The third result, as soon as it is computed. -/
theorem w19_v89 : W19 m ρ c (Proc.devRef .tc main_v89) = propState (args m c) :=
  (Cert.Host.state2 (W18 m ρ c)).trans (congrArg₂ addf (w18_v46 m ρ c h0 h1)
    (pass_state h2 ((W18_arr m ρ c 4).trans (Cert.Chunk.arr4_4 (V17 m ρ) c)) (w17_keys m ρ c h1) (w17_queries m ρ c h1) (w17_gates m ρ c h0 h1)))

/-- The second routing call leaves what the pass adds to the values. -/
theorem w18_vals : W18 m ρ c (Proc.devRef .tc main_v87_1)
    = valDelta (F := Ideal) (scores2 (args m c)) (routedState (args m c)) (src2 (args m c)) :=
  pass_val h2 ((W18_arr m ρ c 5).trans (Cert.Chunk.arr4_5 (V17 m ρ) c)) (w17_keys m ρ c h1) (w17_queries m ρ c h1) (w17_gates m ρ c h0 h1) (w17_directions m ρ c h1)

/-- The fourth result, as soon as it is computed. -/
theorem w21_v108 : W21 m ρ c (Proc.devRef .tc main_v108) = propVal (args m c) :=
  (Cert.Host.norm5 (W18 m ρ c)).trans (ln_congr (congrArg₂ addf (w18_v65 m ρ c h1) (w18_vals m ρ c h0 h1 h2))
    (W18_args m ρ c _ (by decide)) (W18_args m ρ c _ (by decide)))

/-! ### The third pass -/

/-- The third pass' source values are computed. -/
theorem w25_v126 : W25 m ρ c (Proc.devRef .tc main_v126) = src3 (args m c) := by
  rw [W25_of m ρ c _ (by decide), W24_of m ρ c _ (by decide)]
  exact (Cert.Host.norm6 (W20 m ρ c)).trans (ln_congr (w21_v108 m ρ c h0 h1 h2) (W20_args m ρ c _ (by decide)) (W20_args m ρ c _ (by decide)))

/-- The third result is still there when it is put in blocks. -/
theorem w24_v89 : W24 m ρ c (Proc.devRef .tc main_v89) = propState (args m c) := by
  rw [W24_of m ρ c _ (by decide), W23_of m ρ c _ (by decide), W22_of m ρ c _ (by decide), W21_of m ρ c _ (by decide),
    W20_of m ρ c _ (by decide), w19_v89 m ρ c h0 h1 h2]

/-- The third pass' source states, in blocks. -/
theorem w25_v145 : W25 m ρ c (Proc.devRef .tc main_v145)
    = shapeCast S2x2x1x1024 (propState (args m c)) shapeCasts_S2x2048_S2x2x1x1024 :=
  (Cert.Host.blocks3 (W24 m ρ c)).trans (congrArg (fun x => shapeCast S2x2x1x1024 x shapeCasts_S2x2048_S2x2x1x1024) (w24_v89 m ρ c h0 h1 h2))

/-- The third routing call's gates. -/
theorem w27_gates : W27 m ρ c (Proc.devRef .tc main_v147) = Cert.Route.gateRows (propState (args m c)) :=
  pass_gates (Cert.Host.rows3 (W26 m ρ c)) ((W26_arr m ρ c 8).trans (Cert.Prep.arr5_8 (V25 m ρ) c)) (w25_v145 m ρ c h0 h1 h2)

/-- The third routing call's queries. -/
theorem w27_queries : W27 m ρ c (Proc.devRef .tc main_v146_0) = proj (F := Ideal) (src3 (args m c)) (args m c).kbWq :=
  (W27_of m ρ c _ (by decide)).trans ((W26_arr m ρ c 5).trans ((Cert.Prep.arr5_5 (V25 m ρ) c).trans
    (proj_congr (w25_v126 m ρ c h0 h1 h2) (W25_args m ρ c _ (by decide)))))

/-- The third routing call's directions. -/
theorem w27_directions : W27 m ρ c (Proc.devRef .tc main_v146_2) = directions (F := Ideal) (src3 (args m c)) :=
  (W27_of m ρ c _ (by decide)).trans ((W26_arr m ρ c 7).trans ((Cert.Prep.arr5_7 (V25 m ρ) c).trans
    (congrArg (directions (F := Ideal)) (w25_v126 m ρ c h0 h1 h2))))

omit h0 h1 h2

/-- The third pass' destination values are computed. -/
theorem w25_v144 : W25 m ρ c (Proc.devRef .tc main_v144) = dst3 (args m c) :=
  (Cert.Host.norm7 (W22 m ρ c)).trans (ln_congr (W22_args m ρ c _ (by decide)) (W22_args m ρ c _ (by decide)) (W22_args m ρ c _ (by decide)))

/-- The third routing call's keys. -/
theorem w27_keys : W27 m ρ c (Proc.devRef .tc main_v146_1) = proj (F := Ideal) (dst3 (args m c)) (args m c).kbWk :=
  (W27_of m ρ c _ (by decide)).trans ((W26_arr m ρ c 6).trans ((Cert.Prep.arr5_6 (V25 m ρ) c).trans
    (proj_congr (w25_v144 m ρ c) (W25_args m ρ c _ (by decide)))))

end Second

/-! ### The six results at the end -/

include h0 h1

/-- The first result at the end of the run. -/
theorem result0 : W29 m ρ c (Proc.devRef .tc main_v46) = routedState (args m c) := by
  rw [W29_of m ρ c _ (by decide), W28_of m ρ c _ (by decide), W27_of m ρ c _ (by decide), W26_of m ρ c _ (by decide),
    W25_of m ρ c _ (by decide), W24_of m ρ c _ (by decide), W23_of m ρ c _ (by decide), W22_of m ρ c _ (by decide),
    W21_of m ρ c _ (by decide), W20_of m ρ c _ (by decide), W19_of m ρ c _ (by decide), w18_v46 m ρ c h0 h1]

omit h0 in
/-- The second result at the end of the run. -/
theorem result1 : W29 m ρ c (Proc.devRef .tc main_v65) = routedVal (args m c) := by
  rw [W29_of m ρ c _ (by decide), W28_of m ρ c _ (by decide), W27_of m ρ c _ (by decide), W26_of m ρ c _ (by decide),
    W25_of m ρ c _ (by decide), W24_of m ρ c _ (by decide), W23_of m ρ c _ (by decide), W22_of m ρ c _ (by decide),
    W21_of m ρ c _ (by decide), W20_of m ρ c _ (by decide), W19_of m ρ c _ (by decide), w18_v65 m ρ c h1]

include h2

/-- The third result at the end of the run. -/
theorem result2 : W29 m ρ c (Proc.devRef .tc main_v89) = propState (args m c) := by
  rw [W29_of m ρ c _ (by decide), W28_of m ρ c _ (by decide), W27_of m ρ c _ (by decide), W26_of m ρ c _ (by decide),
    W25_of m ρ c _ (by decide), w24_v89 m ρ c h0 h1 h2]

/-- The fourth result at the end of the run. -/
theorem result3 : W29 m ρ c (Proc.devRef .tc main_v108) = propVal (args m c) := by
  rw [W29_of m ρ c _ (by decide), W28_of m ρ c _ (by decide), W27_of m ρ c _ (by decide), W26_of m ρ c _ (by decide),
    W25_of m ρ c _ (by decide), W24_of m ρ c _ (by decide), W23_of m ρ c _ (by decide), W22_of m ρ c _ (by decide),
    w21_v108 m ρ c h0 h1 h2]

include h3

/-- The fifth result at the end of the run. -/
theorem result4 : W29 m ρ c (Proc.devRef .tc main_v149) = backState (args m c) :=
  (Cert.Host.state3 (W28 m ρ c)).trans
    (pass_state h3 ((W28_arr m ρ c 4).trans (Cert.Chunk.arr6_4 (V27 m ρ) c)) (w27_keys m ρ c) (w27_queries m ρ c h0 h1 h2) (w27_gates m ρ c h0 h1 h2))

/-- The sixth result at the end of the run. -/
theorem result5 : W29 m ρ c (Proc.devRef .tc main_v148_1) = backVal (args m c) :=
  (W29_of m ρ c _ (by decide)).trans
    (pass_val h3 ((W28_arr m ρ c 5).trans (Cert.Chunk.arr6_5 (V27 m ρ) c)) (w27_keys m ρ c) (w27_queries m ρ c h0 h1 h2) (w27_gates m ρ c h0 h1 h2) (w27_directions m ρ c h0 h1 h2))

end Cert.KernelIdeal.Results

end
-- ==== Proof.PreRead.lean ====
/- The precondition decoded. -/
module

public import proofs.«01_k».proof.Defs
public import proofs.«01_k».proof.Proof.Layer

@[expose] public section

noncomputable section

namespace Cert.Layer

open Cert.ReferenceIdeal Cert.ReferenceIdeal.Gen Idealize.ShloMosaic Idealize.ShloMosaic.TcCoe Idealize.SL.Sem

/-- The side conditions the precondition states. -/
theorem preFacts : Cert.Pre_no_ties.Facts where
  bcast_S2048_S1x2048_1 := by decide
  bcast_S1x2048_S2x2048_0_1 := by decide
  reducesTo_S2x2048_S2_d1 := by decide
  h_S_ := by decide
  bcast_S_S2 := by decide
  bcast_S2_S2x1_0 := by decide
  bcast_S2x1_S2x2048_0_1 := by decide
  bcast_S2048x768_S1x2048x768_1_2 := by decide
  bcast_S1x2048x768_S2x2048x768_0_1_2 := by decide
  reducesTo_S2x2048x768_S2x2048_d2 := by decide
  bcast_S2x2048_S2x2048x1_0_1 := by decide
  bcast_S_S2x2048x1 := by decide
  bcast_S2x2048x1_S2x2048x768_0_1_2 := by decide
  bcast_S768_S1x1x768_2 := by decide
  bcast_S1x1x768_S2x2048x768_0_1_2 := by decide
  bcast_S_S2x2048x2048 := by decide
  sliceFits_S2x2048x2048_S2x2048x16 := by decide
  bcast_S_S2x2048x16 := by decide
  shapeCasts_S2x2048x16_S2x2048x16x1 := by decide
  bcast_S_S2x2048x16x1 := by decide
  bcast_S1_S1x1x1x1_3 := by decide
  bcast_S1x1x1x1_S2x2048x16x1_0_1_2_3 := by decide
  reducesTo_S2x2048x16x1_S2x2048x16_d3 := by decide
  reducesTo_S2x2048x16_S2x2048_d2 := by decide
  bcast_S_S2x2048 := by decide
  bcast_S2x2048x1_S2x2048x16_0_1_2 := by decide
  bcast_S2x2048_S2x1x2048_0_2 := by decide
  bcast_S2x1x2048_S2x2048x2048_0_1_2 := by decide
  bcast_S2x2048x16_S2x2048x16x1_0_1_2 := by decide
  sliceFits_S2x2048x2048_S2x2048x17 := by decide
  slices_S2x2048x17_S2x2048x16_0_0_0 := by decide
  slices_S2x2048x17_S2x2048x16_0_0_1 := by decide
  bcast_S_S2048 := by decide
  dot_S2x2048x768_S768x64_S2x2048x64_2_0_01_1_n_n_wf := by decide
  dot_S2x2048x64_S2x2048x64_S2x2048x2048_2_2_1_1_0_0_wf := by decide
  gather_S2x2048x2048_S2x2048x16x1_S2x2048x16_n_2_01_01_2_3_111_wf := by decide
  gather_S2x2048x768_S2x2048x16x1_S2x2048x16x768_3_1_0_0_1_3_11768_wf := by decide
  dot_S2x2048x16_S2x2048x16x768_S2x2048x768_2_2_n_3_01_01_wf := by decide

variable {F : FTy → Type} [FloatOps F]

attribute [local instance] preFacts

/-- The seventeen greatest magnitudes of every destination's scores. -/
def top17 (s : FVec F S2x2048x2048 .f32) : FVec F Cert.Pre_no_ties.S2x2048x17 .f32 :=
  (Host.topK Cert.Pre_no_ties.S2x2048x17 2 (FloatOps.cmpfTotal .gt) (Host.absf s)
    Cert.Pre_no_ties.Facts.sliceFits_S2x2048x2048_S2x2048x17).1

/-- Each of the first sixteen greater than the next, and finite. -/
def distinctTop (s : FVec F S2x2048x2048 .f32) : IVec S2x2048x16 1 :=
  andi (cmpf .ogt (extractStridedSlice S2x2048x16 ![0, 0, 0] (top17 s) Cert.Pre_no_ties.Facts.slices_S2x2048x17_S2x2048x16_0_0_0)
      (extractStridedSlice S2x2048x16 ![0, 0, 1] (top17 s) Cert.Pre_no_ties.Facts.slices_S2x2048x17_S2x2048x16_0_0_1))
    (cmpf .olt (extractStridedSlice S2x2048x16 ![0, 0, 0] (top17 s) Cert.Pre_no_ties.Facts.slices_S2x2048x17_S2x2048x16_0_0_0)
      (broadcastInDim S2x2048x16 ![] bcast_S_S2x2048x16 (constant S_ .f32 0x7F800000#32)))

/-- The initial state finite. -/
def finiteState (s : FVec F S2048 .f32) : IVec S2048 1 :=
  cmpf .olt (Host.absf s) (broadcastInDim S2048 ![] Cert.Pre_no_ties.Facts.bcast_S_S2048 (constant S_ .f32 0x7F800000#32))

/-- The precondition is the four conditions named above, of the three passes' scores and the initial state. -/
theorem fn_eq (a : Args F) :
    Cert.Pre_no_ties.fn (F := F) a.bState a.bVal a.initState a.initVal a.bkWq a.bkWk a.kbWq a.kbWk a.ppWq a.ppWk a.kvG a.kvB
        a.brG a.brB a.pnG a.pnB
      = (distinctTop (scores1 a), distinctTop (scores2 a), distinctTop (scores3 a), finiteState a.initState) := by
  rfl

end Cert.Layer

end
-- ==== Proof.PreDecode.lean ====
/- What the precondition says at `Ideal`: the scores' greatest magnitudes told apart, the initial state finite. -/
module

public import proofs.«01_k».proof.Proof.PreRead
public import proofs.«01_k».proof.Proof.RouteEq
public import Idealize.ShloMosaic.Lib.Pointwise

@[expose] public section

set_option maxRecDepth 16384

noncomputable section

namespace Cert.Layer

open Cert.ReferenceIdeal Cert.ReferenceIdeal.Gen Idealize.ShloMosaic Idealize.ShloMosaic.TcCoe

attribute [local instance] preFacts

/-- The word of infinity. -/
theorem word_top : Ideal.ofBits .f32 0x7F800000#32 = ⊤ := by
  simp [Ideal.ofBits, Ideal.ieee]

/-- A comparison that is one holds. -/
theorem of_decide {p : Prop} [Decidable p] (h : BitVec.ofBool (decide p) = 1#1) : p := by
  by_contra hp
  simp [hp] at h

/-- A conjunction of two comparisons that is one holds of both. -/
theorem of_and {x y : BitVec 1} (h : x &&& y = 1#1) : x = 1#1 ∧ y = 1#1 := by
  revert x y; decide

variable (s : FVec Ideal S2x2048x2048 .f32)

/-- The greatest magnitudes read at a rank. -/
theorem top17_apply (b : Fin 2) (j : Fin 2048) (k : Fin 17) :
    top17 s (ix3 b j k) = mags s b j (Cert.Top.order (mags s b j) (k.castLE (by decide))) := by
  have e : ∀ n, Host.absf s (ix3 b j n) = mags s b j n := fun n => by
    simp [Host.absf, Ideal.absf_def, mags]
  refine (topK_value (Host.absf s) _ b j k).trans ?_
  simp only [e]
  done

/-- The precondition of a pass. -/
theorem apart_of (h : distinctTop s = fun _ => 1#1) : Cert.Route.Apart s := by
  have key : ∀ b j (k : Fin 16), top17 s (ix3 b j k.succ) < top17 s (ix3 b j k.castSucc)
      ∧ top17 s (ix3 b j k.castSucc) < ⊤ := by
    intro b j k
    have e := congrFun h (ix3 b j k)
    have e1 : extractStridedSlice S2x2048x16 ![0, 0, 0] (top17 s) Cert.Pre_no_ties.Facts.slices_S2x2048x17_S2x2048x16_0_0_0 (ix3 b j k)
        = top17 s (ix3 b j k.castSucc) := by
      pointwise []
      rfl
    have e2 : extractStridedSlice S2x2048x16 ![0, 0, 1] (top17 s) Cert.Pre_no_ties.Facts.slices_S2x2048x17_S2x2048x16_0_0_1 (ix3 b j k)
        = top17 s (ix3 b j k.succ) := by
      pointwise []
      exact congrArg (fun q => top17 s (ix3 b j q)) (Fin.ext (Nat.add_comm 1 k.val))
    obtain ⟨h1, h2⟩ := of_and e
    have h1' := of_decide h1
    have h2' := of_decide h2
    rw [e1, e2] at h1'
    rw [e1] at h2'
    exact ⟨h1', h2'.trans_eq word_top⟩
  constructor
  · intro b j k
    have := (key b j k).1
    rw [top17_apply, top17_apply] at this
    exact this
  · intro b j k
    have := (key b j k).2
    rw [top17_apply] at this
    exact this

/-- The precondition of the initial state. -/
theorem finite_of (x : FVec Ideal S2048 .f32) (h : finiteState x = fun _ => 1#1) (n : Fin 2048) :
    max (x (ix1 n)) (-x (ix1 n)) < ⊤ := by
  have e := of_decide (congrFun h (ix1 n))
  have e1 : Host.absf x (ix1 n) = max (x (ix1 n)) (-x (ix1 n)) := by
    simp [Host.absf, Ideal.absf_def]
  rw [e1] at e
  exact e.trans_eq word_top

end Cert.Layer

end
-- ==== Proof.Algebraic.lean ====
/- The value claim: the kernel and the reference, run from equal arguments under the precondition, end with equal results. -/
module

public import proofs.«01_k».proof.Defs
public import proofs.«01_k».proof.Proof.RefRun
public import proofs.«01_k».proof.Proof.KernelRun
public import proofs.«01_k».proof.Proof.KernelValue
public import proofs.«01_k».proof.Proof.PreDecode
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem
open Cert.Layer

attribute [local instance] Cert.Layer.preFacts

/-- The reference's arguments are the kernel's. -/
theorem args_agree (m : (ℓ : Loc Cert.KernelIdeal.nD Cert.KernelIdeal.τ Cert.KernelIdeal.sig) → Buf (Elt Ideal) ℓ)
    (a : Args Ideal) (c : Dev Cert.KernelIdeal.nD)
    (h : a.bState = (Cert.KernelIdeal.Results.args m c).bState ∧ a.bVal = (Cert.KernelIdeal.Results.args m c).bVal
      ∧ a.initState = (Cert.KernelIdeal.Results.args m c).initState ∧ a.initVal = (Cert.KernelIdeal.Results.args m c).initVal
      ∧ a.bkWq = (Cert.KernelIdeal.Results.args m c).bkWq ∧ a.bkWk = (Cert.KernelIdeal.Results.args m c).bkWk
      ∧ a.kbWq = (Cert.KernelIdeal.Results.args m c).kbWq ∧ a.kbWk = (Cert.KernelIdeal.Results.args m c).kbWk
      ∧ a.ppWq = (Cert.KernelIdeal.Results.args m c).ppWq ∧ a.ppWk = (Cert.KernelIdeal.Results.args m c).ppWk
      ∧ a.kvG = (Cert.KernelIdeal.Results.args m c).kvG ∧ a.kvB = (Cert.KernelIdeal.Results.args m c).kvB
      ∧ a.brG = (Cert.KernelIdeal.Results.args m c).brG ∧ a.brB = (Cert.KernelIdeal.Results.args m c).brB
      ∧ a.pnG = (Cert.KernelIdeal.Results.args m c).pnG ∧ a.pnB = (Cert.KernelIdeal.Results.args m c).pnB) :
    a = Cert.KernelIdeal.Results.args m c := by
  generalize Cert.KernelIdeal.Results.args m c = b at h
  cases a
  cases b
  rw [Args.mk.injEq]
  exact h

/-- The value claim. -/
theorem algebraic : Cert.algebraic_KernelIdeal_ReferenceIdeal_pre_no_ties
    (hKernelIdeal := Cert.KernelIdeal.Gen.facts) (hReferenceIdeal := Cert.ReferenceIdeal.Gen.facts) (hPre_no_ties := preFacts) := by
  intro m g m' g' hpre hagree
  have hfn : ∀ c, distinctTop (scores1 (Cert.KernelIdeal.Results.args m c)) = (fun _ => 1#1)
      ∧ distinctTop (scores2 (Cert.KernelIdeal.Results.args m c)) = (fun _ => 1#1)
      ∧ distinctTop (scores3 (Cert.KernelIdeal.Results.args m c)) = (fun _ => 1#1)
      ∧ finiteState (Cert.KernelIdeal.Results.args m c).initState = (fun _ => 1#1) := by
    intro c
    have h := hpre c
    have e := fn_eq (Cert.KernelIdeal.Results.args m c)
    exact ⟨(congrArg (fun p => p.1) e).symm.trans h.1, (congrArg (fun p => p.2.1) e).symm.trans h.2.1,
      (congrArg (fun p => p.2.2.1) e).symm.trans h.2.2.1, (congrArg (fun p => p.2.2.2) e).symm.trans h.2.2.2⟩
  have h0 := fun c => finite_of _ (hfn c).2.2.2
  have h1 := fun c => apart_of _ (hfn c).1
  have h2 := fun c => apart_of _ (hfn c).2.1
  have h3 := fun c => apart_of _ (hfn c).2.2.1
  refine ⟨fun c => routedState (Cert.KernelIdeal.Results.args m c), fun c => routedVal (Cert.KernelIdeal.Results.args m c),
    fun c => propState (Cert.KernelIdeal.Results.args m c), fun c => propVal (Cert.KernelIdeal.Results.args m c),
    fun c => backState (Cert.KernelIdeal.Results.args m c), fun c => backVal (Cert.KernelIdeal.Results.args m c), ?_, ?_⟩
  · refine (θ_run Cert.KernelIdeal.defs _ _).mono (fun _ h c => ?_) (Cert.KernelIdeal.Gen.run_results (F := Ideal) m g)
    obtain ⟨⟨r0, r1, r2, r3, r4, r5⟩, ha⟩ := h c
    exact ⟨r0.trans (Cert.KernelIdeal.Results.result0 m g c (h0 c) (h1 c)), r1.trans (Cert.KernelIdeal.Results.result1 m g c (h1 c)),
      r2.trans (Cert.KernelIdeal.Results.result2 m g c (h0 c) (h1 c) (h2 c)), r3.trans (Cert.KernelIdeal.Results.result3 m g c (h0 c) (h1 c) (h2 c)),
      r4.trans (Cert.KernelIdeal.Results.result4 m g c (h0 c) (h1 c) (h2 c) (h3 c)),
      r5.trans (Cert.KernelIdeal.Results.result5 m g c (h0 c) (h1 c) (h2 c) (h3 c)), ha⟩
  · refine (θ_run Cert.ReferenceIdeal.defs _ _).mono (fun _ h c => ?_) (reference_run (F := Ideal) m' g')
    obtain ⟨⟨r0, r1, r2, r3, r4, r5⟩, ha⟩ := h c
    have e : argsOf (launchContents m' c) = Cert.KernelIdeal.Results.args m c := args_agree m _ c (hagree c)
    rw [e] at r0 r1 r2 r3 r4 r5
    exact ⟨r0, r1, r2, r3, r4, r5, ha⟩

end Cert.Proof

end
-- ==== Proof.lean ====
/- The proof of the claims: both kernel programs and the reference run and leave their arguments and their semaphores as they
   found them, the idealization's sign sites are preserved, and under the precondition the kernel's six results are the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The reference runs and leaves its arguments unchanged; it has no semaphore. -/
theorem reference_quiescent : Cert.quiescent_ReferenceIdeal (hReferenceIdeal := Cert.ReferenceIdeal.Gen.facts) := by
  intro m g _
  refine (θ_run Cert.ReferenceIdeal.defs _ _).mono (fun r h => ⟨fun c => (h c).2, ?_⟩) (Cert.Layer.reference_run (F := Ideal) m g)
  exact sem_eq_zero_of_no_sems (by decide) r.2

/-- Every claim of the certificate. -/
theorem claim : Cert.Claim :=
  ⟨Cert.Kernel.Gen.facts, Cert.KernelIdeal.Gen.facts, Cert.ReferenceIdeal.Gen.facts, Cert.Layer.preFacts,
    fun m g _ => Cert.Kernel.Gen.frame m g,
    fun m g _ => Cert.KernelIdeal.Gen.frame m g,
    fun m g _ => Cert.KernelIdeal.Gen.frame m g,
    reference_quiescent,
    fun m g _ => reference_quiescent m g trivial,
    ⟨IdealRules.sign_bit.statement _ _, IdealRules.sign_bit.statement _ _⟩,
    algebraic⟩

end Cert.Proof

end
